-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S96x2048x12x64 : Shape := ⟨4, ![96, 2048, 12, 64]⟩
abbrev S96x2048x12 : Shape := ⟨3, ![96, 2048, 12]⟩
abbrev S96x12x64x64 : Shape := ⟨4, ![96, 12, 64, 64]⟩
abbrev S_ : Shape := ⟨0, ![]⟩

class Facts : Prop where
  natLt_8_32 : 8 < 32
  bcast_S_S96x2048x12x64 : S_.BroadcastsInDim S96x2048x12x64 (![] : Fin 0 → Fin S96x2048x12x64.rank)
  bcast_S_S96x2048x12 : S_.BroadcastsInDim S96x2048x12 (![] : Fin 0 → Fin S96x2048x12.rank)
  bcast_S_S96x12x64x64 : S_.BroadcastsInDim S96x12x64x64 (![] : Fin 0 → Fin S96x12x64x64.rank)

variable [Facts]

def fn_part1 {F : FTy → Type} [FloatOps F] (main_arg4 : FVec F S96x2048x12 .f32) (main_arg5 : FVec F S96x2048x12 .f32) (main_arg6 : FVec F S96x2048x12x64 .bf16) (main_arg7 : FVec F S96x2048x12x64 .bf16) (main_arg8 : FVec F S96x2048x12x64 .bf16) (main_arg9 : FVec F S96x12x64x64 .f32) (main_v4 : IVec S96x2048x12x64 1) (main_v9 : IVec S96x2048x12x64 1) (main_v14 : IVec S96x2048x12x64 1) (main_v15 : FVec F S96x2048x12 .f32) (main_v16 : FVec F S96x2048x12 .f32) : IVec S96x2048x12x64 1 × IVec S96x2048x12x64 1 × IVec S96x2048x12x64 1 × IVec S96x2048x12 1 × IVec S96x2048x12 1 × IVec S96x2048x12 1 × IVec S96x2048x12x64 1 × IVec S96x2048x12x64 1 × IVec S96x12x64x64 1 × IVec S96x2048x12x64 1 :=
  let main_v17 : IVec S96x2048x12 1 := cmpf .olt main_v15 main_v16
  let main_v18 : FVec F S96x2048x12 .f32 := Host.absf main_arg4
  let main_cst_5 : FVec F S_ .f32 := constant S_ .f32 0x7F800000#32
  let main_v19 : FVec F S96x2048x12 .f32 := broadcastInDim S96x2048x12 ![] bcast_S_S96x2048x12 main_cst_5
  let main_v20 : IVec S96x2048x12 1 := cmpf .olt main_v18 main_v19
  let main_v21 : FVec F S96x2048x12 .f32 := Host.absf main_arg5
  let main_cst_6 : FVec F S_ .f32 := constant S_ .f32 0x7F800000#32
  let main_v22 : FVec F S96x2048x12 .f32 := broadcastInDim S96x2048x12 ![] bcast_S_S96x2048x12 main_cst_6
  let main_v23 : IVec S96x2048x12 1 := cmpf .olt main_v21 main_v22
  let main_v24 : FVec F S96x2048x12x64 .bf16 := Host.absf main_arg7
  let main_cst_7 : FVec F S_ .bf16 := constant S_ .bf16 0x7F80#16
  let main_v25 : FVec F S96x2048x12x64 .bf16 := broadcastInDim S96x2048x12x64 ![] bcast_S_S96x2048x12x64 main_cst_7
  let main_v26 : IVec S96x2048x12x64 1 := cmpf .olt main_v24 main_v25
  let main_v27 : FVec F S96x2048x12x64 .bf16 := Host.absf main_arg8
  let main_cst_8 : FVec F S_ .bf16 := constant S_ .bf16 0x7F80#16
  let main_v28 : FVec F S96x2048x12x64 .bf16 := broadcastInDim S96x2048x12x64 ![] bcast_S_S96x2048x12x64 main_cst_8
  let main_v29 : IVec S96x2048x12x64 1 := cmpf .olt main_v27 main_v28
  let main_v30 : FVec F S96x12x64x64 .f32 := Host.absf main_arg9
  let main_cst_9 : FVec F S_ .f32 := constant S_ .f32 0x7F800000#32
  let main_v31 : FVec F S96x12x64x64 .f32 := broadcastInDim S96x12x64x64 ![] bcast_S_S96x12x64x64 main_cst_9
  let main_v32 : IVec S96x12x64x64 1 := cmpf .olt main_v30 main_v31
  let main_cst_10 : FVec F S_ .bf16 := constant S_ .bf16 0x7F80#16
  let main_v33 : FVec F S96x2048x12x64 .bf16 := broadcastInDim S96x2048x12x64 ![] bcast_S_S96x2048x12x64 main_cst_10
  let main_v34 : IVec S96x2048x12x64 1 := cmpf .olt main_arg6 main_v33
  (main_v4, main_v9, main_v14, main_v17, main_v20, main_v23, main_v26, main_v29, main_v32, main_v34)

def fn {F : FTy → Type} [FloatOps F] (main_arg0 : IVec S96x2048x12x64 8) (main_arg1 : IVec S96x2048x12x64 8) (main_arg2 : IVec S96x2048x12x64 8) (main_arg3 : FVec F S96x2048x12 .f32) (main_arg4 : FVec F S96x2048x12 .f32) (main_arg5 : FVec F S96x2048x12 .f32) (main_arg6 : FVec F S96x2048x12x64 .bf16) (main_arg7 : FVec F S96x2048x12x64 .bf16) (main_arg8 : FVec F S96x2048x12x64 .bf16) (main_arg9 : FVec F S96x12x64x64 .f32) : IVec S96x2048x12x64 1 × IVec S96x2048x12x64 1 × IVec S96x2048x12x64 1 × IVec S96x2048x12 1 × IVec S96x2048x12 1 × IVec S96x2048x12 1 × IVec S96x2048x12x64 1 × IVec S96x2048x12x64 1 × IVec S96x12x64x64 1 × IVec S96x2048x12x64 1 :=
  let main_v0 : IVec S96x2048x12x64 32 := (extui 32 · natLt_8_32) main_arg0
  let main_c : IVec S_ 32 := constantI S_ 32 127#32
  let main_v1 : IVec S96x2048x12x64 32 := broadcastInDim S96x2048x12x64 ![] bcast_S_S96x2048x12x64 main_c
  let main_v2 : IVec S96x2048x12x64 32 := andi main_v0 main_v1
  let main_c_0 : IVec S_ 32 := constantI S_ 32 127#32
  let main_v3 : IVec S96x2048x12x64 32 := broadcastInDim S96x2048x12x64 ![] bcast_S_S96x2048x12x64 main_c_0
  let main_v4 : IVec S96x2048x12x64 1 := cmpi .slt main_v2 main_v3
  let main_v5 : IVec S96x2048x12x64 32 := (extui 32 · natLt_8_32) main_arg1
  let main_c_1 : IVec S_ 32 := constantI S_ 32 127#32
  let main_v6 : IVec S96x2048x12x64 32 := broadcastInDim S96x2048x12x64 ![] bcast_S_S96x2048x12x64 main_c_1
  let main_v7 : IVec S96x2048x12x64 32 := andi main_v5 main_v6
  let main_c_2 : IVec S_ 32 := constantI S_ 32 127#32
  let main_v8 : IVec S96x2048x12x64 32 := broadcastInDim S96x2048x12x64 ![] bcast_S_S96x2048x12x64 main_c_2
  let main_v9 : IVec S96x2048x12x64 1 := cmpi .slt main_v7 main_v8
  let main_v10 : IVec S96x2048x12x64 32 := (extui 32 · natLt_8_32) main_arg2
  let main_c_3 : IVec S_ 32 := constantI S_ 32 127#32
  let main_v11 : IVec S96x2048x12x64 32 := broadcastInDim S96x2048x12x64 ![] bcast_S_S96x2048x12x64 main_c_3
  let main_v12 : IVec S96x2048x12x64 32 := andi main_v10 main_v11
  let main_c_4 : IVec S_ 32 := constantI S_ 32 127#32
  let main_v13 : IVec S96x2048x12x64 32 := broadcastInDim S96x2048x12x64 ![] bcast_S_S96x2048x12x64 main_c_4
  let main_v14 : IVec S96x2048x12x64 1 := cmpi .slt main_v12 main_v13
  let main_v15 : FVec F S96x2048x12 .f32 := Host.absf main_arg3
  let main_cst : FVec F S_ .f32 := constant S_ .f32 0x7F800000#32
  let main_v16 : FVec F S96x2048x12 .f32 := broadcastInDim S96x2048x12 ![] bcast_S_S96x2048x12 main_cst
  fn_part1 (F := F) main_arg4 main_arg5 main_arg6 main_arg7 main_arg8 main_arg9 main_v4 main_v9 main_v14 main_v15 main_v16
-- ==== Kernel.lean ====
abbrev S96x2048x12x64 : Shape := ⟨4, ![96, 2048, 12, 64]⟩
abbrev S96x2048x12 : Shape := ⟨3, ![96, 2048, 12]⟩
abbrev S96x12x64x64 : Shape := ⟨4, ![96, 12, 64, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S384x128 : Shape := ⟨2, ![384, 128]⟩
abbrev S96x64x12x64 : Shape := ⟨4, ![96, 64, 12, 64]⟩
abbrev S96x64x768 : Shape := ⟨3, ![96, 64, 768]⟩
abbrev S96x12x64x2048 : Shape := ⟨4, ![96, 12, 64, 2048]⟩
abbrev S96x768x2048 : Shape := ⟨3, ![96, 768, 2048]⟩
abbrev S12x96x2048 : Shape := ⟨3, ![12, 96, 2048]⟩
abbrev S8x256x128 : Shape := ⟨3, ![8, 256, 128]⟩
abbrev S4x8x128 : Shape := ⟨3, ![4, 8, 128]⟩
abbrev S8x64x256 : Shape := ⟨3, ![8, 64, 256]⟩
abbrev S1x128x128 : Shape := ⟨3, ![1, 128, 128]⟩
abbrev S128x384 : Shape := ⟨2, ![128, 384]⟩
abbrev S1x1x128 : Shape := ⟨3, ![1, 1, 128]⟩
abbrev S1x64x128 : Shape := ⟨3, ![1, 64, 128]⟩
abbrev S64x128 : Shape := ⟨2, ![64, 128]⟩
abbrev S64x256 : Shape := ⟨2, ![64, 256]⟩
abbrev S128x256 : Shape := ⟨2, ![128, 256]⟩
abbrev S128x768 : Shape := ⟨2, ![128, 768]⟩
abbrev S768x256 : Shape := ⟨2, ![768, 256]⟩
abbrev S32x128 : Shape := ⟨2, ![32, 128]⟩
abbrev S8x128 : Shape := ⟨2, ![8, 128]⟩
abbrev S8x128x1 : Shape := ⟨3, ![8, 128, 1]⟩
abbrev S32x768 : Shape := ⟨2, ![32, 768]⟩
abbrev S768x128 : Shape := ⟨2, ![768, 128]⟩
abbrev S64x768 : Shape := ⟨2, ![64, 768]⟩
abbrev S256x256 : Shape := ⟨2, ![256, 256]⟩

abbrev nBuf : Space → Nat
  | .hbm => 86
  | .vmem => 26
  | .smem => 0
  | _ => 0

abbrev bufTy : (tb : Table) → Fin (tcTables nBuf tb) → BufTy
  | .hbm, ⟨0, _⟩ => ⟨S96x2048x12x64, .i8⟩
  | .hbm, ⟨1, _⟩ => ⟨S96x2048x12x64, .i8⟩
  | .hbm, ⟨2, _⟩ => ⟨S96x2048x12x64, .i8⟩
  | .hbm, ⟨3, _⟩ => ⟨S96x2048x12, .f32⟩
  | .hbm, ⟨4, _⟩ => ⟨S96x2048x12, .f32⟩
  | .hbm, ⟨5, _⟩ => ⟨S96x2048x12, .f32⟩
  | .hbm, ⟨6, _⟩ => ⟨S96x2048x12x64, .bf16⟩
  | .hbm, ⟨7, _⟩ => ⟨S96x2048x12x64, .bf16⟩
  | .hbm, ⟨8, _⟩ => ⟨S96x2048x12x64, .bf16⟩
  | .hbm, ⟨9, _⟩ => ⟨S96x12x64x64, .f32⟩
  | .hbm, ⟨10, _⟩ => ⟨S96x2048x12x64, .fp8e4m3⟩
  | .hbm, ⟨11, _⟩ => ⟨S96x2048x12x64, .fp8e4m3⟩
  | .hbm, ⟨12, _⟩ => ⟨S96x2048x12x64, .fp8e4m3⟩
  | .hbm, ⟨13, _⟩ => ⟨S128, .i32⟩
  | .hbm, ⟨14, _⟩ => ⟨S128x1, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x1, .i32⟩
  | .hbm, ⟨20, _⟩ => ⟨S_, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i1⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S1x128, .i32⟩
  | .hbm, ⟨39, _⟩ => ⟨S_, .i32⟩
  | .hbm, ⟨40, _⟩ => ⟨S_, .i32⟩
  | .hbm, ⟨41, _⟩ => ⟨S1x128, .i32⟩
  | .hbm, ⟨42, _⟩ => ⟨S1x128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i1⟩
  | .hbm, ⟨52, _⟩ => ⟨S1x128, .i1⟩
  | .hbm, ⟨53, _⟩ => ⟨S_, .i32⟩
  | .hbm, ⟨54, _⟩ => ⟨S1x128, .i32⟩
  | .hbm, ⟨55, _⟩ => ⟨S1x128, .i32⟩
  | .hbm, ⟨56, _⟩ => ⟨S1x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .i1⟩
  | .hbm, ⟨61, _⟩ => ⟨S128x128, .bf16⟩
  | .hbm, ⟨62, _⟩ => ⟨S384x128, .bf16⟩
  | .hbm, ⟨63, _⟩ => ⟨S96x64x12x64, .f32⟩
  | .hbm, ⟨64, _⟩ => ⟨S96x64x768, .f32⟩
  | .hbm, ⟨65, _⟩ => ⟨S96x12x64x2048, .fp8e4m3⟩
  | .hbm, ⟨66, _⟩ => ⟨S96x768x2048, .fp8e4m3⟩
  | .hbm, ⟨67, _⟩ => ⟨S96x12x64x2048, .fp8e4m3⟩
  | .hbm, ⟨68, _⟩ => ⟨S96x768x2048, .fp8e4m3⟩
  | .hbm, ⟨69, _⟩ => ⟨S96x12x64x2048, .fp8e4m3⟩
  | .hbm, ⟨70, _⟩ => ⟨S96x768x2048, .fp8e4m3⟩
  | .hbm, ⟨71, _⟩ => ⟨S12x96x2048, .f32⟩
  | .hbm, ⟨72, _⟩ => ⟨S12x96x2048, .f32⟩
  | .hbm, ⟨73, _⟩ => ⟨S12x96x2048, .f32⟩
  | .hbm, ⟨74, _⟩ => ⟨S96x12x64x2048, .bf16⟩
  | .hbm, ⟨75, _⟩ => ⟨S96x768x2048, .bf16⟩
  | .hbm, ⟨76, _⟩ => ⟨S96x12x64x2048, .bf16⟩
  | .hbm, ⟨77, _⟩ => ⟨S96x768x2048, .bf16⟩
  | .hbm, ⟨78, _⟩ => ⟨S96x12x64x2048, .bf16⟩
  | .hbm, ⟨79, _⟩ => ⟨S96x768x2048, .bf16⟩
  | .hbm, ⟨80, _⟩ => ⟨S96x768x2048, .bf16⟩
  | .hbm, ⟨81, _⟩ => ⟨S96x64x768, .f32⟩
  | .hbm, ⟨82, _⟩ => ⟨S96x12x64x2048, .bf16⟩
  | .hbm, ⟨83, _⟩ => ⟨S96x2048x12x64, .bf16⟩
  | .hbm, ⟨84, _⟩ => ⟨S96x64x12x64, .f32⟩
  | .hbm, ⟨85, _⟩ => ⟨S96x12x64x64, .f32⟩
  | .local _ .vmem, ⟨0, _⟩ => ⟨S8x256x128, .fp8e4m3⟩
  | .local _ .vmem, ⟨1, _⟩ => ⟨S8x256x128, .fp8e4m3⟩
  | .local _ .vmem, ⟨2, _⟩ => ⟨S8x256x128, .fp8e4m3⟩
  | .local _ .vmem, ⟨3, _⟩ => ⟨S8x256x128, .fp8e4m3⟩
  | .local _ .vmem, ⟨4, _⟩ => ⟨S8x256x128, .fp8e4m3⟩
  | .local _ .vmem, ⟨5, _⟩ => ⟨S8x256x128, .fp8e4m3⟩
  | .local _ .vmem, ⟨6, _⟩ => ⟨S4x8x128, .f32⟩
  | .local _ .vmem, ⟨7, _⟩ => ⟨S4x8x128, .f32⟩
  | .local _ .vmem, ⟨8, _⟩ => ⟨S4x8x128, .f32⟩
  | .local _ .vmem, ⟨9, _⟩ => ⟨S4x8x128, .f32⟩
  | .local _ .vmem, ⟨10, _⟩ => ⟨S4x8x128, .f32⟩
  | .local _ .vmem, ⟨11, _⟩ => ⟨S4x8x128, .f32⟩
  | .local _ .vmem, ⟨12, _⟩ => ⟨S8x256x128, .bf16⟩
  | .local _ .vmem, ⟨13, _⟩ => ⟨S8x256x128, .bf16⟩
  | .local _ .vmem, ⟨14, _⟩ => ⟨S8x256x128, .bf16⟩
  | .local _ .vmem, ⟨15, _⟩ => ⟨S8x256x128, .bf16⟩
  | .local _ .vmem, ⟨16, _⟩ => ⟨S8x256x128, .bf16⟩
  | .local _ .vmem, ⟨17, _⟩ => ⟨S8x256x128, .bf16⟩
  | .local _ .vmem, ⟨18, _⟩ => ⟨S8x64x256, .f32⟩
  | .local _ .vmem, ⟨19, _⟩ => ⟨S8x64x256, .f32⟩
  | .local _ .vmem, ⟨20, _⟩ => ⟨S384x128, .bf16⟩
  | .local _ .vmem, ⟨21, _⟩ => ⟨S8x256x128, .bf16⟩
  | .local _ .vmem, ⟨22, _⟩ => ⟨S8x256x128, .bf16⟩
  | .local _ .vmem, ⟨23, _⟩ => ⟨S8x64x256, .f32⟩
  | .local _ .vmem, ⟨24, _⟩ => ⟨S8x64x256, .f32⟩
  | .local _ .vmem, ⟨25, _⟩ => ⟨S8x64x256, .f32⟩
  | _, _ => ⟨S96x2048x12x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_v11 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36_0 : Ref sig .tc := ⟨.hbm, 80, rfl⟩
abbrev main_v36_1 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![12, 3, 16], ![false, false, false]⟩

@[reducible] def k0_t1_loop : Scf.Loop 32 :=
  let c0_i32_27 : BitVec 32 := 0#32
  let c8_i32 : BitVec 32 := 8#32
  let v93 : BitVec 32 := Scalar.addi c0_i32_27 c8_i32
  let c1_i32_28 : BitVec 32 := 1#32
  ⟨c0_i32_27, v93, c1_i32_28⟩
def k0_off1 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v97 : Index := Scalar.indexCast arg17
  let c0 : Index := 0#32
  let c0_31 : Index := 0#32
  ![v97.toNat, 0, 0]
def k0_off2 (k0_t1 : Fin k0_t1_loop.trips) : Fin 3 → Nat :=
  let c0_47 : Index := 0#32
  let c0_i32_27 : BitVec 32 := 0#32
  let c1_i32_28 : BitVec 32 := 1#32
  let arg17 : BitVec 32 := Scf.iv c0_i32_27 c1_i32_28 k0_t1
  let v163 : Index := Scalar.indexCast arg17
  let c0_48 : Index := 0#32
  ![0, v163.toNat, 0]
def k0_off3 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v170 : Index := Scalar.indexCast arg17
  let c0_51 : Index := 0#32
  let c0_52 : Index := 0#32
  ![v170.toNat, 0, 0]
def k0_off4 (k0_t1 : Fin k0_t1_loop.trips) : Fin 3 → Nat :=
  let c1 : Index := 1#32
  let c0_i32_27 : BitVec 32 := 0#32
  let c1_i32_28 : BitVec 32 := 1#32
  let arg17 : BitVec 32 := Scf.iv c0_i32_27 c1_i32_28 k0_t1
  let v176 : Index := Scalar.indexCast arg17
  let c0_53 : Index := 0#32
  ![1, v176.toNat, 0]
def k0_off5 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v183 : Index := Scalar.indexCast arg17
  let c64 : Index := 64#32
  let c0_56 : Index := 0#32
  ![v183.toNat, 64, 0]
def k0_off6 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v189 : Index := Scalar.indexCast arg17
  let c0_57 : Index := 0#32
  let c0_58 : Index := 0#32
  ![v189.toNat, 0, 0]
def k0_off7 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v2886 : Index := Scalar.indexCast arg17
  let c128 : Index := 128#32
  let c0_609 : Index := 0#32
  ![v2886.toNat, 128, 0]
def k0_off8 (k0_t1 : Fin k0_t1_loop.trips) : Fin 3 → Nat :=
  let c2 : Index := 2#32
  let c0_i32_27 : BitVec 32 := 0#32
  let c1_i32_28 : BitVec 32 := 1#32
  let arg17 : BitVec 32 := Scf.iv c0_i32_27 c1_i32_28 k0_t1
  let v2952 : Index := Scalar.indexCast arg17
  let c0_626 : Index := 0#32
  ![2, v2952.toNat, 0]
def k0_off9 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v2959 : Index := Scalar.indexCast arg17
  let c128_629 : Index := 128#32
  let c0_630 : Index := 0#32
  ![v2959.toNat, 128, 0]
def k0_off10 (k0_t1 : Fin k0_t1_loop.trips) : Fin 3 → Nat :=
  let c3 : Index := 3#32
  let c0_i32_27 : BitVec 32 := 0#32
  let c1_i32_28 : BitVec 32 := 1#32
  let arg17 : BitVec 32 := Scf.iv c0_i32_27 c1_i32_28 k0_t1
  let v2965 : Index := Scalar.indexCast arg17
  let c0_631 : Index := 0#32
  ![3, v2965.toNat, 0]
def k0_off11 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v2972 : Index := Scalar.indexCast arg17
  let c192 : Index := 192#32
  let c0_634 : Index := 0#32
  ![v2972.toNat, 192, 0]
def k0_off12 (k0_t1 : Fin k0_t1_loop.trips) : Fin 3 → Nat :=
  let c0_i32_27 : BitVec 32 := 0#32
  let c1_i32_28 : BitVec 32 := 1#32
  let arg17 : BitVec 32 := Scf.iv c0_i32_27 c1_i32_28 k0_t1
  let v2978 : Index := Scalar.indexCast arg17
  let c0_635 : Index := 0#32
  let c128_636 : Index := 128#32
  ![v2978.toNat, 0, 128]
def k0_cond2 (i : grid0.Coords) : BitVec 1 :=
  let arg2 : BitVec 32 := BitVec.ofNat 32 (i 2).val
  let c15_i32 : BitVec 32 := 15#32
  let v94 : BitVec 1 := Scalar.cmpi .eq arg2 c15_i32
  let v95 : BitVec 32 := Scalar.extui v94
  let c0_i32_30 : BitVec 32 := 0#32
  let v96 : BitVec 1 := Scalar.cmpi .ne v95 c0_i32_30
  v96

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S8x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x256x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S8x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S384x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S8x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S96x2048x12x64 : Shape := ⟨4, ![96, 2048, 12, 64]⟩
abbrev S96x2048x12 : Shape := ⟨3, ![96, 2048, 12]⟩
abbrev S96x12x64x64 : Shape := ⟨4, ![96, 12, 64, 64]⟩
abbrev S2048x96x12x64 : Shape := ⟨4, ![2048, 96, 12, 64]⟩
abbrev S2048x96x12 : Shape := ⟨3, ![2048, 96, 12]⟩
abbrev S2048x96x12x1 : Shape := ⟨4, ![2048, 96, 12, 1]⟩
abbrev S_ : Shape := ⟨0, ![]⟩
abbrev S1x96x12x64 : Shape := ⟨4, ![1, 96, 12, 64]⟩
abbrev S96x12x64 : Shape := ⟨3, ![96, 12, 64]⟩
abbrev S96x12x1x64 : Shape := ⟨4, ![96, 12, 1, 64]⟩
abbrev S96x12x64x1 : Shape := ⟨4, ![96, 12, 64, 1]⟩

abbrev nBuf : Space → Nat
  | .hbm => 112
  | .vmem => 6
  | .smem => 0
  | _ => 0

abbrev bufTy : (tb : Table) → Fin (tcTables nBuf tb) → BufTy
  | .hbm, ⟨0, _⟩ => ⟨S96x2048x12x64, .i8⟩
  | .hbm, ⟨1, _⟩ => ⟨S96x2048x12x64, .i8⟩
  | .hbm, ⟨2, _⟩ => ⟨S96x2048x12x64, .i8⟩
  | .hbm, ⟨3, _⟩ => ⟨S96x2048x12, .f32⟩
  | .hbm, ⟨4, _⟩ => ⟨S96x2048x12, .f32⟩
  | .hbm, ⟨5, _⟩ => ⟨S96x2048x12, .f32⟩
  | .hbm, ⟨6, _⟩ => ⟨S96x2048x12x64, .bf16⟩
  | .hbm, ⟨7, _⟩ => ⟨S96x2048x12x64, .bf16⟩
  | .hbm, ⟨8, _⟩ => ⟨S96x2048x12x64, .bf16⟩
  | .hbm, ⟨9, _⟩ => ⟨S96x12x64x64, .f32⟩
  | .hbm, ⟨10, _⟩ => ⟨S96x2048x12x64, .fp8e4m3⟩
  | .hbm, ⟨11, _⟩ => ⟨S96x2048x12x64, .fp8e4m3⟩
  | .hbm, ⟨12, _⟩ => ⟨S96x2048x12x64, .fp8e4m3⟩
  | .hbm, ⟨13, _⟩ => ⟨S96x2048x12x64, .f32⟩
  | .hbm, ⟨14, _⟩ => ⟨S96x2048x12x64, .f32⟩
  | .hbm, ⟨15, _⟩ => ⟨S96x2048x12x64, .f32⟩
  | .hbm, ⟨16, _⟩ => ⟨S2048x96x12x64, .f32⟩
  | .hbm, ⟨17, _⟩ => ⟨S2048x96x12, .f32⟩
  | .hbm, ⟨18, _⟩ => ⟨S2048x96x12x1, .f32⟩
  | .hbm, ⟨19, _⟩ => ⟨S2048x96x12x64, .f32⟩
  | .hbm, ⟨20, _⟩ => ⟨S2048x96x12x64, .f32⟩
  | .hbm, ⟨21, _⟩ => ⟨S2048x96x12x64, .f32⟩
  | .hbm, ⟨22, _⟩ => ⟨S2048x96x12, .f32⟩
  | .hbm, ⟨23, _⟩ => ⟨S2048x96x12x1, .f32⟩
  | .hbm, ⟨24, _⟩ => ⟨S2048x96x12x64, .f32⟩
  | .hbm, ⟨25, _⟩ => ⟨S2048x96x12x64, .f32⟩
  | .hbm, ⟨26, _⟩ => ⟨S2048x96x12x64, .f32⟩
  | .hbm, ⟨27, _⟩ => ⟨S2048x96x12, .f32⟩
  | .hbm, ⟨28, _⟩ => ⟨S2048x96x12x1, .f32⟩
  | .hbm, ⟨29, _⟩ => ⟨S2048x96x12x64, .f32⟩
  | .hbm, ⟨30, _⟩ => ⟨S2048x96x12x64, .f32⟩
  | .hbm, ⟨31, _⟩ => ⟨S2048x96x12x64, .bf16⟩
  | .hbm, ⟨32, _⟩ => ⟨S2048x96x12x64, .f32⟩
  | .hbm, ⟨33, _⟩ => ⟨S2048x96x12x64, .f32⟩
  | .hbm, ⟨34, _⟩ => ⟨S2048x96x12x64, .f32⟩
  | .hbm, ⟨35, _⟩ => ⟨S2048x96x12x64, .f32⟩
  | .hbm, ⟨36, _⟩ => ⟨S2048x96x12x64, .bf16⟩
  | .hbm, ⟨37, _⟩ => ⟨S2048x96x12x64, .f32⟩
  | .hbm, ⟨38, _⟩ => ⟨S2048x96x12x64, .f32⟩
  | .hbm, ⟨39, _⟩ => ⟨S2048x96x12x64, .bf16⟩
  | .hbm, ⟨40, _⟩ => ⟨S2048x96x12x64, .f32⟩
  | .hbm, ⟨41, _⟩ => ⟨S2048x96x12x64, .f32⟩
  | .hbm, ⟨42, _⟩ => ⟨S_, .f32⟩
  | .hbm, ⟨43, _⟩ => ⟨S2048x96x12x64, .f32⟩
  | .hbm, ⟨44, _⟩ => ⟨S_, .i32⟩
  | .hbm, ⟨45, _⟩ => ⟨S2048x96x12x64, .f32⟩
  | .hbm, ⟨46, _⟩ => ⟨S2048x96x12x64, .f32⟩
  | .hbm, ⟨47, _⟩ => ⟨S2048x96x12x64, .f32⟩
  | .hbm, ⟨48, _⟩ => ⟨S2048x96x12x64, .f32⟩
  | .hbm, ⟨49, _⟩ => ⟨S2048x96x12x64, .f32⟩
  | .hbm, ⟨50, _⟩ => ⟨S2048x96x12x64, .f32⟩
  | .hbm, ⟨51, _⟩ => ⟨S_, .i32⟩
  | .hbm, ⟨52, _⟩ => ⟨S96x12x64x64, .f32⟩
  | .hbm, ⟨53, _⟩ => ⟨S2048x96x12x64, .f32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x96x12x64, .f32⟩
  | .hbm, ⟨60, _⟩ => ⟨S96x12x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x96x12x64, .f32⟩
  | .hbm, ⟨65, _⟩ => ⟨S96x12x64, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x96x12x64, .f32⟩
  | .hbm, ⟨70, _⟩ => ⟨S96x12x64, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x96x12x64, .f32⟩
  | .hbm, ⟨75, _⟩ => ⟨S96x12x64, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x96x12x64, .f32⟩
  | .hbm, ⟨80, _⟩ => ⟨S96x12x64, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x96x12x64, .f32⟩
  | .hbm, ⟨85, _⟩ => ⟨S96x12x64, .f32⟩
  | .hbm, ⟨86, _⟩ => ⟨S96x12x64, .f32⟩
  | .hbm, ⟨87, _⟩ => ⟨S96x12x1x64, .f32⟩
  | .hbm, ⟨88, _⟩ => ⟨S96x12x64x64, .f32⟩
  | .hbm, ⟨89, _⟩ => ⟨S96x12x64x64, .f32⟩
  | .hbm, ⟨90, _⟩ => ⟨S96x12x64x1, .f32⟩
  | .hbm, ⟨91, _⟩ => ⟨S96x12x1x64, .f32⟩
  | .hbm, ⟨92, _⟩ => ⟨S96x12x64x64, .f32⟩
  | .hbm, ⟨93, _⟩ => ⟨S96x12x64x64, .f32⟩
  | .hbm, ⟨94, _⟩ => ⟨S96x12x64x64, .f32⟩
  | .hbm, ⟨95, _⟩ => ⟨S96x12x64x64, .f32⟩
  | .hbm, ⟨96, _⟩ => ⟨S96x12x64x1, .f32⟩
  | .hbm, ⟨97, _⟩ => ⟨S96x12x1x64, .f32⟩
  | .hbm, ⟨98, _⟩ => ⟨S96x12x64x64, .f32⟩
  | .hbm, ⟨99, _⟩ => ⟨S96x12x64x64, .f32⟩
  | .hbm, ⟨100, _⟩ => ⟨S96x12x64x64, .f32⟩
  | .hbm, ⟨101, _⟩ => ⟨S96x12x64x64, .f32⟩
  | .hbm, ⟨102, _⟩ => ⟨S96x12x64, .f32⟩
  | .hbm, ⟨103, _⟩ => ⟨S1x96x12x64, .f32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S2048x96x12x64, .f32⟩
  | .hbm, ⟨108, _⟩ => ⟨S_, .i32⟩
  | .hbm, ⟨109, _⟩ => ⟨S_, .i32⟩
  | .hbm, ⟨110, _⟩ => ⟨S96x2048x12x64, .f32⟩
  | .hbm, ⟨111, _⟩ => ⟨S96x2048x12x64, .bf16⟩
  | .local _ .vmem, ⟨0, _⟩ => ⟨S96x2048x12x64, .fp8e4m3⟩
  | .local _ .vmem, ⟨1, _⟩ => ⟨S96x2048x12x64, .fp8e4m3⟩
  | .local _ .vmem, ⟨2, _⟩ => ⟨S96x2048x12x64, .fp8e4m3⟩
  | .local _ .vmem, ⟨3, _⟩ => ⟨S96x2048x12x64, .f32⟩
  | .local _ .vmem, ⟨4, _⟩ => ⟨S96x2048x12x64, .f32⟩
  | .local _ .vmem, ⟨5, _⟩ => ⟨S96x2048x12x64, .f32⟩
  | _, _ => ⟨S96x2048x12x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_c : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev main_v31_6 : Ref sig .tc := ⟨.hbm, 51, rfl⟩
abbrev main_v31_7 : Ref sig .tc := ⟨.hbm, 52, rfl⟩
abbrev main_v31_8 : Ref sig .tc := ⟨.hbm, 53, rfl⟩
abbrev main_while0c_c_8 : Ref sig .tc := ⟨.hbm, 54, rfl⟩
abbrev main_while0c_v34 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v34 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v35 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v36 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v37 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v38 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v39 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_v49 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_v54 : Ref sig .tc := ⟨.hbm, 100, rfl⟩
abbrev main_while0b_v55 : Ref sig .tc := ⟨.hbm, 101, rfl⟩
abbrev main_while0b_v56 : Ref sig .tc := ⟨.hbm, 102, rfl⟩
abbrev main_while0b_call6_v0 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_v57 : Ref sig .tc := ⟨.hbm, 107, rfl⟩
abbrev main_while0b_c_8 : Ref sig .tc := ⟨.hbm, 108, rfl⟩
abbrev main_while0b_v58 : Ref sig .tc := ⟨.hbm, 109, rfl⟩
abbrev main_v32 : Ref sig .tc := ⟨.hbm, 110, rfl⟩
abbrev main_v33 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev main_while0_count : Scf.Loop 32 := ⟨0#32, 2048#32, 1#32⟩

abbrev grid0 : Pipeline.Grid := .none

abbrev stage0_0 : Fin 1 → Memref sig .tc .vmem S96x2048x12x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x2048x12x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x2048x12x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x2048x12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x2048x12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x2048x12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RefStepRun.lean ====
/- The reference's generated run stated over the step of its generated step module: a valuation that holds a state is
   carried to one that holds the next state, what stands before the loop holds `init`, and the results are the fields of
   `step` iterated from `init`. Taken from the generated text of the same name; only the end of `step_8` differs (the
   equation is applied where the generated text rewrites with it). -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v31_7) = s.main_v31_7
  f_8 : V0 (Proc.devRef .tc main_v31_8) = s.main_v31_8
  f_0 : V0 (Proc.devRef .tc main_v31_0) = s.main_v31_0
  f_1 : V0 (Proc.devRef .tc main_v31_1) = s.main_v31_1
  f_2 : V0 (Proc.devRef .tc main_v31_2) = s.main_v31_2
  f_3 : V0 (Proc.devRef .tc main_v31_3) = s.main_v31_3
  f_4 : V0 (Proc.devRef .tc main_v31_4) = s.main_v31_4
  f_5 : V0 (Proc.devRef .tc main_v31_5) = s.main_v31_5
  n_6 : V0 (Proc.devRef .tc main_v31_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S96x12x64 (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v34 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x96x12x64 (V0 (Proc.devRef .tc main_v31_1)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S96x12x64 (Host.dynamicSlice S1x96x12x64 (V0 (Proc.devRef .tc main_v31_1)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v35 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x96x12x64 (V0 (Proc.devRef .tc main_v31_2)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S96x12x64 (Host.dynamicSlice S1x96x12x64 (V0 (Proc.devRef .tc main_v31_2)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v36 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S96x12x64 (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v37 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v38 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call5_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call5_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64 : (Proc.devRef .tc main_while0b_call5_v0 : DevRef τ sig).ty.Contents (Elt F)) = Cert.ReferenceIdeal.Step.b28 j s := by
  unfold Cert.ReferenceIdeal.Step.b28
  rw [← al_25 h, ← al_26 h, ← al_27 h, h.f_5, h.n_6]
  try rfl
set_option maxRecDepth 8192 in
theorem al_29 (h : Holds V0 s j) : (shapeCast S96x12x64 (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64 : (Proc.devRef .tc main_while0b_v39 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (Host.dotGeneral dot_S96x12x64x64_S96x12x64_S96x12x64_3_2_2_n_01_01 (some .fp32) (V0 (Proc.devRef .tc main_v31_7)) (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v40 : DevRef τ sig).ty.Contents (Elt F)) = Cert.ReferenceIdeal.Step.b30 j s := by
  unfold Cert.ReferenceIdeal.Step.b30
  rw [← al_24 h, h.f_7]
  try rfl
set_option maxRecDepth 8192 in
theorem al_31 (h : Holds V0 s j) : (broadcastInDim S96x12x1x64 ![0, 1, 3] bcast_S96x12x64_S96x12x1x64_0_1_3 (shapeCast S96x12x64 (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v41 : DevRef τ sig).ty.Contents (Elt F)) = Cert.ReferenceIdeal.Step.b31 j s := by
  unfold Cert.ReferenceIdeal.Step.b31
  rw [← al_19 h]
  try rfl
set_option maxRecDepth 8192 in
theorem al_32 (h : Holds V0 s j) : (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_v42 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (V0 (Proc.devRef .tc main_v31_7)) (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) : (Proc.devRef .tc main_while0b_v43 : DevRef τ sig).ty.Contents (Elt F)) = Cert.ReferenceIdeal.Step.b33 j s := by
  unfold Cert.ReferenceIdeal.Step.b33
  rw [← al_32 h, h.f_7]
  try rfl
set_option maxRecDepth 8192 in
theorem al_34 (h : Holds V0 s j) : (broadcastInDim S96x12x64x1 ![0, 1, 2] bcast_S96x12x64_S96x12x64x1_0_1_2 (Host.dotGeneral dot_S96x12x64x64_S96x12x64_S96x12x64_3_2_2_n_01_01 (some .fp32) (V0 (Proc.devRef .tc main_v31_7)) (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_v44 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (broadcastInDim S96x12x1x64 ![0, 1, 3] bcast_S96x12x64_S96x12x1x64_0_1_3 (shapeCast S96x12x64 (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v45 : DevRef τ sig).ty.Contents (Elt F)) = Cert.ReferenceIdeal.Step.b35 j s := by
  unfold Cert.ReferenceIdeal.Step.b35
  rw [← al_29 h]
  try rfl
set_option maxRecDepth 8192 in
theorem al_36 (h : Holds V0 s j) : (broadcastInDim S96x12x64x64 ![0, 1, 2, 3] bcast_S96x12x64x1_S96x12x64x64_0_1_2_3 (broadcastInDim S96x12x64x1 ![0, 1, 2] bcast_S96x12x64_S96x12x64x1_0_1_2 (Host.dotGeneral dot_S96x12x64x64_S96x12x64_S96x12x64_3_2_2_n_01_01 (some .fp32) (V0 (Proc.devRef .tc main_v31_7)) (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) : (Proc.devRef .tc main_while0b_v46 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_v47 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (mulf (broadcastInDim S96x12x64x64 ![0, 1, 2, 3] bcast_S96x12x64x1_S96x12x64x64_0_1_2_3 (broadcastInDim S96x12x64x1 ![0, 1, 2] bcast_S96x12x64_S96x12x64x1_0_1_2 (Host.dotGeneral dot_S96x12x64x64_S96x12x64_S96x12x64_3_2_2_n_01_01 (some .fp32) (V0 (Proc.devRef .tc main_v31_7)) (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)))) (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) : (Proc.devRef .tc main_while0b_v48 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (addf (mulf (V0 (Proc.devRef .tc main_v31_7)) (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_3)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)))) (mulf (broadcastInDim S96x12x64x64 ![0, 1, 2, 3] bcast_S96x12x64x1_S96x12x64x64_0_1_2_3 (broadcastInDim S96x12x64x1 ![0, 1, 2] bcast_S96x12x64_S96x12x64x1_0_1_2 (Host.dotGeneral dot_S96x12x64x64_S96x12x64_S96x12x64_3_2_2_n_01_01 (some .fp32) (V0 (Proc.devRef .tc main_v31_7)) (shapeCast S96x12x64 (Host.dynamicSlice S1x96x12x64 (V0 (Proc.devRef .tc main_v31_4)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)))) (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_5)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)))) : (Proc.devRef .tc main_while0b_v49 : DevRef τ sig).ty.Contents (Elt F)) = Cert.ReferenceIdeal.Step.b39 j s := by
  unfold Cert.ReferenceIdeal.Step.b39
  rw [← al_33 h, ← al_38 h]
  try rfl
set_option maxRecDepth 8192 in
theorem al_40 (h : Holds V0 s j) : (broadcastInDim S96x12x64x1 ![0, 1, 2] bcast_S96x12x64_S96x12x64x1_0_1_2 (shapeCast S96x12x64 (Host.dynamicSlice S1x96x12x64 (V0 (Proc.devRef .tc main_v31_2)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v50 : DevRef τ sig).ty.Contents (Elt F)) = Cert.ReferenceIdeal.Step.b40 j s := by
  unfold Cert.ReferenceIdeal.Step.b40
  rw [← al_14 h]
  try rfl
set_option maxRecDepth 8192 in
theorem al_41 (h : Holds V0 s j) : (broadcastInDim S96x12x1x64 ![0, 1, 3] bcast_S96x12x64_S96x12x1x64_0_1_3 (shapeCast S96x12x64 (Host.dynamicSlice S1x96x12x64 (V0 (Proc.devRef .tc main_v31_1)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v51 : DevRef τ sig).ty.Contents (Elt F)) = Cert.ReferenceIdeal.Step.b41 j s := by
  unfold Cert.ReferenceIdeal.Step.b41
  rw [← al_9 h]
  try rfl
set_option maxRecDepth 8192 in
theorem al_42 (h : Holds V0 s j) : (broadcastInDim S96x12x64x64 ![0, 1, 2, 3] bcast_S96x12x64x1_S96x12x64x64_0_1_2_3 (broadcastInDim S96x12x64x1 ![0, 1, 2] bcast_S96x12x64_S96x12x64x1_0_1_2 (shapeCast S96x12x64 (Host.dynamicSlice S1x96x12x64 (V0 (Proc.devRef .tc main_v31_2)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_v52 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_1)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_v53 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (mulf (broadcastInDim S96x12x64x64 ![0, 1, 2, 3] bcast_S96x12x64x1_S96x12x64x64_0_1_2_3 (broadcastInDim S96x12x64x1 ![0, 1, 2] bcast_S96x12x64_S96x12x64x1_0_1_2 (shapeCast S96x12x64 (Host.dynamicSlice S1x96x12x64 (V0 (Proc.devRef .tc main_v31_2)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) (broadcastInDim S96x12x64x64 ![0, 1, 2, 3] bcast_S96x12x1x64_S96x12x64x64_0_1_2_3 (broadcastInDim S96x12x1x64 ![0, 1, 3] bcast_S96x12x64_S96x12x1x64_0_1_3 (shapeCast S96x12x64 (Host.dynamicSlice S1x96x12x64 (V0 (Proc.devRef .tc main_v31_1)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) : (Proc.devRef .tc main_while0b_v54 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (res_main_while0b_v55 V0 : (Proc.devRef .tc main_while0b_v55 : DevRef τ sig).ty.Contents (Elt F)) = Cert.ReferenceIdeal.Step.b45 j s := by
  unfold res_main_while0b_v55 Cert.ReferenceIdeal.Step.b45
  rw [← al_39 h, ← al_44 h]
  try rfl
set_option maxRecDepth 8192 in
theorem al_46 (h : Holds V0 s j) : (Host.dotGeneral dot_S96x12x64x64_S96x12x64_S96x12x64_3_2_2_n_01_01 (some .fp32) (res_main_while0b_v55 V0) (shapeCast S96x12x64 (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64) : (Proc.devRef .tc main_while0b_v56 : DevRef τ sig).ty.Contents (Elt F)) = Cert.ReferenceIdeal.Step.b46 j s := by
  unfold Cert.ReferenceIdeal.Step.b46
  rw [← al_45 h, ← al_4 h]
  try rfl
set_option maxRecDepth 8192 in
theorem al_47 (h : Holds V0 s j) : (broadcastInDim S1x96x12x64 ![1, 2, 3] bcast_S96x12x64_S1x96x12x64_1_2_3 (Host.dotGeneral dot_S96x12x64x64_S96x12x64_S96x12x64_3_2_2_n_01_01 (some .fp32) (res_main_while0b_v55 V0) (shapeCast S96x12x64 (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64)) : (Proc.devRef .tc main_while0b_call6_v0 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (constantI S_ 32 0#32 : (Proc.devRef .tc main_while0b_call6_c : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call6_c_0 : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call6_c_1 : DevRef τ sig).ty.Contents (Elt F)) = Cert.ReferenceIdeal.Step.b50 j s := by
  unfold Cert.ReferenceIdeal.Step.b50
  rfl
set_option maxRecDepth 8192 in
theorem al_51 (h : Holds V0 s j) : (Host.dynamicUpdateSlice (V0 (Proc.devRef .tc main_v31_8)) (broadcastInDim S1x96x12x64 ![1, 2, 3] bcast_S96x12x64_S1x96x12x64_1_2_3 (Host.dotGeneral dot_S96x12x64x64_S96x12x64_S96x12x64_3_2_2_n_01_01 (some .fp32) (res_main_while0b_v55 V0) (shapeCast S96x12x64 (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) updateFits_S2048x96x12x64_S1x96x12x64 : (Proc.devRef .tc main_while0b_v57 : DevRef τ sig).ty.Contents (Elt F)) = Cert.ReferenceIdeal.Step.b51 j s := by
  unfold Cert.ReferenceIdeal.Step.b51
  rw [← al_47 h, ← al_48 h, ← al_49 h, ← al_50 h, h.f_8, h.n_6]
  try rfl

/-! One trip's step of the carried values is `step`, field by field; a counter steps to the next number. -/

theorem step_7 (h : Holds V0 s j) : step_main_v31_7 V0 = (step j s).main_v31_7 := by
  unfold step_main_v31_7 Cert.ReferenceIdeal.Step.step
  show id (res_main_while0b_v55 V0) = _
  rw [al_45 h]
  try rfl
theorem step_8 (h : Holds V0 s j) : step_main_v31_8 V0 = (step j s).main_v31_8 := by
  unfold step_main_v31_8 Cert.ReferenceIdeal.Step.step
  show id (Host.dynamicUpdateSlice (V0 (Proc.devRef .tc main_v31_8)) (broadcastInDim S1x96x12x64 ![1, 2, 3] bcast_S96x12x64_S1x96x12x64_1_2_3 (Host.dotGeneral dot_S96x12x64x64_S96x12x64_S96x12x64_3_2_2_n_01_01 (some .fp32) (res_main_while0b_v55 V0) (shapeCast S96x12x64 (Host.dynamicSlice S1x96x12x64 (V0 (Proc.devRef .tc main_v31_0)) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) sliceFits_S2048x96x12x64_S1x96x12x64) shapeCasts_S1x96x12x64_S96x12x64))) (fun k => (((![V0 (Proc.devRef .tc main_v31_6), constantI S_ 32 0#32, constantI S_ 32 0#32, constantI S_ 32 0#32] : Fin 4 → (⟨S_, .i32⟩ : BufTy).Contents (Elt F))) k (Shape.Idx.first h_S_)).toInt) updateFits_S2048x96x12x64_S1x96x12x64) = _
  exact al_51 h
theorem step_6 (h : Holds V0 s j) : step_main_v31_6 V0 = constantI S_ 32 (BitVec.ofNat 32 (j + 1)) := by
  unfold step_main_v31_6
  rw [h.n_6]
  funext i
  show BitVec.ofNat 32 j + 1#32 = BitVec.ofNat 32 (j + 1)
  simp only [BitVec.ofNat_add]

set_option maxRecDepth 8192 in
theorem out_main_v33_holds (h : Holds V0 s j) : out_main_v33 V0 = Cert.ReferenceIdeal.Step.R_main_v33 s := by
  unfold out_main_v33 Cert.ReferenceIdeal.Step.R_main_v33
  rw [h.f_8]
  try rfl

/-- One trip keeps the valuation holding: `step` of the state, the same set-up values, the next number. -/
theorem holds_step (h : Holds V0 s j) : Holds (STEP V0) (step j s) (j + 1) where
  f_7 := (STEP_main_v31_7 V0).trans (step_7 h)
  f_8 := (STEP_main_v31_8 V0).trans (step_8 h)
  n_6 := (STEP_main_v31_6 V0).trans (step_6 h)
  f_0 := (STEP_main_v31_0 V0).trans h.f_0
  f_1 := (STEP_main_v31_1 V0).trans h.f_1
  f_2 := (STEP_main_v31_2 V0).trans h.f_2
  f_3 := (STEP_main_v31_3 V0).trans h.f_3
  f_4 := (STEP_main_v31_4 V0).trans h.f_4
  f_5 := (STEP_main_v31_5 V0).trans h.f_5

/-- The state the first trip starts from, of what the loop's entry contents (the frame's `Gen.Went`) holds at `init`'s parameters. -/
abbrev initState (m : (ℓ : Loc nD τ sig) → Buf (Elt F) ℓ) (ρ : Dev nD → PrngReg) (c : Dev nD) : State F :=
  init (Gen.Went m ρ c (Proc.devRef .tc main_arg9)) (Gen.Went m ρ c (Proc.devRef .tc main_arg3)) (Gen.Went m ρ c (Proc.devRef .tc main_arg4)) (Gen.Went m ρ c (Proc.devRef .tc main_arg5)) (Gen.Went m ρ c (Proc.devRef .tc main_arg6)) (Gen.Went m ρ c (Proc.devRef .tc main_arg7)) (Gen.Went m ρ c (Proc.devRef .tc main_arg8)) (Gen.Went m ρ c (Proc.devRef .tc main_v3_0)) (Gen.Went m ρ c (Proc.devRef .tc main_v3_1)) (Gen.Went m ρ c (Proc.devRef .tc main_v3_2))

variable (m : (ℓ : Loc nD τ sig) → Buf (Elt F) ℓ) (ρ : Dev nD → PrngReg) (c : Dev nD)

set_option maxRecDepth 65536 in
set_option maxHeartbeats 2000000 in
/-- What @main's operations before the loop leave: the set-up values, number 0, the initial state. -/
theorem entry_holds : Holds (Gen.Went m ρ c) (initState m ρ c) 0 := by
  constructor <;> (simp only [Gen.Went, afterL_cons, afterL_nil]; after_results_simp) <;> rfl

/-- Before the `k`-th condition the loop's valuation holds the `k`-th state of any sequence that starts at `initState` and goes
    on by `step`. -/
theorem holds_iter (it : ℕ → State F) (h0 : it 0 = initState m ρ c) (hs : ∀ n, it (n + 1) = step n (it n)) :
    ∀ k, Holds (STEP^[k] (Gen.Went m ρ c)) (it k) k
  | 0 => h0 ▸ entry_holds m ρ c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m ρ c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v33) = Cert.ReferenceIdeal.Step.R_main_v33 (it c Gen.nT)
      ∧ r.2.mem ((c.tc : Thread nD τ).loc main_v31_7) = (it c Gen.nT).main_v31_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m ρ c (it c) (h0 c) (hs c) Gen.nT
    ⟨((h c _ (Gen.mem_uc main_v33 (by decide))).trans (final_main_v33 m ρ c)).trans (out_main_v33_holds hk), ((h c _ (Gen.mem_uc main_v31_7 (by decide))).trans (final_main_v31_7 m ρ c)).trans hk.f_7, (h c _ (Gen.mem_uc main_arg0 (by decide))).trans (Gen.WN_main_arg0 m ρ c), (h c _ (Gen.mem_uc main_arg1 (by decide))).trans (Gen.WN_main_arg1 m ρ c), (h c _ (Gen.mem_uc main_arg2 (by decide))).trans (Gen.WN_main_arg2 m ρ c), (h c _ (Gen.mem_uc main_arg3 (by decide))).trans (Gen.WN_main_arg3 m ρ c), (h c _ (Gen.mem_uc main_arg4 (by decide))).trans (Gen.WN_main_arg4 m ρ c), (h c _ (Gen.mem_uc main_arg5 (by decide))).trans (Gen.WN_main_arg5 m ρ c), (h c _ (Gen.mem_uc main_arg6 (by decide))).trans (Gen.WN_main_arg6 m ρ c), (h c _ (Gen.mem_uc main_arg7 (by decide))).trans (Gen.WN_main_arg7 m ρ c), (h c _ (Gen.mem_uc main_arg8 (by decide))).trans (Gen.WN_main_arg8 m ρ c), (h c _ (Gen.mem_uc main_arg9 (by decide))).trans (Gen.WN_main_arg9 m ρ c)⟩) (Gen.run_main m ρ)

end Cert.ReferenceIdeal.StepRun

end
-- ==== Proof.V.Model.lean ====
/- The straight-line body of one trip of the kernel's batch loop, written again as a few named functions: the three-way
   split of a number into bf16 pieces, the six-product matrix product, the elimination of a unit-triangular block, one
   chunk of 64 time steps for a pair of heads, and the preparation of a pair's operands. -/
module

public import proofs.«01_k».proof.Proof.Gen.KernelIdeal

@[expose] public section

set_option maxRecDepth 16384

noncomputable section

namespace Cert.KernelIdeal.M

open Idealize.ShloMosaic Idealize.ShloMosaic.TcCoe Cert.KernelIdeal.Facts₀ Cert.KernelIdeal.Facts

variable {F : FTy → Type} [FloatOps F] [Named F]

/-- The leading bf16 piece of a number. -/
def hi {s : Shape} (x : FVec F s .f32) : FVec F s .bf16 := truncf .bf16 x bitsLt_bf16_f32
/-- What the leading piece leaves. -/
def rest {s : Shape} (x : FVec F s .f32) : FVec F s .f32 := subf x (extf .f32 (hi x) bitsLt_bf16_f32)
/-- The second piece. -/
def mid {s : Shape} (x : FVec F s .f32) : FVec F s .bf16 := hi (rest x)
/-- The third piece. -/
def lo {s : Shape} (x : FVec F s .f32) : FVec F s .bf16 := hi (rest (rest x))

/-- A vector of zeros. -/
def zf (s : Shape) : FVec F s .f32 := broadcast s (Scalar.ofBits .f32 0x00000000#32)
/-- A vector of bf16 zeros. -/
def zh (s : Shape) : FVec F s .bf16 := broadcast s (Scalar.ofBits .bf16 0x0000#16)

/-- The first 64 rows. -/
def top {α : Type} (x : S128x128.Idx → α) : S64x128.Idx → α :=
  extractStridedSlice S64x128 ![0, 0] x slices_S128x128_o0_0_S64x128
/-- The last 64 rows. -/
def bot {α : Type} (x : S128x128.Idx → α) : S64x128.Idx → α :=
  extractStridedSlice S64x128 ![64, 0] x slices_S128x128_o64_0_S64x128
/-- Two blocks of 64 rows, one above the other. -/
def over {α : Type} (x y : S64x128.Idx → α) : S128x128.Idx → α :=
  concatenate S128x128 0 [⟨S64x128, x⟩, ⟨S64x128, y⟩] concatenates_S64x128_S64x128_S128x128_d0
/-- Two blocks of 128 lanes side by side. -/
def beside {α : Type} (x y : S64x128.Idx → α) : S64x256.Idx → α :=
  concatenate S64x256 1 [⟨S64x128, x⟩, ⟨S64x128, y⟩] concatenates_S64x128_S64x128_S64x256_d1
/-- The first 128 lanes of 256. -/
def lft {α : Type} (x : S64x256.Idx → α) : S64x128.Idx → α :=
  extractStridedSlice S64x128 ![0, 0] x slices_S64x256_o0_0_S64x128
/-- The last 128 lanes of 256. -/
def rgt {α : Type} (x : S64x256.Idx → α) : S64x128.Idx → α :=
  extractStridedSlice S64x128 ![0, 128] x slices_S64x256_o0_128_S64x128
/-- The block-diagonal arrangement of two heads' rows. -/
def bdiag (y : FVec F S128x128 .bf16) : FVec F S128x256 .bf16 :=
  concatenate S128x256 0 [⟨S64x256, beside (top y) (zh S64x128)⟩, ⟨S64x256, beside (zh S64x128) (bot y)⟩]
    concatenates_S64x256_S64x256_S128x256_d0
/-- Six blocks, one above the other, 256 lanes. -/
def six256 (y1 y2 y3 : FVec F S128x256 .bf16) : FVec F S768x256 .bf16 :=
  concatenate S768x256 0 [⟨S128x256, y1⟩, ⟨S128x256, y3⟩, ⟨S128x256, y2⟩, ⟨S128x256, y1⟩, ⟨S128x256, y2⟩, ⟨S128x256, y1⟩]
    concatenates_S128x256_S128x256_S128x256_S128x256_S128x256_S128x256_S768x256_d0
/-- Six blocks, one above the other, 128 lanes. -/
def six128 (y1 y2 y3 : FVec F S128x128 .bf16) : FVec F S768x128 .bf16 :=
  concatenate S768x128 0 [⟨S128x128, y1⟩, ⟨S128x128, y3⟩, ⟨S128x128, y2⟩, ⟨S128x128, y1⟩, ⟨S128x128, y2⟩, ⟨S128x128, y1⟩]
    concatenates_S128x128_S128x128_S128x128_S128x128_S128x128_S128x128_S768x128_d0
/-- Six blocks of 64 rows side by side. -/
def row64 (x1 x2 x3 : FVec F S64x128 .bf16) : FVec F S64x768 .bf16 :=
  concatenate S64x768 1 [⟨S64x128, x3⟩, ⟨S64x128, x1⟩, ⟨S64x128, x2⟩, ⟨S64x128, x2⟩, ⟨S64x128, x1⟩, ⟨S64x128, x1⟩]
    concatenates_S64x128_S64x128_S64x128_S64x128_S64x128_S64x128_S64x768_d1

/-- The products of the chunk's `b` and `k` rows with the columns of `a` and `r`. -/
def tiles (b1 b2 b3 k1 k2 k3 : FVec F S64x128 .bf16) (ar : FVec F S128x128 .f32) : FVec F S128x256 .f32 :=
  matmul dot_S128x768_S768x256_S128x256_1_0_0_1_n_n none
    (concatenate S128x768 1 [⟨S128x128, over b3 k3⟩, ⟨S128x128, over b1 k1⟩, ⟨S128x128, over b2 k2⟩,
      ⟨S128x128, over b2 k2⟩, ⟨S128x128, over b1 k1⟩, ⟨S128x128, over b1 k1⟩]
      concatenates_S128x128_S128x128_S128x128_S128x128_S128x128_S128x128_S128x768_d1)
    (six256 (bdiag (hi ar)) (bdiag (mid ar)) (bdiag (lo ar)))
    (constant S128x256 .f32 0x00000000#32)

/-- A 64-row operand times two heads' block-diagonal columns. -/
def dotB (x : FVec F S64x128 .f32) (y1 y2 y3 : FVec F S128x256 .bf16) : FVec F S64x256 .f32 :=
  matmul dot_S64x768_S768x256_S64x256_1_0_0_1_n_n none (row64 (hi x) (mid x) (lo x)) (six256 y1 y2 y3)
    (constant S64x256 .f32 0x00000000#32)

/-- A 64-row operand times a square matrix. -/
def dotW (x : FVec F S64x128 .f32) (w : FVec F S128x128 .f32) : FVec F S64x128 .f32 :=
  matmul dot_S64x768_S768x128_S64x128_1_0_0_1_n_n none (row64 (hi x) (mid x) (lo x)) (six128 (hi w) (mid w) (lo w))
    (constant S64x128 .f32 0x00000000#32)

/-- A 32-row operand times a square matrix. -/
def dotQ (x : FVec F S32x128 .f32) (w : FVec F S128x128 .f32) : FVec F S32x128 .f32 :=
  matmul dot_S32x768_S768x128_S32x128_1_0_0_1_n_n none
    (concatenate S32x768 1 [⟨S32x128, lo x⟩, ⟨S32x128, hi x⟩, ⟨S32x128, mid x⟩, ⟨S32x128, mid x⟩, ⟨S32x128, hi x⟩,
      ⟨S32x128, hi x⟩] concatenates_S32x128_S32x128_S32x128_S32x128_S32x128_S32x128_S32x768_d1)
    (six128 (hi w) (mid w) (lo w))
    (constant S32x128 .f32 0x00000000#32)

/-- The values of a head times the masked products and times the keys. -/
def dotV (v : FVec F S64x128 .bf16) (t : FVec F S64x128 .f32) (k1 k2 k3 : FVec F S64x128 .bf16) : FVec F S64x256 .f32 :=
  matmul dot_S64x256_S256x256_S64x256_1_0_0_1_n_n none (beside v v)
    (concatenate S256x256 0 [⟨S64x256, beside (lo t) k3⟩, ⟨S64x256, beside (mid t) k2⟩, ⟨S64x256, beside (hi t) k1⟩,
      ⟨S64x256, beside (zh S64x128) (zh S64x128)⟩] concatenates_S64x256_S64x256_S64x256_S64x256_S256x256_d0)
    (constant S64x256 .f32 0x00000000#32)

/-- The remainder by `m` of each lane's number, as the program computes it. -/
def lrem (s : Shape) (x : IVec s 32) (m : BitVec 32) (h : s.Broadcasts s) : IVec s 32 :=
  let m' := Scalar.select (Scalar.cmpi .eq m 0#32) 1#32 m
  let q := remsi x (broadcast s m')
  select (andi (xori (cmpi .slt q (broadcast s 0#32)) (broadcastTo s (broadcast s (Scalar.cmpi .slt m' 0#32)) h))
    (cmpi .ne q (broadcast s 0#32))) (addi q (broadcast s m')) q

/-- The lanes of the later half of a chunk. -/
def late (v3 : IVec S128x128 32) : IVec S32x128 1 :=
  cmpi .sge (lrem S32x128 (extractStridedSlice S32x128 ![0, 0] v3 slices_S128x128_o0_0_S32x128) 64#32
    broadcasts_S32x128_S32x128) (broadcast S32x128 32#32)
/-- The lanes' numbers, eight rows. -/
def lane8 (v3 : IVec S128x128 32) : IVec S8x128 32 :=
  extractStridedSlice S8x128 ![0, 0] v3 slices_S128x128_o0_0_S8x128
/-- The lane within its block of 32. -/
def blk (v3 : IVec S128x128 32) : IVec S8x128 32 := lrem S8x128 (lane8 v3) 32#32 broadcasts_S8x128_S8x128
/-- The first lane of the block of 32. -/
def base (v3 : IVec S128x128 32) : IVec S8x128 32 := subi (lane8 v3) (blk v3)

/-- Row `s` of eight, in every row. -/
def rowOf (s : ℕ) (hs : S8x128.Slices ![s, 0] S1x128) (w : FVec F S8x128 .f32) : FVec F S8x128 .f32 :=
  broadcastTo S8x128 (shapeCast S1x128 (extractStridedSlice S1x128 ![s, 0] w hs) shapeCasts_S1x128_S1x128)
    broadcasts_S1x128_S8x128

theorem slices8 (s : ℕ) : S8x128.Slices ![s % 8, 0] S1x128 := by
  have h : s % 8 < 8 := Nat.mod_lt _ (by decide)
  generalize s % 8 = n at h
  interval_cases n
  · exact slices_S8x128_o0_0_S1x128
  · exact slices_S8x128_o1_0_S1x128
  · exact slices_S8x128_o2_0_S1x128
  · exact slices_S8x128_o3_0_S1x128
  · exact slices_S8x128_o4_0_S1x128
  · exact slices_S8x128_o5_0_S1x128
  · exact slices_S8x128_o6_0_S1x128
  · exact slices_S8x128_o7_0_S1x128

/-- The lane that column `m` of the block is read at. -/
def gidx (b : IVec S8x128 32) (m : BitVec 32) : IVec S8x128 32 :=
  let i := addi b (broadcast S8x128 m)
  shapeCast S8x128 (shapeCast S8x128x1
    (select (cmpi .slt i (broadcast S8x128 0#32)) (addi i (broadcast S8x128 128#32)) i)
    shapeCasts_S8x128_S8x128x1) shapeCasts_S8x128x1_S8x128

/-- One elimination step on eight rows. -/
def elim1 (b : IVec S8x128 32) (m : ℕ) (row z w : FVec F S8x128 .f32) : FVec F S8x128 .f32 :=
  subf w (mulf (dynamicGather 1 z (gidx b (BitVec.ofNat 32 m))) row)

/-- One elimination step, on the four groups of eight rows. -/
def elimStep (b : IVec S8x128 32) (m : ℕ) (z w : ℕ → FVec F S8x128 .f32) : ℕ → FVec F S8x128 .f32 := fun v =>
  Bool.rec (w v) (elim1 b m (rowOf (m % 8) (slices8 m) (w (m / 8))) (z v) (w v)) (Nat.blt (8 * v) m)

/-- The first `n` elimination steps, from column 31 down. -/
def elim (b : IVec S8x128 32) (z w : ℕ → FVec F S8x128 .f32) : ℕ → ℕ → FVec F S8x128 .f32
  | 0 => w
  | n + 1 => elimStep b (31 - n) z (elim b z w n)

/-- Eight rows of 32. -/
def grp (x : FVec F S32x128 .f32) : ℕ → FVec F S8x128 .f32
  | 0 => extractStridedSlice S8x128 ![0, 0] x slices_S32x128_o0_0_S8x128
  | 1 => extractStridedSlice S8x128 ![8, 0] x slices_S32x128_o8_0_S8x128
  | 2 => extractStridedSlice S8x128 ![16, 0] x slices_S32x128_o16_0_S8x128
  | _ => extractStridedSlice S8x128 ![24, 0] x slices_S32x128_o24_0_S8x128

/-- The start of the elimination: minus the identity. -/
def negId (bl : IVec S8x128 32) (v : ℕ) : FVec F S8x128 .f32 :=
  select (cmpi .eq (addi (iota .tc S8x128 32 [0] iota_S8x128_d0_w32) (broadcast S8x128 (BitVec.ofNat 32 (8 * v)))) bl)
    (broadcast S8x128 (Scalar.ofBits .f32 0xBF800000#32)) (zf S8x128)

/-- The four packed blocks of 32 inverted. -/
def inverseDiag (v3 : IVec S128x128 32) (z : FVec F S32x128 .f32) : FVec F S32x128 .f32 :=
  concatenate S32x128 0 [⟨S8x128, elim (base v3) (grp z) (negId (blk v3)) 31 0⟩,
    ⟨S8x128, elim (base v3) (grp z) (negId (blk v3)) 31 1⟩,
    ⟨S8x128, elim (base v3) (grp z) (negId (blk v3)) 31 2⟩,
    ⟨S8x128, elim (base v3) (grp z) (negId (blk v3)) 31 3⟩] concatenates_S8x128_S8x128_S8x128_S8x128_S32x128_d0

/-- The first 32 rows of 64. -/
def up32 (z : FVec F S64x128 .f32) : FVec F S32x128 .f32 :=
  extractStridedSlice S32x128 ![0, 0] z slices_S64x128_o0_0_S32x128
/-- The last 32 rows of 64. -/
def dn32 (z : FVec F S64x128 .f32) : FVec F S32x128 .f32 :=
  extractStridedSlice S32x128 ![32, 0] z slices_S64x128_o32_0_S32x128
/-- Four blocks of 32 rows. -/
def four32 (a b c d : FVec F S32x128 .f32) : FVec F S128x128 .f32 :=
  concatenate S128x128 0 [⟨S32x128, a⟩, ⟨S32x128, b⟩, ⟨S32x128, c⟩, ⟨S32x128, d⟩]
    concatenates_S32x128_S32x128_S32x128_S32x128_S128x128_d0

/-- The inverse of a pair's two packed 64-blocks, joined from their 32-blocks. -/
def pairInverse (v3 : IVec S128x128 32) (z : FVec F S64x128 .f32) : FVec F S64x128 .f32 :=
  let lt := late v3
  let head0 : IVec S32x128 1 := cmpi .slt (extractStridedSlice S32x128 ![0, 0] v3 slices_S128x128_o0_0_S32x128)
    (broadcast S32x128 64#32)
  let packed := inverseDiag v3 (select lt (dn32 z) (up32 z))
  let corner := select lt (up32 z) (zf S32x128)
  let early := select lt (zf S32x128) packed
  let wlate := select lt packed (zf S32x128)
  let q := dotQ corner (four32 (zf S32x128) (select head0 wlate (zf S32x128)) (zf S32x128) (select head0 (zf S32x128) wlate))
  let joined := dotQ early (four32 (select head0 q (zf S32x128)) (zf S32x128) (select head0 (zf S32x128) q) (zf S32x128))
  concatenate S64x128 0 [⟨S32x128, select lt joined packed⟩, ⟨S32x128, wlate⟩] concatenates_S32x128_S32x128_S64x128_d0

/-- The end of a chunk's state and its outputs. -/
structure Out (F : FTy → Type) where
  s : FVec F S64x128 .f32
  y : FVec F S64x128 .f32

/-- One chunk of 64 time steps for a pair of heads. -/
def chunk (v3 : IVec S128x128 32) (v6 v64 v92 : IVec S128x128 1) (ev od : FVec F S128x128 .f32)
    (b1 b2 b3 k1 k2 k3 : FVec F S64x128 .bf16) (va vb : FVec F S64x128 .bf16) (s : FVec F S64x128 .f32)
    (sh : FVec F S1x128 .f32) : Out F :=
  let low := top v6
  let ar := over (top ev) (bot od)
  let ti := tiles b1 b2 b3 k1 k2 k3 ar
  let t0 := select v64 (extractStridedSlice S128x128 ![0, 0] ti slices_S128x256_o0_0_S128x128) (zf S128x128)
  let t1 := select v92 (extractStridedSlice S128x128 ![0, 128] ti slices_S128x256_o0_128_S128x128) (zf S128x128)
  let w := pairInverse v3 (select low (top t0) (top t1))
  let br := select low (top t1) (top t0)
  let sp := dotB s (bdiag (hi ar)) (bdiag (mid ar)) (bdiag (lo ar))
  let o0 := dotV va (bot t0) k1 k2 k3
  let o1 := dotV vb (bot t1) k1 k2 k3
  let e0 := addf (lft sp) (lft o0)
  let e1 := addf (rgt sp) (lft o1)
  let x := select low e0 e1
  let y := select low e1 e0
  let u := dotW x (over (select low w (zf S64x128)) (select low (zf S64x128) w))
  let o := dotB u (bdiag (over (select low b1 (hi br)) (select low (hi br) b1)))
    (bdiag (over (select low b2 (mid br)) (select low (mid br) b2)))
    (bdiag (over (select low b3 (lo br)) (select low (lo br) b3)))
  ⟨mulf (addf (addf s (select low (lft o) (rgt o))) (select low (rgt o0) (rgt o1)))
      (broadcastTo S64x128 sh broadcasts_S1x128_S64x128),
    addf y (select low (rgt o) (lft o))⟩

/-- The rotation of the lanes by 64. -/
def swap128 (x : FVec F S128x128 .f32) : FVec F S128x128 .f32 := dynamicRotate 1 64#32 none x rotates_S128x128_d1
/-- The rotation of the lanes by 64, for 64 rows. -/
def swap64 (x : FVec F S64x128 .f32) : FVec F S64x128 .f32 := dynamicRotate 1 64#32 none x rotates_S64x128_d1

/-- The 128 rows of a block of one batch row. -/
def rows128 {φ : FTy} (x : FVec F S1x128x128 φ) : FVec F S128x128 φ := shapeCast S128x128 x shapeCasts_S1x128x128_S128x128

/-- Rows and lanes exchanged. -/
def tr (x : FVec F S128x128 .f32) : FVec F S128x128 .f32 := transpose S128x128 [1, 0] x transposes_S128x128_p1_0_S128x128

/-- The decay rate of every step, times the binary logarithm of `e`. -/
def rate (w : FVec F S1x128x128 .bf16) : FVec F S128x128 .f32 :=
  mulf (exp2 (mulf (extf .f32 (rows128 w) bitsLt_bf16_f32) (broadcast S128x128 (Named.named κ "log2e" 0x3FB8AA3B#32))))
    (broadcast S128x128 (Named.named κ "log2e" 0x3FB8AA3B#32))

/-- The running sums of the rates within each chunk. -/
def decay (e2 : FVec F S128x128 .f32) (tri : FVec F S384x128 .bf16) : FVec F S128x128 .f32 :=
  matmul dot_S128x384_S384x128_S128x128_1_0_0_1_n_n none
    (concatenate S128x384 1 [⟨S128x128, lo e2⟩, ⟨S128x128, mid e2⟩, ⟨S128x128, hi e2⟩]
      concatenates_S128x128_S128x128_S128x128_S128x384_d1)
    (shapeCast S384x128 tri shapeCasts_S384x128_S384x128) (constant S128x128 .f32 0x00000000#32)

/-- A head's values with their scales. -/
def vals (ks vs : FVec F S1x1x128 .f32) (v : FVec F S1x64x128 .fp8e4m3) : FVec F S64x128 .f32 :=
  mulf (extf .f32 (shapeCast S64x128 v shapeCasts_S1x64x128_S64x128) bitsLt_fp8e4m3_f32)
    (broadcastTo S64x128 (mulf (shapeCast S1x128 ks shapeCasts_S1x1x128_S1x128)
      (shapeCast S1x128 vs shapeCasts_S1x1x128_S1x128)) broadcasts_S1x128_S64x128)

/-- Both chunks of a pair of heads: the state after the second, and both chunks' outputs. -/
structure Pair (F : FTy → Type) where
  s : FVec F S64x128 .f32
  y0 : FVec F S64x128 .f32
  y1 : FVec F S64x128 .f32

/-- Both chunks of a pair of heads, from the blocks loaded for it. -/
def pair (v3 : IVec S128x128 32) (v6 v64 v92 : IVec S128x128 1) (w : FVec F S1x128x128 .bf16) (tri : FVec F S384x128 .bf16)
    (kk : FVec F S1x128x128 .bf16) (r k : FVec F S1x128x128 .fp8e4m3) (ic : FVec F S1x128x128 .bf16)
    (va vb : FVec F S64x128 .f32) (s : FVec F S1x64x128 .f32) : Pair F :=
  let e2 := rate w
  let d := decay e2 tri
  let grow := exp2 d
  let shrink := exp2 (subf (zf S128x128) d)
  let kkf := extf .f32 (rows128 kk) bitsLt_bf16_f32
  let rr := mulf (extf .f32 (rows128 r) bitsLt_fp8e4m3_f32) shrink
  let aa := mulf kkf (exp2 (subf e2 d))
  let kt := tr (mulf (extf .f32 (rows128 k) bitsLt_fp8e4m3_f32) grow)
  let bt := tr (mulf (mulf kkf (extf .f32 (rows128 ic) bitsLt_bf16_f32)) grow)
  let st := tr shrink
  let rsw := swap128 rr
  let asw := swap128 aa
  let low := top v6
  let c0 := chunk v3 v6 v64 v92 (select v6 aa rsw) (select v6 rr asw)
    (top (hi bt)) (top (mid bt)) (top (lo bt)) (top (hi kt)) (top (mid kt)) (top (lo kt))
    (hi (select low va (swap64 va))) (hi (select low vb (swap64 vb)))
    (shapeCast S64x128 s shapeCasts_S1x64x128_S64x128)
    (extractStridedSlice S1x128 ![63, 0] st slices_S128x128_o63_0_S1x128)
  let c1 := chunk v3 v6 v64 v92 (select v6 asw rr) (select v6 rsw aa)
    (bot (hi bt)) (bot (mid bt)) (bot (lo bt)) (bot (hi kt)) (bot (mid kt)) (bot (lo kt))
    (hi (select low (swap64 va) va)) (hi (select low (swap64 vb) vb)) c0.s
    (extractStridedSlice S1x128 ![127, 0] st slices_S128x128_o127_0_S1x128)
  ⟨c1.s, c0.y, c1.y⟩

/-- The stored output of the first head of a pair. -/
def outA (v6 : IVec S128x128 1) (p : Pair F) (rs : FVec F S1x1x128 .f32) : FVec F S64x128 .bf16 :=
  truncf .bf16 (mulf (select (top v6) (swap64 p.y0) p.y1)
    (broadcastTo S64x128 (shapeCast S1x128 rs shapeCasts_S1x1x128_S1x128) broadcasts_S1x128_S64x128)) bitsLt_bf16_f32
/-- The stored output of the second head of a pair. -/
def outB (v6 : IVec S128x128 1) (p : Pair F) (rs : FVec F S1x1x128 .f32) : FVec F S64x128 .bf16 :=
  truncf .bf16 (mulf (select (top v6) p.y0 (swap64 p.y1))
    (broadcastTo S64x128 (shapeCast S1x128 rs shapeCasts_S1x1x128_S1x128) broadcasts_S1x128_S64x128)) bitsLt_bf16_f32

end Cert.KernelIdeal.M

end
-- ==== Proof.V.Up.lean ====
/- Vectors of real numbers: how each operation of the body acts on arrays whose entries are real numbers, written as
   functions of the row and the lane. -/
module

public import proofs.«01_k».proof.Proof.V.Model
public import Idealize.ShloMosaic.Lib.Pointwise

@[expose] public section

set_option maxRecDepth 16384

noncomputable section

namespace Cert.KernelIdeal.M

open Idealize.ShloMosaic Cert.KernelIdeal Cert.KernelIdeal.Facts₀ Cert.KernelIdeal.Facts

/-- The array of real numbers with entry `X i j` at row `i` and lane `j`. -/
def up {n m : ℕ} {φ : FTy} (X : ℕ → ℕ → ℝ) : FVec Ideal ⟨2, ![n, m]⟩ φ :=
  fun i => ((X (i 0).val (i 1).val : ℝ) : EReal)

/-- The mask that is set where `P i j`. -/
def mk {n m : ℕ} (P : ℕ → ℕ → Bool) : IVec ⟨2, ![n, m]⟩ 1 :=
  fun i => BitVec.ofBool (P (i 0).val (i 1).val)

section
variable {n m : ℕ} {φ ψ : FTy}

@[simp] theorem up_ix2 (X : ℕ → ℕ → ℝ) (a : Fin n) (b : Fin m) :
    (up X : FVec Ideal ⟨2, ![n, m]⟩ φ) (ix2 a b) = ((X a.val b.val : ℝ) : EReal) := rfl

@[simp] theorem mk_ix2 (P : ℕ → ℕ → Bool) (a : Fin n) (b : Fin m) :
    (mk P : IVec ⟨2, ![n, m]⟩ 1) (ix2 a b) = BitVec.ofBool (P a.val b.val) := rfl

theorem up_congr (X Y : ℕ → ℕ → ℝ) (h : ∀ i < n, ∀ j < m, X i j = Y i j) :
    (up X : FVec Ideal ⟨2, ![n, m]⟩ φ) = up Y := by
  funext i
  exact congrArg _ (h _ (i 0).isLt _ (i 1).isLt)

theorem addf_up (X Y : ℕ → ℕ → ℝ) :
    addf (up X : FVec Ideal ⟨2, ![n, m]⟩ φ) (up Y) = up (fun i j => X i j + Y i j) := by
  funext i; pointwise [up]; exact (EReal.coe_add _ _).symm
theorem subf_up (X Y : ℕ → ℕ → ℝ) :
    subf (up X : FVec Ideal ⟨2, ![n, m]⟩ φ) (up Y) = up (fun i j => X i j - Y i j) := by
  funext i; pointwise [up]; exact (EReal.coe_sub _ _).symm
theorem mulf_up (X Y : ℕ → ℕ → ℝ) :
    mulf (up X : FVec Ideal ⟨2, ![n, m]⟩ φ) (up Y) = up (fun i j => X i j * Y i j) := by
  funext i; pointwise [up]; exact (EReal.coe_mul _ _).symm
theorem exp2_up (X : ℕ → ℕ → ℝ) :
    exp2 (up X : FVec Ideal ⟨2, ![n, m]⟩ φ) = up (fun i j => Real.rpow 2 (X i j)) := by
  funext i; pointwise [up]; exact Ideal.exp2_coe _
theorem extf_up (X : ℕ → ℕ → ℝ) (h) :
    extf ψ (up X : FVec Ideal ⟨2, ![n, m]⟩ φ) h = up X := by
  funext i; pointwise [up]
theorem truncf_up (X : ℕ → ℕ → ℝ) (h) :
    truncf ψ (up X : FVec Ideal ⟨2, ![n, m]⟩ φ) h = up X := by
  funext i; pointwise [up]

theorem hi_up (X : ℕ → ℕ → ℝ) : hi (up X : FVec Ideal ⟨2, ![n, m]⟩ .f32) = up X := truncf_up _ _
theorem rest_up (X : ℕ → ℕ → ℝ) : rest (up X : FVec Ideal ⟨2, ![n, m]⟩ .f32) = up (fun _ _ => 0) := by
  unfold rest; rw [hi_up, extf_up, subf_up]; simp
theorem mid_up (X : ℕ → ℕ → ℝ) : mid (up X : FVec Ideal ⟨2, ![n, m]⟩ .f32) = up (fun _ _ => 0) := by
  unfold mid; rw [rest_up, hi_up]
theorem lo_up (X : ℕ → ℕ → ℝ) : lo (up X : FVec Ideal ⟨2, ![n, m]⟩ .f32) = up (fun _ _ => 0) := by
  unfold lo; rw [rest_up, rest_up, hi_up]
theorem zf_up : (zf (F := Ideal) ⟨2, ![n, m]⟩) = up (fun _ _ => 0) := by
  funext i; pointwise [up, zf]; rfl
theorem zh_up : (zh (F := Ideal) ⟨2, ![n, m]⟩) = up (fun _ _ => 0) := by
  funext i; pointwise [up, zh]; rfl

theorem select_up (P : ℕ → ℕ → Bool) (X Y : ℕ → ℕ → ℝ) :
    select (mk P) (up X : FVec Ideal ⟨2, ![n, m]⟩ φ) (up Y) = up (fun i j => if P i j then X i j else Y i j) := by
  funext i; pointwise [up, mk]
  cases P (i 0).val (i 1).val <;> simp
end

theorem top_up {φ : FTy} (X : ℕ → ℕ → ℝ) : top (up X : FVec Ideal S128x128 φ) = (up X : FVec Ideal S64x128 φ) := by
  funext i; idx_vars i; pointwise [top]; rfl
theorem bot_up {φ : FTy} (X : ℕ → ℕ → ℝ) :
    bot (up X : FVec Ideal S128x128 φ) = (up (fun i j => X (64 + i) j) : FVec Ideal S64x128 φ) := by
  funext i; idx_vars i; pointwise [bot]; rfl
theorem top_mk (P : ℕ → ℕ → Bool) : top (mk P : IVec S128x128 1) = (mk P : IVec S64x128 1) := by
  funext i; idx_vars i; pointwise [top]; rfl
theorem over_up {φ : FTy} (X Y : ℕ → ℕ → ℝ) :
    over (up X : FVec Ideal S64x128 φ) (up Y) = (up (fun i j => if i < 64 then X i j else Y (i - 64) j) : FVec Ideal S128x128 φ) := by
  funext i; idx_vars i; pointwise [over]; split <;> simp_all
theorem beside_up {φ : FTy} (X Y : ℕ → ℕ → ℝ) :
    beside (up X : FVec Ideal S64x128 φ) (up Y) = (up (fun i j => if j < 128 then X i j else Y i (j - 128)) : FVec Ideal S64x256 φ) := by
  funext i; idx_vars i; pointwise [beside]; split <;> simp_all
theorem lft_up {φ : FTy} (X : ℕ → ℕ → ℝ) : lft (up X : FVec Ideal S64x256 φ) = (up X : FVec Ideal S64x128 φ) := by
  funext i; idx_vars i; pointwise [lft]; rfl
theorem rgt_up {φ : FTy} (X : ℕ → ℕ → ℝ) :
    rgt (up X : FVec Ideal S64x256 φ) = (up (fun i j => X i (128 + j)) : FVec Ideal S64x128 φ) := by
  funext i; idx_vars i; pointwise [rgt]; rfl
theorem swap128_up (X : ℕ → ℕ → ℝ) :
    swap128 (F := Ideal) (up X) = up (fun i j => X i ((j + 64) % 128)) := by
  funext i; idx_vars i; pointwise [swap128]; simp only [up_ix2]
  rw [show (i1.val + 128 - 64) % 128 = (i1.val + 64) % 128 by omega]
theorem swap64_up (X : ℕ → ℕ → ℝ) :
    swap64 (F := Ideal) (up X) = up (fun i j => X i ((j + 64) % 128)) := by
  funext i; idx_vars i; pointwise [swap64]; simp only [up_ix2]
  rw [show (i1.val + 128 - 64) % 128 = (i1.val + 64) % 128 by omega]

end Cert.KernelIdeal.M

end
-- ==== Proof.V.Dot.lean ====
/- The matrix products of the body on arrays of real numbers: the pieces below the leading one vanish, so each six-product
   is one product of real matrices. -/
module

public import proofs.«01_k».proof.Proof.V.Up

@[expose] public section

set_option maxRecDepth 16384

noncomputable section

namespace Cert.KernelIdeal.M

open Idealize.ShloMosaic Cert.KernelIdeal Cert.KernelIdeal.Facts₀ Cert.KernelIdeal.Facts
open Finset

theorem coe_sum_range (K : ℕ) (f g : ℕ → ℝ) :
    (∑ k : Fin K, ((f k.val : ℝ) : EReal) * ((g k.val : ℝ) : EReal)) = ((∑ k ∈ range K, f k * g k : ℝ) : EReal) := by
  rw [← Fin.sum_univ_eq_sum_range (fun k => f k * g k) K]
  induction K with
  | zero => simp
  | succ n ih => rw [Fin.sum_univ_castSucc, Fin.sum_univ_castSucc, EReal.coe_add, EReal.coe_mul]; exact congrArg (· + _) ih

/-- Two stacked blocks of rows in block-diagonal arrangement. -/
def bd (Y : ℕ → ℕ → ℝ) (c J : ℕ) : ℝ :=
  if c < 64 then (if J < 128 then Y c J else 0) else (if J < 128 then 0 else Y c (J - 128))

theorem bdiag_up (Y : ℕ → ℕ → ℝ) : bdiag (F := Ideal) (up Y) = up (bd Y) := by
  unfold bdiag
  rw [top_up, bot_up, zh_up, beside_up, beside_up]
  funext i; idx_vars i
  pointwise []
  simp only [bd, up_ix2]
  split_ifs <;> first | rfl | (congr 2; omega)

/-- The six pieces of the left operand. -/
def six1 (X : ℕ → ℕ → ℝ) (i k : ℕ) : ℝ :=
  if k < 128 then 0 else if k - 128 < 128 then X i (k - 128) else if k - 128 - 128 < 128 then 0 else if k - 128 - 128 - 128 < 128 then 0 else if k - 128 - 128 - 128 - 128 < 128 then X i (k - 128 - 128 - 128 - 128) else X i (k - 128 - 128 - 128 - 128 - 128)
/-- The six pieces of the right operand. -/
def six2 (Y : ℕ → ℕ → ℝ) (k j : ℕ) : ℝ :=
  if k < 128 then Y k j else if k - 128 < 128 then 0 else if k - 128 - 128 < 128 then 0 else if k - 128 - 128 - 128 < 128 then Y (k - 128 - 128 - 128) j else if k - 128 - 128 - 128 - 128 < 128 then 0 else Y (k - 128 - 128 - 128 - 128 - 128) j

theorem sum_six (X Y : ℕ → ℕ → ℝ) (i j : ℕ) :
    ∑ k ∈ range 768, six1 X i k * six2 Y k j = ∑ k ∈ range 128, X i k * Y k j := by
  rw [show (768 : ℕ) = 640 + 128 from rfl, sum_range_add, sum_eq_zero, zero_add]
  · refine sum_congr rfl fun k hk => ?_
    have := mem_range.mp hk
    simp only [six1, six2]
    rw [if_neg (by omega), if_neg (by omega), if_neg (by omega), if_neg (by omega), if_neg (by omega), if_neg (by omega),
      if_neg (by omega), if_neg (by omega), if_neg (by omega), if_neg (by omega), show 640 + k - 128 - 128 - 128 - 128 - 128 = k by omega]
  · intro k hk
    have := mem_range.mp hk
    simp only [six1, six2]
    split_ifs <;> first | omega | simp

theorem sum_bd (X : ℕ → ℝ) (Y : ℕ → ℕ → ℝ) (J : ℕ) :
    ∑ c ∈ range 128, X c * bd Y c J =
      if J < 128 then ∑ c ∈ range 64, X c * Y c J else ∑ c ∈ range 64, X (64 + c) * Y (64 + c) (J - 128) := by
  rw [show (128 : ℕ) = 64 + 64 from rfl, sum_range_add]
  split
  · rw [add_eq_left.mpr]
    · refine sum_congr rfl fun k hk => ?_
      have := mem_range.mp hk
      rw [bd, if_pos this, if_pos (by assumption)]
    · refine sum_eq_zero fun k hk => ?_
      rw [bd, if_neg (by omega), if_pos (by assumption), mul_zero]
  · rw [add_eq_right.mpr]
    · refine sum_congr rfl fun k hk => ?_
      rw [bd, if_neg (by omega), if_neg (by assumption)]
    · refine sum_eq_zero fun k hk => ?_
      have := mem_range.mp hk
      rw [bd, if_pos this, if_neg (by assumption), mul_zero]

theorem six256_up (Y : ℕ → ℕ → ℝ) :
    six256 (F := Ideal) (up Y) (up fun _ _ => 0) (up fun _ _ => 0) = up (six2 Y) := by
  funext i; idx_vars i
  pointwise [six256]
  simp only [six2, up_ix2, dite_eq_ite, apply_ite Real.toEReal]
theorem six128_up (Y : ℕ → ℕ → ℝ) :
    six128 (F := Ideal) (up Y) (up fun _ _ => 0) (up fun _ _ => 0) = up (six2 Y) := by
  funext i; idx_vars i
  pointwise [six128]
  simp only [six2, up_ix2, dite_eq_ite, apply_ite Real.toEReal]
theorem row64_up (X : ℕ → ℕ → ℝ) :
    row64 (F := Ideal) (up X) (up fun _ _ => 0) (up fun _ _ => 0) = up (six1 X) := by
  funext i; idx_vars i
  pointwise [row64]
  simp only [six1, up_ix2, dite_eq_ite, apply_ite Real.toEReal]

theorem bd_zero : bd (fun _ _ => 0) = fun _ _ => 0 := by
  funext c J; simp [bd]

theorem tiles_up (B K A : ℕ → ℕ → ℝ) :
    tiles (F := Ideal) (up B) (up fun _ _ => 0) (up fun _ _ => 0) (up K) (up fun _ _ => 0) (up fun _ _ => 0) (up A) =
      up (fun i J => if J < 128 then ∑ c ∈ range 64, (if i < 64 then B i c else K (i - 64) c) * A c J
        else ∑ c ∈ range 64, (if i < 64 then B i (64 + c) else K (i - 64) (64 + c)) * A (64 + c) (J - 128)) := by
  unfold tiles
  rw [hi_up, mid_up, lo_up, bdiag_up, bdiag_up, bd_zero, six256_up, over_up, over_up]
  have hX : concatenate S128x768 1 [
      ⟨S128x128, (up fun i j => if i < 64 then (fun _ _ => (0 : ℝ)) i j else (fun _ _ => (0 : ℝ)) (i - 64) j : FVec Ideal S128x128 .bf16)⟩,
      ⟨S128x128, up fun i j => if i < 64 then B i j else K (i - 64) j⟩,
      ⟨S128x128, up fun i j => if i < 64 then (fun _ _ => (0 : ℝ)) i j else (fun _ _ => (0 : ℝ)) (i - 64) j⟩,
      ⟨S128x128, up fun i j => if i < 64 then (fun _ _ => (0 : ℝ)) i j else (fun _ _ => (0 : ℝ)) (i - 64) j⟩,
      ⟨S128x128, up fun i j => if i < 64 then B i j else K (i - 64) j⟩,
      ⟨S128x128, up fun i j => if i < 64 then B i j else K (i - 64) j⟩]
      concatenates_S128x128_S128x128_S128x128_S128x128_S128x128_S128x128_S128x768_d1 =
      (up (six1 fun i j => if i < 64 then B i j else K (i - 64) j) : FVec Ideal S128x768 .bf16) := by
    funext i; idx_vars i
    pointwise []
    simp only [six1, up_ix2, ite_self, dite_eq_ite, apply_ite Real.toEReal]
  rw [hX]
  funext i; idx_vars i
  pointwise []
  simp only [up_ix2]
  rw [coe_sum_range 768 (fun k => six1 (fun i j => if i < 64 then B i j else K (i - 64) j) i0.val k) (fun k => six2 (bd A) k i1.val),
    sum_six, sum_bd]

theorem dotB_up (X Y : ℕ → ℕ → ℝ) :
    dotB (F := Ideal) (up X) (bdiag (up Y)) (bdiag (up fun _ _ => 0)) (bdiag (up fun _ _ => 0)) =
      up (fun i J => if J < 128 then ∑ c ∈ range 64, X i c * Y c J
        else ∑ c ∈ range 64, X i (64 + c) * Y (64 + c) (J - 128)) := by
  unfold dotB
  rw [hi_up, mid_up, lo_up, bdiag_up, bdiag_up, bd_zero, six256_up, row64_up]
  funext i; idx_vars i
  pointwise []
  simp only [up_ix2]
  rw [coe_sum_range 768 (fun k => six1 X i0.val k) (fun k => six2 (bd Y) k i1.val), sum_six, sum_bd]

theorem dotW_up (X W : ℕ → ℕ → ℝ) :
    dotW (F := Ideal) (up X) (up W) = up (fun i j => ∑ c ∈ range 128, X i c * W c j) := by
  unfold dotW
  rw [hi_up, mid_up, lo_up, hi_up, mid_up, lo_up, six128_up, row64_up]
  funext i; idx_vars i
  pointwise []
  simp only [up_ix2]
  rw [coe_sum_range 768 (fun k => six1 X i0.val k) (fun k => six2 W k i1.val), sum_six]

theorem dotQ_up (X W : ℕ → ℕ → ℝ) :
    dotQ (F := Ideal) (up X) (up W) = up (fun i j => ∑ c ∈ range 128, X i c * W c j) := by
  unfold dotQ
  rw [hi_up, mid_up, lo_up, hi_up, mid_up, lo_up, six128_up]
  have hX : concatenate S32x768 1 [⟨S32x128, (up fun _ _ => 0 : FVec Ideal S32x128 .bf16)⟩, ⟨S32x128, up X⟩,
      ⟨S32x128, up fun _ _ => 0⟩, ⟨S32x128, up fun _ _ => 0⟩, ⟨S32x128, up X⟩, ⟨S32x128, up X⟩]
      concatenates_S32x128_S32x128_S32x128_S32x128_S32x128_S32x128_S32x768_d1 = (up (six1 X) : FVec Ideal S32x768 .bf16) := by
    funext i; idx_vars i
    pointwise []
    simp only [six1, up_ix2, dite_eq_ite, apply_ite Real.toEReal]
  rw [hX]
  funext i; idx_vars i
  pointwise []
  simp only [up_ix2]
  rw [coe_sum_range 768 (fun k => six1 X i0.val k) (fun k => six2 W k i1.val), sum_six]

theorem beside_zero {φ : FTy} :
    beside (up fun _ _ => 0 : FVec Ideal S64x128 φ) (up fun _ _ => 0) = up fun _ _ => 0 := by
  rw [beside_up]; simp only [ite_self]

theorem dotV_up (V T K : ℕ → ℕ → ℝ) :
    dotV (F := Ideal) (up V) (up T) (up K) (up fun _ _ => 0) (up fun _ _ => 0) =
      up (fun i J => ∑ s ∈ range 64, V i s * (if J < 128 then T s J else K s (J - 128))) := by
  unfold dotV
  rw [hi_up, mid_up, lo_up, zh_up, beside_zero, beside_up, beside_up]
  have hY : concatenate S256x256 0 [⟨S64x256, (up fun _ _ => 0 : FVec Ideal S64x256 .bf16)⟩, ⟨S64x256, up fun _ _ => 0⟩,
      ⟨S64x256, up fun i j => if j < 128 then T i j else K i (j - 128)⟩, ⟨S64x256, up fun _ _ => 0⟩]
      concatenates_S64x256_S64x256_S64x256_S64x256_S256x256_d0 =
      (up (fun k j => if k < 64 then 0 else if k - 64 < 64 then 0 else if k - 64 - 64 < 64 then (if j < 128 then T (k - 64 - 64) j else K (k - 64 - 64) (j - 128)) else 0) :
        FVec Ideal S256x256 .bf16) := by
    funext i; idx_vars i
    pointwise []
    simp only [up_ix2, dite_eq_ite, apply_ite Real.toEReal]
  rw [hY]
  funext i; idx_vars i
  pointwise []
  simp only [up_ix2]
  rw [coe_sum_range 256 (fun j => if j < 128 then V i0.val j else V i0.val (j - 128))
    (fun k => if k < 64 then 0 else if k - 64 < 64 then 0 else if k - 64 - 64 < 64 then (if i1.val < 128 then T (k - 64 - 64) i1.val else K (k - 64 - 64) (i1.val - 128)) else 0)]
  refine congrArg _ ?_
  generalize i1.val = J
  generalize i0.val = I
  rw [show (256 : ℕ) = 128 + (64 + 64) from rfl, sum_range_add, sum_range_add, sum_eq_zero, zero_add, add_eq_left.mpr]
  · refine sum_congr rfl fun k hk => ?_
    have := mem_range.mp hk
    rw [if_neg (by omega), if_neg (by omega), if_neg (by omega), if_pos (by omega), show 128 + k - 128 = k by omega,
      show 128 + k - 64 - 64 = k by omega]
  · refine sum_eq_zero fun k hk => ?_
    rw [if_neg (by omega), if_neg (by omega), if_neg (by omega), if_neg (by omega), mul_zero]
  · intro k hk
    have := mem_range.mp hk
    split_ifs <;> first | omega | simp

end Cert.KernelIdeal.M

end
-- ==== Proof.V.Ref.lean ====
/- One trip of the reference's loop on real numbers. -/
module

public import proofs.«01_k».proof.Proof.RefStepRun
public import proofs.«01_k».proof.Proof.V.Dot
public import Idealize.ShloMosaic.PureOps.Ideal.Laws
public import Idealize.ShloMosaic.Lib.WordCmp
public import Idealize.ShloMosaic.Lib.ValueIdxCore

@[expose] public section

set_option maxRecDepth 16384
set_option maxHeartbeats 4000000

noncomputable section

namespace Cert.ReferenceIdeal.V

open Idealize.ShloMosaic Idealize.ShloMosaic.TcCoe Cert.ReferenceIdeal Idealize.ShloMosaic.Tactic
open Cert.ReferenceIdeal.Step Finset
open Idealize.ShloMosaic.ValueIdx (contrEquiv1 contrEquiv1_symm_val)

/-- A rank-four array of real numbers. -/
def r4 {n0 n1 n2 n3 : ℕ} {φ : FTy} (X : ℕ → ℕ → ℕ → ℕ → ℝ) : FVec Ideal ⟨4, ![n0, n1, n2, n3]⟩ φ :=
  fun i => ((X (i 0).val (i 1).val (i 2).val (i 3).val : ℝ) : EReal)

/-- A rank-three array of real numbers. -/
def r3 {n0 n1 n2 : ℕ} {φ : FTy} (X : ℕ → ℕ → ℕ → ℝ) : FVec Ideal ⟨3, ![n0, n1, n2]⟩ φ :=
  fun i => ((X (i 0).val (i 1).val (i 2).val : ℝ) : EReal)

theorem start_eq {n : ℕ} (hn : n < 2048) (z1 z2 z3 : IVec S_ 32) (h1 : z1 = constantI S_ 32 0#32) (h2 : z2 = constantI S_ 32 0#32)
    (h3 : z3 = constantI S_ 32 0#32) (k : Fin 4) :
    ((![(constantI S_ 32 (BitVec.ofNat 32 n) : IVec S_ 32), z1, z2, z3] : Fin 4 → IVec S_ 32) k (Shape.Idx.first Gen.h_S_)).toInt
      = ((![n, 0, 0, 0] : Fin 4 → ℕ) k : ℤ) := by
  subst h1 h2 h3
  match k with
  | ⟨0, _⟩ =>
    show (BitVec.ofNat 32 n).toInt = (n : ℤ)
    rw [BitVec.toInt_eq_toNat_of_lt] <;> simp [BitVec.toNat_ofNat] <;> omega
  | ⟨1, _⟩ => rfl
  | ⟨2, _⟩ => rfl
  | ⟨3, _⟩ => rfl

/-- The block one trip reads. -/
theorem slice_r4 {n : ℕ} (hn : n < 2048) (X : ℕ → ℕ → ℕ → ℕ → ℝ) (st : Fin 4 → ℤ) (hst : ∀ a, st a = ((![n, 0, 0, 0] : Fin 4 → ℕ) a : ℤ))
    (hs : S2048x96x12x64.Slices (fun _ => 0) S1x96x12x64) (hc : S1x96x12x64.ShapeCasts S96x12x64) :
    shapeCast S96x12x64 (Host.dynamicSlice S1x96x12x64 (r4 (φ := .f32) X : FVec Ideal S2048x96x12x64 .f32) st hs) hc
      = (r3 (φ := .f32) (X n) : FVec Ideal S96x12x64 .f32) := by
  have hk : S2048x96x12x64.Slices (![n, 0, 0, 0] : Fin 4 → ℕ) S1x96x12x64 := by
    refine ⟨rfl, fun a => ?_⟩
    match a with
    | ⟨0, _⟩ => show n + 1 ≤ 2048; omega
    | ⟨1, _⟩ => show 0 + 96 ≤ 96; omega
    | ⟨2, _⟩ => show 0 + 12 ≤ 12; omega
    | ⟨3, _⟩ => show 0 + 64 ≤ 64; omega
  rw [WordCmp.dynamicSlice_eq_extract _ _ st hs _ hk hst]
  funext i
  refine (shapeCast_apply _ hc i (ix4 (0 : Fin 1) (i 0) (i 1) (i 2)) ?_).trans ?_
  · rw [Shape.rowMajor_val_three, Shape.rowMajor_val_four]
    simp [ix4]
  show ((X (n + 0) (0 + (i 0).val) (0 + (i 1).val) (0 + (i 2).val) : ℝ) : EReal) = ((X n (i 0).val (i 1).val (i 2).val : ℝ) : EReal)
  simp only [Nat.zero_add, Nat.add_zero]

/-- The batched product over the last axis. -/
theorem dot_r4 (S : ℕ → ℕ → ℕ → ℕ → ℝ) (x : ℕ → ℕ → ℕ → ℝ) :
    Host.dotGeneral dot_S96x12x64x64_S96x12x64_S96x12x64_3_2_2_n_01_01 (some .fp32) (r4 (φ := .f32) S : FVec Ideal S96x12x64x64 .f32) (r3 (φ := .f32) x : FVec Ideal S96x12x64 .f32)
      = (r3 (fun b h v => ∑ c ∈ range 64, S b h v c * x b h c) : FVec Ideal S96x12x64 .f32) := by
  funext j
  let D := dot_S96x12x64x64_S96x12x64_S96x12x64_3_2_2_n_01_01
  have c0 : D.contr.size ⟨0, by decide⟩ = 64 := rfl
  simp only [Host.dotGeneral]
  rw [Ideal.dotGeneral_apply, ← Equiv.sum_comp (contrEquiv1 D 64 rfl c0).symm]
  refine Eq.trans (Finset.sum_congr rfl fun cc _ => ?_) (Cert.KernelIdeal.M.coe_sum_range 64 (fun c => S (j 0).val (j 1).val (j 2).val c) (fun c => x (j 0).val (j 1).val c))
  have h0 := contrEquiv1_symm_val D 64 rfl c0 cc
  have el : D.lhsIdx j ((contrEquiv1 D 64 rfl c0).symm cc) = ix4 (j 0) (j 1) (j 2) cc := by
    funext a; apply Fin.ext
    match a with
    | ⟨0, _⟩ => rfl
    | ⟨1, _⟩ => rfl
    | ⟨2, _⟩ => rfl
    | ⟨3, _⟩ => exact h0
  have er : D.rhsIdx j ((contrEquiv1 D 64 rfl c0).symm cc) = ix3 (j 0) (j 1) cc := by
    funext a; apply Fin.ext
    match a with
    | ⟨0, _⟩ => rfl
    | ⟨1, _⟩ => rfl
    | ⟨2, _⟩ => exact h0
  rw [el, er]
  rfl

/-- The reference's state on real numbers. -/
def st (S Y C0 C1 C2 C3 C4 C5 : ℕ → ℕ → ℕ → ℕ → ℝ) : State Ideal :=
  { main_v31_7 := r4 (φ := .f32) S, main_v31_8 := r4 (φ := .f32) Y, main_v31_0 := r4 (φ := .f32) C0, main_v31_1 := r4 (φ := .f32) C1, main_v31_2 := r4 (φ := .f32) C2,
    main_v31_3 := r4 (φ := .f32) C3, main_v31_4 := r4 (φ := .f32) C4, main_v31_5 := r4 (φ := .f32) C5 }

/-- The state array after one trip. -/
def nx (S C1 C2 C3 C4 C5 : ℕ → ℕ → ℕ → ℕ → ℝ) (n b h v c : ℕ) : ℝ :=
  S b h v c * C3 n b h c + (∑ c' ∈ range 64, S b h v c' * C4 n b h c') * C5 n b h c + C2 n b h v * C1 n b h c

variable (S Y C0 C1 C2 C3 C4 C5 : ℕ → ℕ → ℕ → ℕ → ℝ)

theorem b45_st {n : ℕ} (hn : n < 2048) :
    b45 n (st S Y C0 C1 C2 C3 C4 C5) = (r4 (nx S C1 C2 C3 C4 C5 n) : FVec Ideal S96x12x64x64 .f32) := by
  have e9 : b9 n (st S Y C0 C1 C2 C3 C4 C5) = (r3 (C1 n) : FVec Ideal S96x12x64 .f32) :=
    slice_r4 hn C1 _ (start_eq hn _ _ _ rfl rfl rfl) _ _
  have e14 : b14 n (st S Y C0 C1 C2 C3 C4 C5) = (r3 (C2 n) : FVec Ideal S96x12x64 .f32) :=
    slice_r4 hn C2 _ (start_eq hn _ _ _ rfl rfl rfl) _ _
  have e19 : b19 n (st S Y C0 C1 C2 C3 C4 C5) = (r3 (C3 n) : FVec Ideal S96x12x64 .f32) :=
    slice_r4 hn C3 _ (start_eq hn _ _ _ rfl rfl rfl) _ _
  have e24 : b24 n (st S Y C0 C1 C2 C3 C4 C5) = (r3 (C4 n) : FVec Ideal S96x12x64 .f32) :=
    slice_r4 hn C4 _ (start_eq hn _ _ _ rfl rfl rfl) _ _
  have e29 : b29 n (st S Y C0 C1 C2 C3 C4 C5) = (r3 (C5 n) : FVec Ideal S96x12x64 .f32) :=
    slice_r4 hn C5 _ (start_eq hn _ _ _ rfl rfl rfl) _ _
  have e30 : b30 n (st S Y C0 C1 C2 C3 C4 C5) = (r3 (fun b h v => ∑ c ∈ range 64, S b h v c * C4 n b h c) : FVec Ideal S96x12x64 .f32) := by
    unfold b30; rw [e24]; exact dot_r4 S (C4 n)
  unfold b45 b39 b44 b33 b38 b42 b43 b40 b41 b36 b37 b34 b35 b32 b31
  rw [e9, e14, e19, e29, e30]
  funext i
  show _ + _ + _ = _
  unfold r4 nx
  push_cast
  rfl

theorem b51_st {n : ℕ} (hn : n < 2048) :
    b51 n (st S Y C0 C1 C2 C3 C4 C5)
      = (r4 (fun t b h v => if t = n then ∑ c ∈ range 64, nx S C1 C2 C3 C4 C5 n b h v c * C0 n b h c else Y t b h v) : FVec Ideal S2048x96x12x64 .f32) := by
  have e4 : b4 n (st S Y C0 C1 C2 C3 C4 C5) = (r3 (C0 n) : FVec Ideal S96x12x64 .f32) :=
    slice_r4 hn C0 _ (start_eq hn _ _ _ rfl rfl rfl) _ _
  have e46 : b46 n (st S Y C0 C1 C2 C3 C4 C5)
      = (r3 (fun b h v => ∑ c ∈ range 64, nx S C1 C2 C3 C4 C5 n b h v c * C0 n b h c) : FVec Ideal S96x12x64 .f32) := by
    unfold b46; rw [e4, b45_st S Y C0 C1 C2 C3 C4 C5 hn]; exact dot_r4 _ (C0 n)
  have hk : S2048x96x12x64.Slices (![n, 0, 0, 0] : Fin 4 → ℕ) S1x96x12x64 := by
    refine ⟨rfl, fun a => ?_⟩
    match a with
    | ⟨0, _⟩ => show n + 1 ≤ 2048; omega
    | ⟨1, _⟩ => show 0 + 96 ≤ 96; omega
    | ⟨2, _⟩ => show 0 + 12 ≤ 12; omega
    | ⟨3, _⟩ => show 0 + 64 ≤ 64; omega
  unfold b51 b47
  rw [e46]
  refine (WordCmp.dynamicUpdateSlice_eq_update _ _ _ _ _ hk (start_eq hn _ _ _ rfl rfl rfl)).trans ?_
  funext i
  have i1 : (i 1).val < 96 := (i 1).isLt
  have i2 : (i 2).val < 12 := (i 2).isLt
  have i3 : (i 3).val < 64 := (i 3).isLt
  by_cases hi : (i 0).val = n
  · unfold updateSlice
    rw [dif_pos (by
      intro a
      match a with
      | ⟨0, _⟩ => show n ≤ (i 0).val ∧ (i 0).val < n + 1; omega
      | ⟨1, _⟩ => show 0 ≤ (i 1).val ∧ (i 1).val < 0 + 96; omega
      | ⟨2, _⟩ => show 0 ≤ (i 2).val ∧ (i 2).val < 0 + 12; omega
      | ⟨3, _⟩ => show 0 ≤ (i 3).val ∧ (i 3).val < 0 + 64; omega)]
    exact Eq.trans rfl (congrArg (fun x : ℝ => (x : EReal)) (if_pos hi).symm)
  · unfold updateSlice
    rw [dif_neg (by
      intro h
      have h0 : n ≤ (i 0).val ∧ (i 0).val < n + 1 := h 0
      omega)]
    exact Eq.trans rfl (congrArg (fun x : ℝ => (x : EReal)) (if_neg hi).symm)

theorem step_st {n : ℕ} (hn : n < 2048) :
    step n (st S Y C0 C1 C2 C3 C4 C5)
      = st (nx S C1 C2 C3 C4 C5 n) (fun t b h v => if t = n then ∑ c ∈ range 64, nx S C1 C2 C3 C4 C5 n b h v c * C0 n b h c else Y t b h v)
          C0 C1 C2 C3 C4 C5 := by
  unfold step
  rw [b45_st S Y C0 C1 C2 C3 C4 C5 hn, b51_st S Y C0 C1 C2 C3 C4 C5 hn]
  rfl

end Cert.ReferenceIdeal.V
-- ==== Proof.V.RefW.lean ====
/- The reference's inputs when its loop starts. -/
module

public import proofs.«01_k».proof.Proof.RefStepRun
public import Idealize.ShloMosaic.PureOps.Ideal.Laws
public import Idealize.ShloMosaic.Lib.Pipeline.ValueKit

@[expose] public section

set_option maxRecDepth 16384
set_option maxHeartbeats 4000000

noncomputable section

namespace Cert.ReferenceIdeal.V

open Idealize.ShloMosaic Idealize.ShloMosaic.TcCoe Cert.ReferenceIdeal Idealize.ShloMosaic.Tactic
open Cert.ReferenceIdeal.Gen

variable (m : (ℓ : Loc nD τ sig) → Buf (Elt Ideal) ℓ) (ρ : Dev nD → PrngReg) (c : Dev nD)

/-- The codes of a stream as numbers. -/
def wide (x : IVec S96x2048x12x64 8) : FVec Ideal S96x2048x12x64 .f32 := fun i => Ideal.ofBits .fp8e4m3 (x i)

theorem idx_zero : ∀ t : Fin cfg0.N, win0_0.index t = ![0, 0, 0, 0] ∧ win0_1.index t = ![0, 0, 0, 0] ∧ win0_2.index t = ![0, 0, 0, 0] :=
  (by decide +kernel : ∀ t : Fin grid0.N, _)

theorem V1_r : V1 m ρ c main_v0 = (bitcastToFloat .fp8e4m3 (m ((c : Thread nD τ).loc main_arg0) : IVec S96x2048x12x64 8) : FVec Ideal S96x2048x12x64 .fp8e4m3) := by
  show StableHlo.after _ _ (Proc.devRef .tc main_v0) = _
  after_results

theorem iblk_r (t : Fin cfg0.N) : iblk0 (V1 m ρ) c 0 t = V1 m ρ c main_v0 := by
  blk_ext! [iblk0, idx_zero t]

theorem arr_r : (dat0 (V1 m ρ) c).arrAt 3 cfg0.N = wide (m ((c : Thread nD τ).loc main_arg0)) := by
  refine (dat0 (V1 m ρ) c).arrAt_eq_of_after_last 3 t0_0 (by decide +kernel) _ fun j => ?_
  blk_simp
  rw [after0_3]
  unfold out0_3
  frame_out
  rw [iblk_r, V1_r]
  pointwise [k0_pay1, wide]

theorem V1_k : V1 m ρ c main_v1 = (bitcastToFloat .fp8e4m3 (m ((c : Thread nD τ).loc main_arg1) : IVec S96x2048x12x64 8) : FVec Ideal S96x2048x12x64 .fp8e4m3) := by
  show StableHlo.after _ _ (Proc.devRef .tc main_v1) = _
  after_results

theorem iblk_k (t : Fin cfg0.N) : iblk0 (V1 m ρ) c 1 t = V1 m ρ c main_v1 := by
  blk_ext! [iblk0, idx_zero t]

theorem arr_k : (dat0 (V1 m ρ) c).arrAt 4 cfg0.N = wide (m ((c : Thread nD τ).loc main_arg1)) := by
  refine (dat0 (V1 m ρ) c).arrAt_eq_of_after_last 4 t0_0 (by decide +kernel) _ fun j => ?_
  blk_simp
  rw [after0_4]
  unfold out0_4
  frame_out
  rw [iblk_k, V1_k]
  pointwise [k0_pay2, wide]

theorem V1_v : V1 m ρ c main_v2 = (bitcastToFloat .fp8e4m3 (m ((c : Thread nD τ).loc main_arg2) : IVec S96x2048x12x64 8) : FVec Ideal S96x2048x12x64 .fp8e4m3) := by
  show StableHlo.after _ _ (Proc.devRef .tc main_v2) = _
  after_results

theorem iblk_v (t : Fin cfg0.N) : iblk0 (V1 m ρ) c 2 t = V1 m ρ c main_v2 := by
  blk_ext! [iblk0, idx_zero t]

theorem arr_v : (dat0 (V1 m ρ) c).arrAt 5 cfg0.N = wide (m ((c : Thread nD τ).loc main_arg2)) := by
  refine (dat0 (V1 m ρ) c).arrAt_eq_of_after_last 5 t0_0 (by decide +kernel) _ fun j => ?_
  blk_simp
  rw [after0_5]
  unfold out0_5
  frame_out
  rw [iblk_v, V1_v]
  pointwise [k0_pay3, wide]

theorem went_r : Went m ρ c (Proc.devRef .tc main_v3_0) = wide (m ((c : Thread nD τ).loc main_arg0)) := by
  rw [Went_eq, W3_of m ρ c _ (by decide)]
  exact (W2_arr m ρ c 3).trans (arr_r m ρ c)

theorem went_k : Went m ρ c (Proc.devRef .tc main_v3_1) = wide (m ((c : Thread nD τ).loc main_arg1)) := by
  rw [Went_eq, W3_of m ρ c _ (by decide)]
  exact (W2_arr m ρ c 4).trans (arr_k m ρ c)

theorem went_v : Went m ρ c (Proc.devRef .tc main_v3_2) = wide (m ((c : Thread nD τ).loc main_arg2)) := by
  rw [Went_eq, W3_of m ρ c _ (by decide)]
  exact (W2_arr m ρ c 5).trans (arr_v m ρ c)

theorem init_eq : Cert.ReferenceIdeal.StepRun.initState m ρ c
    = Step.init (F := Ideal) (m ((c : Thread nD τ).loc main_arg9)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (wide (m ((c : Thread nD τ).loc main_arg0))) (wide (m ((c : Thread nD τ).loc main_arg1))) (wide (m ((c : Thread nD τ).loc main_arg2))) := by
  unfold Cert.ReferenceIdeal.StepRun.initState
  rw [went_r, went_k, went_v, Went_eq, W3_args m ρ c main_arg3 (by decide), W3_args m ρ c main_arg4 (by decide), W3_args m ρ c main_arg5 (by decide),
    W3_args m ρ c main_arg6 (by decide), W3_args m ρ c main_arg7 (by decide), W3_args m ρ c main_arg8 (by decide), W3_args m ρ c main_arg9 (by decide)]

end Cert.ReferenceIdeal.V
-- ==== Proof.KI.Indep.lean ====
/- One trip of the loop stores into the window of `y` without reading it: the pieces a trip stores, and with them all the
   pieces of the trips before any trip, do not depend on what that window held at loop entry. -/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (v3 : IVec S128x128 32) (v6 : IVec S128x128 1) (v22 : IVec S128x128 32) (v64 : IVec S128x128 1) (v66 : IVec S128x128 32) (v68 : IVec S128x128 32) (v82 : IVec S128x128 1) (v86 : IVec S128x128 1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty)

/-- A trip's pieces do not depend on what the window of `y` holds. -/
theorem tripL_indep (k : Fin k0_t1_loop.trips) (f f' : BufTy.Contents (Elt F) arg14.view.ty) (g : BufTy.Contents (Elt F) arg16.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f g
      = tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f' g := by
  unfold tripL_k0_t1 trip_k0_t1
  rfl

/-- The pieces of the trips before `k` do not depend on what the window of `y` held at loop entry. -/
theorem pb_indep (G G' : BufTy.Contents (Elt F) arg14.view.ty) (H : BufTy.Contents (Elt F) arg16.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 G H k
      = pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 G' H k := by
  induction k with
  | zero => rfl
  | succ k ih =>
    rw [pb_k0_t1.eq_2, pb_k0_t1.eq_2, ih]
    unfold pb_k0_t1Step
    split
    · rw [tripL_indep (f := arg14.view.writes (Elt F) G _) (f' := arg14.view.writes (Elt F) G' _)]
    · rfl

end Cert.KernelIdeal.Gen

end
-- ==== Proof.KI.RunA.lean ====
/- The whole body's run in case A of its conditionals, the pieces it leaves found by execution. Taken from the generated
   frame text; what differs is the step that states the pieces independently of what the output window held before. -/
module

public import proofs.«01_k».proof.Proof.KI.Indep
public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 560: 36 of 576), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) :
    Σ' (L11 : List (View.Piece (Elt F) S8x256x128 .bf16)), Σ' (L12 : List (View.Piece (Elt F) S8x64x256 .f32)), { LS0 : List (View.Piece (Elt F) S8x64x256 .f32) //
      ∀ (xi12 : Vec F S8x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12
    sl_exec (disch := first | sl_exact hc0 | sl_exact hc1)
    sl_step
    iapply Hk
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.KernelIdeal.Gen

end
-- ==== Proof.KI.RunB.lean ====
/- The whole body's run in case B of its conditionals, the pieces it leaves found by execution. Taken from the generated
   frame text; what differs is the step that states the pieces independently of what the output window held before. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 574: 504 of 576), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) :
    Σ' (L11 : List (View.Piece (Elt F) S8x256x128 .bf16)), Σ' (L12 : List (View.Piece (Elt F) S8x64x256 .f32)), { LS0 : List (View.Piece (Elt F) S8x64x256 .f32) //
      ∀ (xi12 : Vec F S8x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12; obtain rfl := harg16.eq_unread hfs0
    sl_exec (disch := first | sl_exact hc0 | sl_exact hc1)
    sl_step
    iapply Hk
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.KernelIdeal.Gen

end
-- ==== Proof.KI.RunC.lean ====
/- The whole body's run in case C of its conditionals, the pieces it leaves found by execution. Taken from the generated
   frame text; what differs is the step that states the pieces independently of what the output window held before. -/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 575: 36 of 576), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) :
    Σ' (L11 : List (View.Piece (Elt F) S8x256x128 .bf16)), Σ' (L12 : List (View.Piece (Elt F) S8x64x256 .f32)), { LS0 : List (View.Piece (Elt F) S8x64x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg16.eq_unread hfs0
    sl_exec (disch := first | sl_exact hc0 | sl_exact hc1)
    sl_step
    iapply Hk
    delta kernelRun0_C.sl.v97
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]; · iexists _; iexact H12
    iexists _; iexact HS0

end Cert.KernelIdeal.Gen

end
-- ==== Proof.KI.Frame.lean ====
/- What each grid point leaves in the outputs and in the carried scratch, the run of the whole program, and the
   frame claim, over the hand copies of the case runs (RunA, RunB, RunC). -/
module

public import proofs.«01_k».proof.Proof.KI.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 11 tile its block (32 stores of `S1x64x128`, checked by the kernel's evaluation: Lib/Ring.lean `Piece.tiledL`, linear in the pieces, through a loop's `@[irreducible]` trip theorem too), so they cover it. -/
theorem cover0_A_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (y : S8x256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1 S1x64x128.size (by sl_kernel_rfl) y

/-- What case A leaves in output 11's staging buffer: its pieces read back over junk. -/
def out0_A_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x256x128 .bf16 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1)

/-- Case A stores nothing into output 12 (the window is idle at its points and not written back there):
    no pieces — a placeholder (junk read back) that nothing consults, since at these points the window is neither
    written back nor read at the next point (Lib/Pipeline.lean "Idle points"). -/
def out0_A_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x64x256 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1)

/-- Case A's pieces for scratch `arg16`, which the kernel carries between points, cover it: one of them a store of the WHOLE buffer (Lib/Ring.lean `sl_whole_mem`). -/
theorem scover0_A_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (y : S8x64x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 (by sl_whole_mem) y

/-- What case A leaves in scratch `arg16`: its pieces read back over junk. -/
def sout0_A_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x64x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1)

/-- Case B's pieces for output 11 tile its block (32 stores of `S1x64x128`, checked by the kernel's evaluation: Lib/Ring.lean `Piece.tiledL`, linear in the pieces, through a loop's `@[irreducible]` trip theorem too), so they cover it. -/
theorem cover0_B_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S1x64x128.size (by sl_kernel_rfl) y

/-- What case B leaves in output 11's staging buffer: its pieces read back over junk. -/
def out0_B_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x256x128 .bf16 :=
  VO0_11.read (Elt F) (VO0_11.writes (Elt F) VO0_11.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case B stores nothing into output 12 (the window is idle at its points and not written back there):
    no pieces — a placeholder (junk read back) that nothing consults, since at these points the window is neither
    written back nor read at the next point (Lib/Pipeline.lean "Idle points"). -/
def out0_B_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case B's pieces for scratch `arg16`, which the kernel carries between points, cover it: 16 pieces of `S1x64x128` tiling it (Lib/Ring.lean `Piece.tiledL`). -/
theorem scover0_B_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x64x128.size (by sl_kernel_rfl) y

/-- What case B leaves in scratch `arg16`: its pieces read back over junk. -/
def sout0_B_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-- Case C's pieces for output 11 tile its block (32 stores of `S1x64x128`, checked by the kernel's evaluation: Lib/Ring.lean `Piece.tiledL`, linear in the pieces, through a loop's `@[irreducible]` trip theorem too), so they cover it. -/
theorem cover0_C_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S1x64x128.size (by sl_kernel_rfl) y

/-- What case C leaves in output 11's staging buffer: its pieces read back over junk. -/
def out0_C_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x256x128 .bf16 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case C's pieces for output 12 tile its block (1 store of `S8x64x256`, checked by the kernel's evaluation: Lib/Ring.lean `Piece.tiledL`, linear in the pieces, through a loop's `@[irreducible]` trip theorem too), so they cover it. -/
theorem cover0_C_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1 S8x64x256.size (by sl_kernel_rfl) y

/-- What case C leaves in output 12's staging buffer: its pieces read back over junk. -/
def out0_C_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case C's pieces for scratch `arg16`, which the kernel carries between points, cover it: 16 pieces of `S1x64x128` tiling it (Lib/Ring.lean `Piece.tiledL`). -/
theorem scover0_C_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x64x128.size (by sl_kernel_rfl) y

/-- What case C leaves in scratch `arg16`: its pieces read back over junk. -/
def sout0_C_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x256x128 .bf16 × Vec F S8x64x256 .f32 × Vec F S8x64x256 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 16 = 0 then
      if h1 : (n + 1) % 16 = 15 then
        False.elim (by have hN : n + 1 < 576 := lt_of_lt_of_eq hn (show cfg0.N = 576 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 16 = 15 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)
      else
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 576 := lt_of_lt_of_eq t.isLt (show cfg0.N = 576 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
      · rw [PhiS_castSucc m c t, PhiS_pos m c _ _ hz]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexists _; iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 576 := lt_of_lt_of_eq t.isLt (show cfg0.N = 576 from N_0); omega
      · rw [PhiS_castSucc m c t, PhiS_pos m c _ _ hz]
        rw [outsAt0_C m c t h0 h1]
        unfold out0_C_11 out0_C_12 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        iintro ⟨H0, H1, H2, H3, H4, H5, H6, H7, H8, H9, H10, ⟨%e11, H11⟩, ⟨%e12, H12⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 576 := lt_of_lt_of_eq t.isLt (show cfg0.N = 576 from N_0); omega
      · rw [PhiS_castSucc m c t, PhiS_pos m c _ _ hz]
        rw [outsAt0_B m c t h0 h1]
        unfold out0_B_11 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 576 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := sfx_sub) (hfresh := sfx_fresh) (hkeep := sfx_keeps) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (`FramePost`, `afterTail₀`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.KI.Value.lean ====
/- The output arrays after the run as folds over the grid points, over the hand copy of the frame. -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 16 = 0) (h1 : ¬t.val % 16 = 15) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 16 = 0) (h1 : ¬t.val % 16 = 15) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  simp only [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 16 = 0) (h1 : t.val % 16 = 15) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  simp only [flushed11, outsAt0_C m c t h0 h1]

-- no `blocks11`: window 11's index map is injective over its 576 points, but past 200 points that is decided here only for a window whose block index on one axis is the point's position;
-- the final array is still the frame's `arrAt`, to read with Lib/Pipeline/Value.lean's lemmas by hand

/-- An index that no flushing point's block covers keeps output window 11's array contents at region entry. -/
theorem entry11 (c : Dev nD) (i : S96x768x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 1), read through the window's block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 16 = 0) (h1 : ¬t.val % 16 = 15) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed12, outsAt0_A m c t h0 h1]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 16 = 0) (h1 : ¬t.val % 16 = 15) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  simp only [flushed12, outsAt0_B m c t h0 h1]

/-- … so at a point where case C runs, what its write-back would write is that case's NAMED TERM for the window (`Gen.out0_C_12`: the pieces
    its run found, read back) at the point's memrefs and input blocks, and for an output the case reads back what the point before left (`Gen.outsAt0` at `t - 1`) — by the frame's rewriting lemma for the case. -/
theorem flushed12_C (c : Dev nD) (t : Fin cfg0.N) (h0 : ¬t.val % 16 = 0) (h1 : t.val % 16 = 15) :
    (dats m 0 c).flushed 12 t = (cfg0.win 12).cut (grid0.coords t) (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  simp only [flushed12, outsAt0_C m c t h0 h1]

-- no `blocks12`: window 12's index map revisits a block index, or its points could not be enumerated here;
-- the final array is still the frame's `arrAt`, to read with Lib/Pipeline/Value.lean's lemmas by hand

/-- An index that no flushing point's block covers keeps output window 12's array contents at region entry. -/
theorem entry12 (c : Dev nD) (i : S96x64x768.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, argument `main_arg0` is as launched: no window stages it, and no line of the host writes it. -/
theorem kept_main_arg0 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- After the frame run, argument `main_arg1` is as launched: no window stages it, and no line of the host writes it. -/
theorem kept_main_arg1 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)

/-- After the frame run, argument `main_arg2` is as launched: no window stages it, and no line of the host writes it. -/
theorem kept_main_arg2 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).2 main_arg2 (Pipeline.mem_restRefs_of main_arg2 (by decide) (by decide))).trans (W_main_arg2 m (dats m) c)

/-- After the frame run, argument `main_arg3` is as launched: no window stages it, and no line of the host writes it. -/
theorem kept_main_arg3 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).2 main_arg3 (Pipeline.mem_restRefs_of main_arg3 (by decide) (by decide))).trans (W_main_arg3 m (dats m) c)

/-- After the frame run, argument `main_arg4` is as launched: no window stages it, and no line of the host writes it. -/
theorem kept_main_arg4 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).2 main_arg4 (Pipeline.mem_restRefs_of main_arg4 (by decide) (by decide))).trans (W_main_arg4 m (dats m) c)

/-- After the frame run, argument `main_arg5` is as launched: no window stages it, and no line of the host writes it. -/
theorem kept_main_arg5 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)

/-- After the frame run, argument `main_arg6` is as launched: no window stages it, and no line of the host writes it. -/
theorem kept_main_arg6 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)

/-- After the frame run, argument `main_arg7` is as launched: no window stages it, and no line of the host writes it. -/
theorem kept_main_arg7 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)

/-- After the frame run, argument `main_arg8` is as launched: no window stages it, and no line of the host writes it. -/
theorem kept_main_arg8 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg8) = m ((c : Thread nD τ).loc main_arg8) :=
  ((h c).2 main_arg8 (Pipeline.mem_restRefs_of main_arg8 (by decide) (by decide))).trans (W_main_arg8 m (dats m) c)

/-- After the frame run, argument `main_arg9` is as launched: no window stages it, and no line of the host writes it. -/
theorem kept_main_arg9 (r : PUnit × MemSt nD τ sig (Elt F)) (h : Pipeline.FramePost cfgs (dats m) 0 (Pipeline.afterTail₀ cfgs (dats m) 0 (V0 m) [hostOps1]) r) (c : Dev nD) :
    r.2.mem ((c : Thread nD τ).loc main_arg9) = m ((c : Thread nD τ).loc main_arg9) :=
  ((h c).2 main_arg9 (Pipeline.mem_restRefs_of main_arg9 (by decide) (by decide))).trans (W_main_arg9 m (dats m) c)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_0 (c : Dev nD) (n : ℕ) (hb : n < cfg0.N) (acc : Vec F S8x64x256 .f32) : Vec F S8x64x256 .f32 :=
  if h0 : n % 16 = 0 then
    if h1 : n % 16 = 15 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
  else
    if h1 : n % 16 = 15 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2) 16 (fun n h => scAt0_0 m c n h (VS0_0.read (Elt F) VS0_0.junk)) (scAt0_0 m c)
    (fun n h hn => by
      have hN := lt_of_lt_of_eq h (show cfg0.N = 576 from N_0)
      by_cases h0 : n % 16 = 0 <;> by_cases h1 : n % 16 = 15
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 576 from N_0)
      by_cases h0 : (n + 1) % 16 = 0 <;> by_cases h1 : (n + 1) % 16 = 15
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S8x256x128 .bf16 × Vec F S8x64x256 .f32 × Vec F S8x64x256 .f32 :=
  ((VO0_11.read (Elt F) VO0_11.junk, VO0_12.read (Elt F) VO0_12.junk, VS0_0.read (Elt F) VS0_0.junk) : Vec F S8x256x128 .bf16 × Vec F S8x64x256 .f32 × Vec F S8x64x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S8x256x128 .bf16 × Vec F S8x64x256 .f32 × Vec F S8x64x256 .f32) : Vec F S8x256x128 .bf16 × Vec F S8x64x256 .f32 × Vec F S8x64x256 .f32 :=
  if h0 : n % 16 = 0 then
    if h1 : n % 16 = 15 then
      False.elim (by have hN : n < 576 := lt_of_lt_of_eq hb (show cfg0.N = 576 from N_0); omega)
    else
      (out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)))
  else
    if h1 : n % 16 = 15 then
      (out0_C_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, out0_C_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2)
    else
      (out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2)

/-- `stAt0` at a point of case A: that case's contents. -/
theorem stAt0_A (c : Dev nD) (t : Fin cfg0.N) (acc : Vec F S8x256x128 .bf16 × Vec F S8x64x256 .f32 × Vec F S8x64x256 .f32) (h0 : t.val % 16 = 0) (h1 : ¬t.val % 16 = 15) :
    stAt0 m c t.val t.isLt acc = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) :=
  (dif_pos h0).trans ((dif_neg h1).trans rfl)

/-- `stAt0` at a point of case B: that case's contents, over `acc`. -/
theorem stAt0_B (c : Dev nD) (t : Fin cfg0.N) (acc : Vec F S8x256x128 .bf16 × Vec F S8x64x256 .f32 × Vec F S8x64x256 .f32) (h0 : ¬t.val % 16 = 0) (h1 : ¬t.val % 16 = 15) :
    stAt0 m c t.val t.isLt acc = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2) :=
  (dif_neg h0).trans ((dif_neg h1).trans rfl)

/-- `stAt0` at a point of case C: that case's contents, over `acc`. -/
theorem stAt0_C (c : Dev nD) (t : Fin cfg0.N) (acc : Vec F S8x256x128 .bf16 × Vec F S8x64x256 .f32 × Vec F S8x64x256 .f32) (h0 : ¬t.val % 16 = 0) (h1 : t.val % 16 = 15) :
    stAt0 m c t.val t.isLt acc = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 576 from N_0)
  have e := Pipeline.eq_accAt_of_mod (fun n h => outsAt0 m c n h) 576 (fun n h => stAt0 m c n h junk0) (stAt0 m c)
    (fun n h _ => by
      have hN := lt_of_lt_of_eq h (show cfg0.N = 576 from N_0)
      obtain rfl : n = 0 := by omega
      exact outsAt0_zero m c h)
    (fun n h _ => outsAt0_succ m c n h)
    (by decide) n hn (by have := Nat.div_add_mod n 576; omega)
  have hd : n / 576 = 0 := Nat.div_eq_of_lt hN
  have hm : n % 576 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 11 -/

/-- The block of the array that holds index `i`, numbered in the order the points write the blocks back (one per point),
    `i`'s place in it, and the point that writes it back. -/
abbrev run11Of (i : S96x768x2048.Idx) : ℕ := 48 * ((i 0).val / 8 - 0) + 16 * ((i 1).val / 256 - 0) + 1 * ((i 2).val / 128 - 0)
set_option backward.proofsInPublic true in
abbrev loc11Of (i : S96x768x2048.Idx) : S8x256x128.Idx := fun a => match a with
  | ⟨0, _⟩ => ⟨(i 0).val % 8, Nat.mod_lt _ (by decide)⟩
  | ⟨1, _⟩ => ⟨(i 1).val % 256, Nat.mod_lt _ (by decide)⟩
  | ⟨2, _⟩ => ⟨(i 2).val % 128, Nat.mod_lt _ (by decide)⟩
abbrev pt11Of (i : S96x768x2048.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v36_0) := fun i =>
  if h : pt11Of i < cfg0.N then
    (Pipeline.accAt (fun n h => stAt0 m c n h junk0) (stAt0 m c) 0 (pt11Of i) (by omega)).1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 3) ∧ win0_11.index t (0 : Fin 3) ≤ 11
    ∧ 0 ≤ win0_11.index t (1 : Fin 3) ∧ win0_11.index t (1 : Fin 3) ≤ 2
    ∧ 0 ≤ win0_11.index t (2 : Fin 3) ∧ win0_11.index t (2 : Fin 3) ≤ 15
    ∧ 48 * (win0_11.index t (0 : Fin 3) - 0) + 16 * (win0_11.index t (1 : Fin 3) - 0) + 1 * (win0_11.index t (2 : Fin 3) - 0) = t.val :=
  (by decide +kernel : ∀ t : Fin grid0.N, _)

/-- Every block of the box is SOME flushing point's: `onto11Pt`, the point that writes back the block at place `q` of the box. -/
abbrev onto11Pt (q0 : Fin 12) (q1 : Fin 3) (q2 : Fin 16) : Fin grid0.N :=
  ⟨48 * q0.val + 16 * q1.val + 1 * q2.val, lt_of_lt_of_eq (by omega) N_0.symm⟩
theorem idx_onto11 : ∀ (q0 : Fin 12) (q1 : Fin 3) (q2 : Fin 16), ∃ t : Fin cfg0.N, (cfg0.win 11).flush t = true ∧ win0_11.index t = ![q0.val + 0, q1.val + 0, q2.val + 0] :=
  fun q0 q1 q2 => ⟨onto11Pt q0 q1 q2, (by decide +kernel : ∀ (q0 : Fin 12) (q1 : Fin 3) (q2 : Fin 16), win0_11.flush (onto11Pt q0 q1 q2) = true ∧ win0_11.index (onto11Pt q0 q1 q2) = ![q0.val + 0, q1.val + 0, q2.val + 0]) q0 q1 q2⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2, e3⟩ := idx_facts11 t
  funext y
  have hy0 : (y 0).val < 8 := (y 0).isLt
  have hy1 : (y 1).val < 256 := (y 1).isLt
  have hy2 : (y 2).val < 128 := (y 2).isLt
  have hb0 : (((cfg0.win 11).blk t).view.emb y 0).val = win0_11.index t (0 : Fin 3) * 8 + 1 * (y 0).val := rfl
  have hb1 : (((cfg0.win 11).blk t).view.emb y 1).val = win0_11.index t (1 : Fin 3) * 256 + 1 * (y 1).val := rfl
  have hb2 : (((cfg0.win 11).blk t).view.emb y 2).val = win0_11.index t (2 : Fin 3) * 128 + 1 * (y 2).val := rfl
  have hr : run11Of (((cfg0.win 11).blk t).view.emb y) = t.val := by
    show 48 * ((((cfg0.win 11).blk t).view.emb y 0).val / 8 - 0) + 16 * ((((cfg0.win 11).blk t).view.emb y 1).val / 256 - 0) + 1 * ((((cfg0.win 11).blk t).view.emb y 2).val / 128 - 0) = _
    rw [hb0, hb1, hb2]
    rw [show (win0_11.index t (0 : Fin 3) * 8 + 1 * (y 0).val) / 8 = win0_11.index t (0 : Fin 3) from by omega]; rw [show (win0_11.index t (1 : Fin 3) * 256 + 1 * (y 1).val) / 256 = win0_11.index t (1 : Fin 3) from by omega]; rw [show (win0_11.index t (2 : Fin 3) * 128 + 1 * (y 2).val) / 128 = win0_11.index t (2 : Fin 3) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 8 = (y 0).val; rw [hb0]; omega
    | ⟨1, _⟩ => show (((cfg0.win 11).blk t).view.emb y 1).val % 256 = (y 1).val; rw [hb1]; omega
    | ⟨2, _⟩ => show (((cfg0.win 11).blk t).view.emb y 2).val % 128 = (y 2).val; rw [hb2]; omega
  have hp : pt11Of (((cfg0.win 11).blk t).view.emb y) = t.val := by
    exact hr
  show (Pipeline.accAt (fun n h => stAt0 m c n h junk0) (stAt0 m c) 0 t.val _).1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S96x768x2048.Idx) :
    i ∈ ((cfg0.win 11).blk t).view.set ↔ ∀ a : Fin 3, win0_11.index t a * S8x256x128.size a ≤ (i a).val ∧ (i a).val < win0_11.index t a * S8x256x128.size a + S8x256x128.size a := by
  show i ∈ ((View.whole main_v36_0).slice (win0_11.rect t)).set ↔ _
  rw [View.set_slice_whole, Rect.mem_set_unit]
  exact Iff.rfl

/-- THE COVERED INDICES: in some flushing point's block iff inside the box those blocks fill. -/
theorem covered_iff11 (i : S96x768x2048.Idx) :
    (∃ t : Fin cfg0.N, (cfg0.win 11).flush t = true ∧ i ∈ ((cfg0.win 11).blk t).view.set) ↔ 0 ≤ (i 0).val ∧ (i 0).val < 96 ∧ 0 ≤ (i 1).val ∧ (i 1).val < 768 ∧ 0 ≤ (i 2).val ∧ (i 2).val < 2048 := by
  constructor
  · rintro ⟨t, -, hi⟩
    rw [mem_blk11] at hi
    have b0 : win0_11.index t (0 : Fin 3) * 8 ≤ (i 0).val ∧ (i 0).val < win0_11.index t (0 : Fin 3) * 8 + 8 := hi 0
    have b1 : win0_11.index t (1 : Fin 3) * 256 ≤ (i 1).val ∧ (i 1).val < win0_11.index t (1 : Fin 3) * 256 + 256 := hi 1
    have b2 : win0_11.index t (2 : Fin 3) * 128 ≤ (i 2).val ∧ (i 2).val < win0_11.index t (2 : Fin 3) * 128 + 128 := hi 2
    obtain ⟨e0, e1, e2, e3⟩ := idx_facts11 t
    omega
  · intro h
    have hi0 : (i 0).val < 96 := (i 0).isLt
    have hi1 : (i 1).val < 768 := (i 1).isLt
    have hi2 : (i 2).val < 2048 := (i 2).isLt
    obtain ⟨t, hft, ht⟩ := idx_onto11 ⟨(i 0).val / 8 - 0, by omega⟩ ⟨(i 1).val / 256 - 0, by omega⟩ ⟨(i 2).val / 128 - 0, by omega⟩
    have q0 : win0_11.index t (0 : Fin 3) = (i 0).val / 8 - 0 + 0 := congrFun ht 0
    have q1 : win0_11.index t (1 : Fin 3) = (i 1).val / 256 - 0 + 0 := congrFun ht 1
    have q2 : win0_11.index t (2 : Fin 3) = (i 2).val / 128 - 0 + 0 := congrFun ht 2
    refine ⟨t, hft, ?_⟩
    rw [mem_blk11]
    intro a
    match a with
    | ⟨0, _⟩ => show win0_11.index t (0 : Fin 3) * 8 ≤ (i 0).val ∧ (i 0).val < win0_11.index t (0 : Fin 3) * 8 + 8; omega
    | ⟨1, _⟩ => show win0_11.index t (1 : Fin 3) * 256 ≤ (i 1).val ∧ (i 1).val < win0_11.index t (1 : Fin 3) * 256 + 256; omega
    | ⟨2, _⟩ => show win0_11.index t (2 : Fin 3) * 128 ≤ (i 2).val ∧ (i 2).val < win0_11.index t (2 : Fin 3) * 128 + 128; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 96 := (i 0).isLt; have h1 : (i 1).val < 768 := (i 1).isLt; have h2 : (i 2).val < 2048 := (i 2).isLt; omega))

/-! ## Output window 12 -/

/-- The block of the array that holds index `i`, numbered in the order the points write the blocks back (one every 16 points),
    `i`'s place in it, and the point that writes it back (the last of its 16). -/
abbrev run12Of (i : S96x64x768.Idx) : ℕ := 3 * ((i 0).val / 8 - 0) + 3 * ((i 1).val / 64 - 0) + 1 * ((i 2).val / 256 - 0)
set_option backward.proofsInPublic true in
abbrev loc12Of (i : S96x64x768.Idx) : S8x64x256.Idx := fun a => match a with
  | ⟨0, _⟩ => ⟨(i 0).val % 8, Nat.mod_lt _ (by decide)⟩
  | ⟨1, _⟩ => ⟨(i 1).val % 64, Nat.mod_lt _ (by decide)⟩
  | ⟨2, _⟩ => ⟨(i 2).val % 256, Nat.mod_lt _ (by decide)⟩
abbrev pt12Of (i : S96x64x768.Idx) : ℕ := 16 * run12Of i + 15

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v36_1) := fun i =>
  if h : pt12Of i < cfg0.N then
    (Pipeline.accAt (fun n h => stAt0 m c n h junk0) (stAt0 m c) 0 (pt12Of i) (by omega)).2.1 (loc12Of i)
  else V m c (Pipeline.arrRef spec0 12) i

/-- The printed index map, decided over the grid: output window 12's block indices stay in the box, and the block number
    read off them is the point's (`t / 16`). -/
theorem idx_facts12 : ∀ t : Fin cfg0.N, 0 ≤ win0_12.index t (0 : Fin 3) ∧ win0_12.index t (0 : Fin 3) ≤ 11
    ∧ 0 ≤ win0_12.index t (1 : Fin 3) ∧ win0_12.index t (1 : Fin 3) ≤ 0
    ∧ 0 ≤ win0_12.index t (2 : Fin 3) ∧ win0_12.index t (2 : Fin 3) ≤ 2
    ∧ 3 * (win0_12.index t (0 : Fin 3) - 0) + 3 * (win0_12.index t (1 : Fin 3) - 0) + 1 * (win0_12.index t (2 : Fin 3) - 0) = t.val / 16 :=
  (by decide +kernel : ∀ t : Fin grid0.N, _)

/-- Every block of the box is SOME flushing point's: `onto12Pt`, the point that writes back the block at place `q` of the box (the last point of its run). -/
abbrev onto12Pt (q0 : Fin 12) (q1 : Fin 1) (q2 : Fin 3) : Fin grid0.N :=
  ⟨16 * (3 * q0.val + 3 * q1.val + 1 * q2.val) + 15, lt_of_lt_of_eq (by omega) N_0.symm⟩
theorem idx_onto12 : ∀ (q0 : Fin 12) (q1 : Fin 1) (q2 : Fin 3), ∃ t : Fin cfg0.N, (cfg0.win 12).flush t = true ∧ win0_12.index t = ![q0.val + 0, q1.val + 0, q2.val + 0] :=
  fun q0 q1 q2 => ⟨onto12Pt q0 q1 q2, (by decide +kernel : ∀ (q0 : Fin 12) (q1 : Fin 1) (q2 : Fin 3), win0_12.flush (onto12Pt q0 q1 q2) = true ∧ win0_12.index (onto12Pt q0 q1 q2) = ![q0.val + 0, q1.val + 0, q2.val + 0]) q0 q1 q2⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  have hm : t.val % 16 = 15 := (flush0_12 t).mp hf
  obtain ⟨e0, e1, e2, e3⟩ := idx_facts12 t
  funext y
  have hy0 : (y 0).val < 8 := (y 0).isLt
  have hy1 : (y 1).val < 64 := (y 1).isLt
  have hy2 : (y 2).val < 256 := (y 2).isLt
  have hb0 : (((cfg0.win 12).blk t).view.emb y 0).val = win0_12.index t (0 : Fin 3) * 8 + 1 * (y 0).val := rfl
  have hb1 : (((cfg0.win 12).blk t).view.emb y 1).val = win0_12.index t (1 : Fin 3) * 64 + 1 * (y 1).val := rfl
  have hb2 : (((cfg0.win 12).blk t).view.emb y 2).val = win0_12.index t (2 : Fin 3) * 256 + 1 * (y 2).val := rfl
  have hr : run12Of (((cfg0.win 12).blk t).view.emb y) = t.val / 16 := by
    show 3 * ((((cfg0.win 12).blk t).view.emb y 0).val / 8 - 0) + 3 * ((((cfg0.win 12).blk t).view.emb y 1).val / 64 - 0) + 1 * ((((cfg0.win 12).blk t).view.emb y 2).val / 256 - 0) = _
    rw [hb0, hb1, hb2]
    rw [show (win0_12.index t (0 : Fin 3) * 8 + 1 * (y 0).val) / 8 = win0_12.index t (0 : Fin 3) from by omega]; rw [show (win0_12.index t (1 : Fin 3) * 64 + 1 * (y 1).val) / 64 = win0_12.index t (1 : Fin 3) from by omega]; rw [show (win0_12.index t (2 : Fin 3) * 256 + 1 * (y 2).val) / 256 = win0_12.index t (2 : Fin 3) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 8 = (y 0).val; rw [hb0]; omega
    | ⟨1, _⟩ => show (((cfg0.win 12).blk t).view.emb y 1).val % 64 = (y 1).val; rw [hb1]; omega
    | ⟨2, _⟩ => show (((cfg0.win 12).blk t).view.emb y 2).val % 256 = (y 2).val; rw [hb2]; omega
  have hp : pt12Of (((cfg0.win 12).blk t).view.emb y) = t.val := by
    show 16 * run12Of (((cfg0.win 12).blk t).view.emb y) + 15 = _
    rw [hr]; have := Nat.div_add_mod t.val 16; omega
  show (Pipeline.accAt (fun n h => stAt0 m c n h junk0) (stAt0 m c) 0 t.val _).2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S96x64x768.Idx) :
    i ∈ ((cfg0.win 12).blk t).view.set ↔ ∀ a : Fin 3, win0_12.index t a * S8x64x256.size a ≤ (i a).val ∧ (i a).val < win0_12.index t a * S8x64x256.size a + S8x64x256.size a := by
  show i ∈ ((View.whole main_v36_1).slice (win0_12.rect t)).set ↔ _
  rw [View.set_slice_whole, Rect.mem_set_unit]
  exact Iff.rfl

/-- THE COVERED INDICES: in some flushing point's block iff inside the box those blocks fill. -/
theorem covered_iff12 (i : S96x64x768.Idx) :
    (∃ t : Fin cfg0.N, (cfg0.win 12).flush t = true ∧ i ∈ ((cfg0.win 12).blk t).view.set) ↔ 0 ≤ (i 0).val ∧ (i 0).val < 96 ∧ 0 ≤ (i 1).val ∧ (i 1).val < 64 ∧ 0 ≤ (i 2).val ∧ (i 2).val < 768 := by
  constructor
  · rintro ⟨t, -, hi⟩
    rw [mem_blk12] at hi
    have b0 : win0_12.index t (0 : Fin 3) * 8 ≤ (i 0).val ∧ (i 0).val < win0_12.index t (0 : Fin 3) * 8 + 8 := hi 0
    have b1 : win0_12.index t (1 : Fin 3) * 64 ≤ (i 1).val ∧ (i 1).val < win0_12.index t (1 : Fin 3) * 64 + 64 := hi 1
    have b2 : win0_12.index t (2 : Fin 3) * 256 ≤ (i 2).val ∧ (i 2).val < win0_12.index t (2 : Fin 3) * 256 + 256 := hi 2
    obtain ⟨e0, e1, e2, e3⟩ := idx_facts12 t
    omega
  · intro h
    have hi0 : (i 0).val < 96 := (i 0).isLt
    have hi1 : (i 1).val < 64 := (i 1).isLt
    have hi2 : (i 2).val < 768 := (i 2).isLt
    obtain ⟨t, hft, ht⟩ := idx_onto12 ⟨(i 0).val / 8 - 0, by omega⟩ ⟨(i 1).val / 64 - 0, by omega⟩ ⟨(i 2).val / 256 - 0, by omega⟩
    have q0 : win0_12.index t (0 : Fin 3) = (i 0).val / 8 - 0 + 0 := congrFun ht 0
    have q1 : win0_12.index t (1 : Fin 3) = (i 1).val / 64 - 0 + 0 := congrFun ht 1
    have q2 : win0_12.index t (2 : Fin 3) = (i 2).val / 256 - 0 + 0 := congrFun ht 2
    refine ⟨t, hft, ?_⟩
    rw [mem_blk12]
    intro a
    match a with
    | ⟨0, _⟩ => show win0_12.index t (0 : Fin 3) * 8 ≤ (i 0).val ∧ (i 0).val < win0_12.index t (0 : Fin 3) * 8 + 8; omega
    | ⟨1, _⟩ => show win0_12.index t (1 : Fin 3) * 64 ≤ (i 1).val ∧ (i 1).val < win0_12.index t (1 : Fin 3) * 64 + 64; omega
    | ⟨2, _⟩ => show win0_12.index t (2 : Fin 3) * 256 ≤ (i 2).val ∧ (i 2).val < win0_12.index t (2 : Fin 3) * 256 + 256; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 96 := (i 0).isLt; have h1 : (i 1).val < 64 := (i 1).isLt; have h2 : (i 2).val < 768 := (i 2).isLt; omega))

/-! ## The run, read -/

/-- The first result: the output array of window 11 split into heads, its axes in the order of the arguments. -/
def O11 (c : Dev nD) : (⟨S96x2048x12x64, .bf16⟩ : BufTy).Contents (Elt F) :=
  transpose S96x2048x12x64 [0, 3, 1, 2] (shapeCast S96x12x64x2048 (G11 m c) shapeCasts_S96x768x2048_S96x12x64x2048) transposes_S96x12x64x2048_S96x2048x12x64_0_3_1_2

/-- The second result: the output array of window 12 split into heads, its axes in the order of the state argument. -/
def O12 (c : Dev nD) : (⟨S96x12x64x64, .f32⟩ : BufTy).Contents (Elt F) :=
  transpose S96x12x64x64 [0, 2, 1, 3] (shapeCast S96x64x12x64 (G12 m c) shapeCasts_S96x64x768_S96x64x12x64) transposes_S96x64x12x64_S96x12x64x64_0_2_1_3

/-- What the lines after the region leave in the first result's buffer. -/
theorem tail_v38 (c : Dev nD) : Pipeline.afterTail₀ cfgs (dats m) 0 (V0 m) [hostOps1] c main_v38 = O11 m c := by
  unfold Pipeline.afterTail₀
  simp only [hostOps1, List.flatten_cons, List.flatten_nil, List.append_nil, List.cons_append, List.nil_append]
  after_results
  unfold O11
  rw [← final11 m c]
  exact congrArg (fun x => transpose S96x2048x12x64 [0, 3, 1, 2] (shapeCast S96x12x64x2048 x shapeCasts_S96x768x2048_S96x12x64x2048) transposes_S96x12x64x2048_S96x2048x12x64_0_3_1_2)
    (Pipeline.withArrays_arr spec0 launch0.win.arr_inj c (V0 m c) _ 11)

/-- What the lines after the region leave in the second result's buffer. -/
theorem tail_v40 (c : Dev nD) : Pipeline.afterTail₀ cfgs (dats m) 0 (V0 m) [hostOps1] c main_v40 = O12 m c := by
  unfold Pipeline.afterTail₀
  simp only [hostOps1, List.flatten_cons, List.flatten_nil, List.append_nil, List.cons_append, List.nil_append]
  after_results
  unfold O12
  rw [← final12 m c]
  exact congrArg (fun x => transpose S96x12x64x64 [0, 2, 1, 3] (shapeCast S96x64x12x64 x shapeCasts_S96x64x768_S96x64x12x64) transposes_S96x64x12x64_S96x12x64x64_0_2_1_3)
    (Pipeline.withArrays_arr spec0 launch0.win.arr_inj c (V0 m c) _ 12)

/-- The frame run re-posted: each result at the fold the runs leave in its window's array, the arguments unchanged. -/
theorem run : θ_run defs (onTc (τ := τ) (main (F := F))) ⟨m, fun _ => 0, ρ⟩ fun r => ∀ c : Dev nD,
      r.2.mem ((c : Thread nD τ).loc main_v38) = O11 m c
      ∧ r.2.mem ((c : Thread nD τ).loc main_v40) = O12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).2 main_v38 (Pipeline.mem_restRefs_of main_v38 (by decide) (by decide))).trans (tail_v38 m c),
      ((h c).2 main_v40 (Pipeline.mem_restRefs_of main_v40 (by decide) (by decide))).trans (tail_v40 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.V.Trip.lean ====
/- The pieces one trip of the batch loop stores, in terms of the named functions of Model.lean. -/
module

public import proofs.«01_k».proof.Proof.Gen.KernelIdeal.Loops
public import proofs.«01_k».proof.Proof.V.Model
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal.Facts₀ Cert.KernelIdeal.Facts

section
variable (v3 : IVec S128x128 32) (v6 v64 v92 : IVec S128x128 1) (x3 x4 x5 : Vec F S8x256x128 .fp8e4m3)
  (x7 x8 : Vec F S4x8x128 .f32) (x9 x10 x11 : Vec F S8x256x128 .bf16) (x13 : Vec F S384x128 .bf16)
  (x16 : Vec F S8x64x256 .f32) (k : Fin k0_t1_loop.trips)

/-- The pair of heads 0 of a trip, from the blocks as a whole. -/
def P0 : M.Pair F :=
  M.pair v3 v6 v64 v92 (View.ld x9 (Rect.unit (k0_off1 k) S1x128x128.size (k0_off1_inb k))) (View.ld x13 (Rect.unit ![0, 0] S384x128.size inb_S384x128_S384x128_0_0))
    (View.ld x10 (Rect.unit (k0_off1 k) S1x128x128.size (k0_off1_inb k))) (View.ld x3 (Rect.unit (k0_off1 k) S1x128x128.size (k0_off1_inb k))) (View.ld x4 (Rect.unit (k0_off1 k) S1x128x128.size (k0_off1_inb k))) (View.ld x11 (Rect.unit (k0_off1 k) S1x128x128.size (k0_off1_inb k)))
    (M.vals (View.ld x7 (Rect.unit (k0_off2 k) S1x1x128.size (k0_off2_inb k))) (View.ld x8 (Rect.unit (k0_off2 k) S1x1x128.size (k0_off2_inb k))) (View.ld x5 (Rect.unit (k0_off3 k) S1x64x128.size (k0_off3_inb k))))
    (M.vals (View.ld x7 (Rect.unit (k0_off4 k) S1x1x128.size (k0_off4_inb k))) (View.ld x8 (Rect.unit (k0_off4 k) S1x1x128.size (k0_off4_inb k))) (View.ld x5 (Rect.unit (k0_off5 k) S1x64x128.size (k0_off5_inb k))))
    (View.ld x16 (Rect.unit (k0_off6 k) S1x64x128.size (k0_off6_inb k)))

/-- The pair of heads 1 of a trip, from the blocks as a whole. -/
def P1 : M.Pair F :=
  M.pair v3 v6 v64 v92 (View.ld x9 (Rect.unit (k0_off7 k) S1x128x128.size (k0_off7_inb k))) (View.ld x13 (Rect.unit ![0, 0] S384x128.size inb_S384x128_S384x128_0_0))
    (View.ld x10 (Rect.unit (k0_off7 k) S1x128x128.size (k0_off7_inb k))) (View.ld x3 (Rect.unit (k0_off7 k) S1x128x128.size (k0_off7_inb k))) (View.ld x4 (Rect.unit (k0_off7 k) S1x128x128.size (k0_off7_inb k))) (View.ld x11 (Rect.unit (k0_off7 k) S1x128x128.size (k0_off7_inb k)))
    (M.vals (View.ld x7 (Rect.unit (k0_off8 k) S1x1x128.size (k0_off8_inb k))) (View.ld x8 (Rect.unit (k0_off8 k) S1x1x128.size (k0_off8_inb k))) (View.ld x5 (Rect.unit (k0_off9 k) S1x64x128.size (k0_off9_inb k))))
    (M.vals (View.ld x7 (Rect.unit (k0_off10 k) S1x1x128.size (k0_off10_inb k))) (View.ld x8 (Rect.unit (k0_off10 k) S1x1x128.size (k0_off10_inb k))) (View.ld x5 (Rect.unit (k0_off11 k) S1x64x128.size (k0_off11_inb k))))
    (View.ld x16 (Rect.unit (k0_off12 k) S1x64x128.size (k0_off12_inb k)))

/-- The pieces of the output window. -/
def tripY (x6 : Vec F S4x8x128 .f32) : List (View.Piece (Elt F) S8x256x128 .bf16) :=
  [⟨Rect.unit (k0_off11 k) S1x64x128.size (k0_off11_inb k), (shapeCast S1x64x128 (M.outB v6 (P1 v3 v6 v64 v92 x3 x4 x5 x7 x8 x9 x10 x11 x13 x16 k) (View.ld x6 (Rect.unit (k0_off10 k) S1x1x128.size (k0_off10_inb k)))) shapeCasts_S64x128_S1x64x128)⟩,
   ⟨Rect.unit (k0_off9 k) S1x64x128.size (k0_off9_inb k), (shapeCast S1x64x128 (M.outA v6 (P1 v3 v6 v64 v92 x3 x4 x5 x7 x8 x9 x10 x11 x13 x16 k) (View.ld x6 (Rect.unit (k0_off8 k) S1x1x128.size (k0_off8_inb k)))) shapeCasts_S64x128_S1x64x128)⟩,
   ⟨Rect.unit (k0_off5 k) S1x64x128.size (k0_off5_inb k), (shapeCast S1x64x128 (M.outB v6 (P0 v3 v6 v64 v92 x3 x4 x5 x7 x8 x9 x10 x11 x13 x16 k) (View.ld x6 (Rect.unit (k0_off4 k) S1x1x128.size (k0_off4_inb k)))) shapeCasts_S64x128_S1x64x128)⟩,
   ⟨Rect.unit (k0_off3 k) S1x64x128.size (k0_off3_inb k), (shapeCast S1x64x128 (M.outA v6 (P0 v3 v6 v64 v92 x3 x4 x5 x7 x8 x9 x10 x11 x13 x16 k) (View.ld x6 (Rect.unit (k0_off2 k) S1x1x128.size (k0_off2_inb k)))) shapeCasts_S64x128_S1x64x128)⟩]

/-- The pieces of the carried state. -/
def tripS : List (View.Piece (Elt F) S8x64x256 .f32) :=
  [⟨Rect.unit (k0_off12 k) S1x64x128.size (k0_off12_inb k), shapeCast S1x64x128 (P1 v3 v6 v64 v92 x3 x4 x5 x7 x8 x9 x10 x11 x13 x16 k).s shapeCasts_S64x128_S1x64x128⟩,
   ⟨Rect.unit (k0_off6 k) S1x64x128.size (k0_off6_inb k), shapeCast S1x64x128 (P0 v3 v6 v64 v92 x3 x4 x5 x7 x8 x9 x10 x11 x13 x16 k).s shapeCasts_S64x128_S1x64x128⟩]
end

variable (𝒱 : Variants) (c : Dev nD) (bd : Option 𝒱.V) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (v3 : IVec S128x128 32) (v6 : IVec S128x128 1) (v22 : IVec S128x128 32) (v64 : IVec S128x128 1) (v66 : IVec S128x128 32) (v68 : IVec S128x128 32) (v82 : IVec S128x128 1) (v86 : IVec S128x128 1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty)

/-- What a trip stores into the state. -/
theorem tripS_eq (k : Fin k0_t1_loop.trips) (f : BufTy.Contents (Elt F) arg14.view.ty) (g : BufTy.Contents (Elt F) arg16.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f g).2 = tripS v3 v6 v64 (k0_pay1 v22 v66 v68 v82 v86) (arg3.view.read (Elt F) X_arg3) (arg4.view.read (Elt F) X_arg4) (arg5.view.read (Elt F) X_arg5) (arg7.view.read (Elt F) X_arg7) (arg8.view.read (Elt F) X_arg8) (arg9.view.read (Elt F) X_arg9) (arg10.view.read (Elt F) X_arg10) (arg11.view.read (Elt F) X_arg11) (arg13.view.read (Elt F) X_arg13) (arg16.view.read (Elt F) g) k := by
  sl_kernel_rfl

/-- What a trip stores into the output. -/
theorem tripY_eq (k : Fin k0_t1_loop.trips) (f : BufTy.Contents (Elt F) arg14.view.ty) (g : BufTy.Contents (Elt F) arg16.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f g).1 = tripY v3 v6 v64 (k0_pay1 v22 v66 v68 v82 v86) (arg3.view.read (Elt F) X_arg3) (arg4.view.read (Elt F) X_arg4) (arg5.view.read (Elt F) X_arg5) (arg7.view.read (Elt F) X_arg7) (arg8.view.read (Elt F) X_arg8) (arg9.view.read (Elt F) X_arg9) (arg10.view.read (Elt F) X_arg10) (arg11.view.read (Elt F) X_arg11) (arg13.view.read (Elt F) X_arg13) (arg16.view.read (Elt F) g) k (arg6.view.read (Elt F) X_arg6) := by
  sl_kernel_rfl

end Cert.KernelIdeal.Gen

end
-- ==== Proof.V.Elim.lean ====
/- The elimination: each of the four packed blocks of 32 columns becomes minus the inverse of the identity plus it. -/
module

public import proofs.«01_k».proof.Proof.V.Dot

@[expose] public section

set_option maxRecDepth 16384

noncomputable section

namespace Cert.KernelIdeal.M

open Idealize.ShloMosaic Cert.KernelIdeal Cert.KernelIdeal.Facts₀ Cert.KernelIdeal.Facts
open Finset

/-- Each lane's number. -/
def lanes : IVec S128x128 32 := fun i => BitVec.ofNat 32 (i 1).val

theorem mk_of {n m : ℕ} {x : IVec ⟨2, ![n, m]⟩ 1} {P : ℕ → ℕ → Bool}
    (h : ∀ (a : Fin n) (b : Fin m), x (ix2 a b) = BitVec.ofBool (P a.val b.val)) : x = mk P := by
  funext i; rw [eq_ix2 i]; exact h _ _

theorem late_lanes : late lanes = mk (fun _ j => decide (32 ≤ j % 64)) := by
  have h : ∀ b : Fin 128, late lanes (ix2 (0 : Fin 32) b) = BitVec.ofBool (decide (32 ≤ b.val % 64)) := by decide +kernel
  exact mk_of fun a b => h b

theorem head0_lanes : (cmpi .slt (extractStridedSlice S32x128 ![0, 0] lanes slices_S128x128_o0_0_S32x128)
    (broadcast S32x128 64#32) : IVec S32x128 1) = mk (fun _ j => decide (j < 64)) := by
  have h : ∀ b : Fin 128, (cmpi .slt (extractStridedSlice S32x128 ![0, 0] lanes slices_S128x128_o0_0_S32x128)
    (broadcast S32x128 64#32) : IVec S32x128 1) (ix2 (0 : Fin 32) b) = BitVec.ofBool (decide (b.val < 64)) := by decide +kernel
  exact mk_of fun a b => h b

theorem gidx_lanes (m : ℕ) (hm : m < 32) (a : Fin 8) (b : Fin 128) :
    (gidx (base lanes) (BitVec.ofNat 32 m) (ix2 a b)).toNat % 128 = b.val - b.val % 32 + m := by
  have h : ∀ (m : Fin 32) (b : Fin 128), (gidx (base lanes) (BitVec.ofNat 32 m.val) (ix2 (0 : Fin 8) b)).toNat % 128 =
      b.val - b.val % 32 + m.val := by decide +kernel
  rw [← h ⟨m, hm⟩ b]
  have e : gidx (base lanes) (BitVec.ofNat 32 m) (ix2 a b) = gidx (base lanes) (BitVec.ofNat 32 m) (ix2 (0 : Fin 8) b) := by
    pointwise [gidx, base, lane8, blk, lrem, lanes]
  rw [e]

theorem negId_mask (v : ℕ) (hv : v < 4) :
    cmpi .eq (addi (iota .tc S8x128 32 [0] iota_S8x128_d0_w32) (broadcast S8x128 (BitVec.ofNat 32 (8 * v)))) (blk lanes) =
      mk (fun i j => decide (8 * v + i = j % 32)) := by
  have h : ∀ (v : Fin 4) (a : Fin 8) (b : Fin 128), (cmpi .eq (addi (iota .tc S8x128 32 [0] iota_S8x128_d0_w32)
      (broadcast S8x128 (BitVec.ofNat 32 (8 * v.val)))) (blk lanes) : IVec S8x128 1) (ix2 a b) =
      BitVec.ofBool (decide (8 * v.val + a.val = b.val % 32)) := by decide +kernel
  exact mk_of fun a b => h ⟨v, hv⟩ a b

theorem ofBits_neg_one : Ideal.ofBits .f32 0xBF800000#32 = ((-1 : ℝ) : EReal) := by
  simp [Ideal.ofBits, Ideal.ieee, -EReal.coe_mul, -EReal.coe_neg]; norm_num

theorem negId_up (v : ℕ) (hv : v < 4) :
    negId (F := Ideal) (blk lanes) v = up (fun i j => if 8 * v + i = j % 32 then -1 else 0) := by
  unfold negId
  have h1 : (broadcast S8x128 (Scalar.ofBits .f32 0xBF800000#32) : FVec Ideal S8x128 .f32) = up (fun _ _ => -1) := by
    funext i; exact ofBits_neg_one
  rw [negId_mask v hv, zf_up, h1, select_up]
  simp only [decide_eq_true_eq]

theorem rowOf_up (s : ℕ) (hs) (X : ℕ → ℕ → ℝ) :
    rowOf (F := Ideal) s hs (up X) = up (fun _ j => X s j) := by
  funext i; idx_vars i; pointwise [rowOf]; rfl

theorem gather_up (m : ℕ) (hm : m < 32) (X : ℕ → ℕ → ℝ) :
    (dynamicGather 1 (up X : FVec Ideal S8x128 .f32) (gidx (base lanes) (BitVec.ofNat 32 m))) =
      (up (fun i j => X i (j - j % 32 + m)) : FVec Ideal S8x128 .f32) := by
  funext i; idx_vars i; pointwise []
  simp only [up_ix2, gidx_lanes m hm]

theorem grp_up (X : ℕ → ℕ → ℝ) (v : ℕ) (hv : v < 4) :
    grp (F := Ideal) (up X) v = up (fun i j => X (8 * v + i) j) := by
  interval_cases v <;> · funext i; idx_vars i; pointwise [grp]; simp only [up_ix2]; try norm_num

/-- One elimination step on real numbers. -/
def elimStepR (m : ℕ) (Z W : ℕ → ℕ → ℝ) (r j : ℕ) : ℝ :=
  if 8 * (r / 8) < m then W r j - Z r (j - j % 32 + m) * W m j else W r j
/-- The first `n` elimination steps on real numbers. -/
def elimR (Z : ℕ → ℕ → ℝ) : ℕ → ℕ → ℕ → ℝ
  | 0 => fun r j => if r = j % 32 then -1 else 0
  | n + 1 => elimStepR (31 - n) Z (elimR Z n)

theorem elimStep_up (m : ℕ) (hm : m < 32) (Z W : ℕ → ℕ → ℝ) (z w : ℕ → FVec Ideal S8x128 .f32)
    (hz : ∀ v < 4, z v = up (fun i j => Z (8 * v + i) j)) (hw : ∀ v < 4, w v = up (fun i j => W (8 * v + i) j))
    (v : ℕ) (hv : v < 4) :
    elimStep (F := Ideal) (base lanes) m z w v = up (fun i j => elimStepR m Z W (8 * v + i) j) := by
  unfold elimStep
  rcases h : Nat.blt (8 * v) m with _ | _
  · refine (hw v hv).trans (up_congr _ _ fun i hi j _ => ?_)
    have : ¬ 8 * v < m := fun hh => by rw [← Nat.blt_eq] at hh; simp [h] at hh
    rw [elimStepR, if_neg (by rw [show (8 * v + i) / 8 = v by omega]; exact this)]
  · show elim1 _ _ _ _ _ = _
    have : 8 * v < m := Nat.blt_eq.mp h
    rw [elim1, hz v hv, hw v hv, hw (m / 8) (by omega), rowOf_up, gather_up m hm, mulf_up, subf_up]
    refine up_congr _ _ fun i hi j _ => ?_
    rw [elimStepR, if_pos (by rw [show (8 * v + i) / 8 = v by omega]; exact this), Nat.div_add_mod]

theorem elim_up (Z : ℕ → ℕ → ℝ) (n : ℕ) (hn : n ≤ 31) (v : ℕ) (hv : v < 4) :
    elim (F := Ideal) (base lanes) (grp (up Z)) (negId (blk lanes)) n v = up (fun i j => elimR Z n (8 * v + i) j) := by
  induction n generalizing v with
  | zero => exact negId_up v hv
  | succ n ih => exact elimStep_up _ (by omega) Z _ _ _ (fun v hv => grp_up Z v hv) (fun v hv => ih (by omega) v hv) v hv

theorem inverseDiag_up (Z : ℕ → ℕ → ℝ) :
    inverseDiag (F := Ideal) lanes (up Z) = up (elimR Z 31) := by
  unfold inverseDiag
  rw [elim_up Z 31 le_rfl 0 (by omega), elim_up Z 31 le_rfl 1 (by omega), elim_up Z 31 le_rfl 2 (by omega),
    elim_up Z 31 le_rfl 3 (by omega)]
  funext i; idx_vars i; pointwise []
  simp only [up_ix2]
  split_ifs <;> (congr 2; try omega)

theorem elimR_inv (Z : ℕ → ℕ → ℝ) (j : ℕ) (hZ : ∀ r < 32, ∀ m ≤ r, Z r (j - j % 32 + m) = 0) (n : ℕ) (hn : n ≤ 31) :
    ∀ r < 32, elimR Z n r j =
      (if r = j % 32 then -1 else 0) - ∑ m ∈ Ico (32 - n) 32, Z r (j - j % 32 + m) * elimR Z n m j := by
  have step : ∀ n, n ≤ 30 → ∀ r < 32, elimR Z (n + 1) r j = elimR Z n r j - Z r (j - j % 32 + (31 - n)) * elimR Z n (31 - n) j := by
    intro n hn r hr
    show elimStepR _ _ _ _ _ = _
    unfold elimStepR
    split
    · rfl
    · rw [hZ r hr _ (by omega), zero_mul, sub_zero]
  induction n with
  | zero => intro r hr; simp [elimR]
  | succ n ih =>
    intro r hr
    rw [step n (by omega) r hr, ih (by omega) r hr, show 32 - (n + 1) = 31 - n by omega,
      sum_eq_sum_Ico_succ_bot (show 31 - n < 32 by omega), show 31 - n + 1 = 32 - n by omega]
    have hfin : ∀ m, 31 - n ≤ m → m < 32 → elimR Z (n + 1) m j = elimR Z n m j := by
      intro m h1 h2
      rw [step n (by omega) m h2, hZ m h2 _ h1, zero_mul, sub_zero]
    rw [hfin (31 - n) le_rfl (by omega), sum_congr (f := fun m => Z r (j - j % 32 + m) * elimR Z (n + 1) m j) (g := fun m => Z r (j - j % 32 + m) * elimR Z n m j) rfl fun m hm => by
        rw [hfin m (by have := mem_Ico.mp hm; omega) (mem_Ico.mp hm).2]]
    ring

theorem elimR_eq (Z : ℕ → ℕ → ℝ) (j : ℕ) (hZ : ∀ r < 32, ∀ m ≤ r, Z r (j - j % 32 + m) = 0) (r : ℕ) (hr : r < 32) :
    elimR Z 31 r j = (if r = j % 32 then -1 else 0) - ∑ m ∈ range 32, Z r (j - j % 32 + m) * elimR Z 31 m j := by
  rw [elimR_inv Z j hZ 31 le_rfl r hr, range_eq_Ico, sum_eq_sum_Ico_succ_bot (show 0 < 32 by omega), hZ r hr 0 (by omega), zero_mul,
    zero_add]

end Cert.KernelIdeal.M

end
-- ==== Proof.V.Inv.lean ====
/- The inverse of a pair's two unit-triangular blocks of 64, joined from its four blocks of 32. -/
module

public import proofs.«01_k».proof.Proof.V.Elim

@[expose] public section

set_option maxRecDepth 16384

noncomputable section

namespace Cert.KernelIdeal.M

open Idealize.ShloMosaic Cert.KernelIdeal Cert.KernelIdeal.Facts₀ Cert.KernelIdeal.Facts
open Finset

theorem up32_up (X : ℕ → ℕ → ℝ) : up32 (F := Ideal) (up X) = up X := by
  funext i; idx_vars i; pointwise [up32]; rfl
theorem dn32_up (X : ℕ → ℕ → ℝ) : dn32 (F := Ideal) (up X) = up (fun i j => X (32 + i) j) := by
  funext i; idx_vars i; pointwise [dn32]; rfl

/-- Four blocks of 32 rows of real numbers. -/
def fourR (A B C D : ℕ → ℕ → ℝ) (k j : ℕ) : ℝ :=
  if k < 32 then A k j else if k - 32 < 32 then B (k - 32) j else if k - 32 - 32 < 32 then C (k - 32 - 32) j
    else D (k - 32 - 32 - 32) j

theorem four32_up (A B C D : ℕ → ℕ → ℝ) :
    four32 (F := Ideal) (up A) (up B) (up C) (up D) = up (fourR A B C D) := by
  funext i; idx_vars i; pointwise [four32]
  simp only [fourR, up_ix2, dite_eq_ite, apply_ite Real.toEReal]

theorem sum_four (X : ℕ → ℝ) (A B C D : ℕ → ℕ → ℝ) (j : ℕ) :
    ∑ k ∈ range 128, X k * fourR A B C D k j = (∑ k ∈ range 32, X k * A k j) + (∑ k ∈ range 32, X (32 + k) * B k j) +
      (∑ k ∈ range 32, X (64 + k) * C k j) + ∑ k ∈ range 32, X (96 + k) * D k j := by
  rw [show (128 : ℕ) = 32 + 32 + 32 + 32 from rfl, sum_range_add, sum_range_add, sum_range_add]
  refine congrArg₂ (· + ·) (congrArg₂ (· + ·) (congrArg₂ (· + ·) ?_ ?_) ?_) ?_ <;> refine sum_congr rfl fun k hk => ?_ <;>
    have := mem_range.mp hk
  · rw [fourR, if_pos this]
  · rw [fourR, if_neg (by omega), if_pos (by omega), show 32 + k - 32 = k by omega]
  · rw [fourR, if_neg (by omega), if_neg (by omega), if_pos (by omega), show 32 + 32 + k - 32 - 32 = k by omega]
  · rw [fourR, if_neg (by omega), if_neg (by omega), if_neg (by omega), show 32 + 32 + 32 + k - 32 - 32 - 32 = k by omega]

/-- The four blocks of 32 beside each other. -/
def packR (Z : ℕ → ℕ → ℝ) (r j : ℕ) : ℝ := if 32 ≤ j % 64 then Z (32 + r) j else Z r j
/-- The four inverted blocks. -/
def invR (Z : ℕ → ℕ → ℝ) : ℕ → ℕ → ℝ := elimR (packR Z) 31
/-- The corner times the later inverse. -/
def qR (Z : ℕ → ℕ → ℝ) (r j : ℕ) : ℝ :=
  ∑ c ∈ range 128, (if 32 ≤ c % 64 then Z r c else 0) * fourR (fun _ _ => 0)
    (fun r j => if j < 64 then (if 32 ≤ j % 64 then invR Z r j else 0) else 0) (fun _ _ => 0)
    (fun r j => if j < 64 then 0 else (if 32 ≤ j % 64 then invR Z r j else 0)) c j
/-- The earlier inverse times that. -/
def joinR (Z : ℕ → ℕ → ℝ) (r j : ℕ) : ℝ :=
  ∑ c ∈ range 128, (if 32 ≤ c % 64 then 0 else invR Z r c) * fourR
    (fun r j => if j < 64 then qR Z r j else 0) (fun _ _ => 0)
    (fun r j => if j < 64 then 0 else qR Z r j) (fun _ _ => 0) c j
/-- The pair's inverse. -/
def pinvR (Z : ℕ → ℕ → ℝ) (i j : ℕ) : ℝ :=
  if i < 32 then (if 32 ≤ j % 64 then joinR Z i j else invR Z i j) else (if 32 ≤ j % 64 then invR Z (i - 32) j else 0)

/-- Two blocks of 32 rows. -/
def two32 (a b : FVec Ideal S32x128 .f32) : FVec Ideal S64x128 .f32 :=
  concatenate S64x128 0 [⟨S32x128, a⟩, ⟨S32x128, b⟩] concatenates_S32x128_S32x128_S64x128_d0

theorem two32_up (A B : ℕ → ℕ → ℝ) : two32 (up A) (up B) = up (fun i j => if i < 32 then A i j else B (i - 32) j) := by
  funext i; idx_vars i; pointwise [two32]
  simp only [up_ix2, dite_eq_ite, apply_ite Real.toEReal]

theorem pairInverse_up (Z : ℕ → ℕ → ℝ) : pairInverse (F := Ideal) lanes (up Z) = up (pinvR Z) := by
  unfold pairInverse
  change two32 _ _ = _
  simp only [late_lanes, head0_lanes, up32_up, dn32_up, zf_up, select_up, inverseDiag_up, four32_up, dotQ_up, two32_up,
    decide_eq_true_eq]
  rfl

/-- A left inverse of a square matrix is a right inverse. -/
theorem right_of_left (n : ℕ) (f z : ℕ → ℕ → ℝ)
    (h : ∀ r < n, ∀ t < n, f r t = (if r = t then -1 else 0) - ∑ m ∈ range n, z r m * f m t) :
    ∀ r < n, ∀ t < n, f r t = (if r = t then -1 else 0) - ∑ m ∈ range n, f r m * z m t := by
  obtain ⟨A, hA⟩ : ∃ A : Matrix (Fin n) (Fin n) ℝ, ∀ i j, A i j = f i.val j.val := ⟨Matrix.of fun i j => f i.val j.val, fun _ _ => rfl⟩
  obtain ⟨B, hB⟩ : ∃ B : Matrix (Fin n) (Fin n) ℝ, ∀ i j, B i j = z i.val j.val := ⟨Matrix.of fun i j => z i.val j.val, fun _ _ => rfl⟩
  have h1 : (1 + B) * (-A) = 1 := by
    rw [mul_neg, add_mul, one_mul]
    ext i j
    have := h i.val i.isLt j.val j.isLt
    rw [sum_range] at this
    simp only [Matrix.add_apply, Matrix.neg_apply, Matrix.mul_apply, Matrix.one_apply, Fin.ext_iff, hA, hB]
    rw [this]; split <;> ring
  have h2 := mul_eq_one_comm.mp h1
  rw [neg_mul, mul_add, mul_one] at h2
  intro r hr t ht
  have := congrFun (congrFun h2 ⟨r, hr⟩) ⟨t, ht⟩
  simp only [Matrix.add_apply, Matrix.neg_apply, Matrix.mul_apply, Matrix.one_apply, Fin.mk.injEq, hA, hB] at this
  rw [sum_range]
  split_ifs at this ⊢ <;> linarith

theorem inv_right (Z : ℕ → ℕ → ℝ) (q : ℕ) (hq : q < 4) (hZ : ∀ r < 32, ∀ m ≤ r, packR Z r (32 * q + m) = 0) :
    ∀ r < 32, ∀ t < 32, invR Z r (32 * q + t) = (if r = t then -1 else 0) -
      ∑ m ∈ range 32, invR Z r (32 * q + m) * packR Z m (32 * q + t) := by
  refine right_of_left 32 (fun r t => invR Z r (32 * q + t)) (fun r t => packR Z r (32 * q + t)) fun r hr t ht => ?_
  have e : 32 * q + t - (32 * q + t) % 32 = 32 * q := by omega
  have := elimR_eq (packR Z) (32 * q + t) (by rw [e]; exact hZ) r hr
  rw [e] at this
  simpa only [invR, show (32 * q + t) % 32 = t by omega] using this

theorem pinv_right (Z : ℕ → ℕ → ℝ) (h : ℕ) (hh : h < 2) (hZ : ∀ s < 64, ∀ t ≤ s, Z s (64 * h + t) = 0) :
    ∀ s < 64, ∀ t < 64, pinvR Z s (64 * h + t) = (if s = t then -1 else 0) -
      ∑ m ∈ range 64, pinvR Z s (64 * h + m) * Z m (64 * h + t) := by
  have lo' : ∀ t, t < 32 → ¬ 32 ≤ (64 * h + t) % 64 := fun t ht => by omega
  have hi' : ∀ t, t < 32 → 32 ≤ (64 * h + (32 + t)) % 64 := fun t ht => by omega
  have pe : ∀ r t, t < 32 → packR Z r (64 * h + t) = Z r (64 * h + t) := fun r t ht => by rw [packR, if_neg (lo' t ht)]
  have pl : ∀ r t, t < 32 → packR Z r (64 * h + (32 + t)) = Z (32 + r) (64 * h + (32 + t)) := fun r t ht => by
    rw [packR, if_pos (hi' t ht)]
  have E := inv_right Z (2 * h) (by omega) (fun r hr m hm => by
    rw [show 32 * (2 * h) + m = 64 * h + m by omega, pe r m (by omega)]; exact hZ r (by omega) m hm)
  have L := inv_right Z (2 * h + 1) (by omega) (fun r hr m hm => by
    rw [show 32 * (2 * h + 1) + m = 64 * h + (32 + m) by omega, pl r m (by omega)]; exact hZ _ (by omega) _ (by omega))
  simp only [show ∀ t, 32 * (2 * h) + t = 64 * h + t from fun t => by omega] at E
  simp only [show ∀ t, 32 * (2 * h + 1) + t = 64 * h + (32 + t) from fun t => by omega] at L
  have q0 : ∀ r, ∀ t < 32, qR Z r (64 * h + (32 + t)) = ∑ m ∈ range 32, Z r (64 * h + (32 + m)) * invR Z m (64 * h + (32 + t)) := by
    intro r t ht
    rw [qR, sum_four]
    have c1 : ∀ k ∈ range 32, 32 ≤ (32 + k) % 64 := fun k hk => by have := mem_range.mp hk; omega
    have c2 : ∀ k ∈ range 32, 32 ≤ (96 + k) % 64 := fun k hk => by have := mem_range.mp hk; omega
    simp only [hi' t ht, if_true, mul_zero, sum_const_zero, zero_add, add_zero]
    rw [sum_congr rfl fun k hk => by rw [if_pos (c1 k hk)], sum_congr (s₁ := range 32) (f := fun k => (if 32 ≤ (96 + k) % 64 then _ else _) * _) rfl fun k hk => by rw [if_pos (c2 k hk)]]
    interval_cases h
    · simp [show 32 + t < 64 by omega]
    · simp [show ¬ 96 + t < 64 by omega, show ∀ k, 64 + (32 + k) = 96 + k from fun k => by omega]
  have j0 : ∀ r, ∀ t < 32, joinR Z r (64 * h + (32 + t)) = ∑ m ∈ range 32, invR Z r (64 * h + m) * qR Z m (64 * h + (32 + t)) := by
    intro r t ht
    rw [joinR, sum_four]
    have c1 : ∀ k ∈ range 32, ¬ 32 ≤ k % 64 := fun k hk => by have := mem_range.mp hk; omega
    have c2 : ∀ k ∈ range 32, ¬ 32 ≤ (64 + k) % 64 := fun k hk => by have := mem_range.mp hk; omega
    simp only [mul_zero, sum_const_zero, add_zero]
    rw [sum_congr rfl fun k hk => by rw [if_neg (c1 k hk)], sum_congr (s₁ := range 32) (f := fun k => (if 32 ≤ (64 + k) % 64 then _ else _) * _) rfl fun k hk => by rw [if_neg (c2 k hk)]]
    interval_cases h
    · simp [show 32 + t < 64 by omega]
    · simp [show ¬ 96 + t < 64 by omega]
  have je : ∀ r < 32, ∀ t < 32, joinR Z r (64 * h + (32 + t)) = -(∑ m ∈ range 32, invR Z r (64 * h + m) * Z m (64 * h + (32 + t))) -
      ∑ m ∈ range 32, joinR Z r (64 * h + (32 + m)) * Z (32 + m) (64 * h + (32 + t)) := by
    intro r hr t ht
    have e1 : ∑ m ∈ range 32, joinR Z r (64 * h + (32 + m)) * Z (32 + m) (64 * h + (32 + t)) =
        ∑ k ∈ range 32, invR Z r (64 * h + k) * ∑ m ∈ range 32, Z k (64 * h + (32 + m)) *
          ∑ l ∈ range 32, invR Z m (64 * h + (32 + l)) * Z (32 + l) (64 * h + (32 + t)) := by
      have : ∀ m ∈ range 32, joinR Z r (64 * h + (32 + m)) * Z (32 + m) (64 * h + (32 + t)) =
          ∑ k ∈ range 32, ∑ m' ∈ range 32, invR Z r (64 * h + k) * (Z k (64 * h + (32 + m')) *
            (invR Z m' (64 * h + (32 + m)) * Z (32 + m) (64 * h + (32 + t)))) := by
        intro m hm
        rw [j0 r m (mem_range.mp hm), sum_mul]
        refine sum_congr rfl fun k _ => ?_
        rw [q0 k m (mem_range.mp hm), mul_sum, sum_mul]
        refine sum_congr rfl fun _ _ => by ring
      rw [sum_congr rfl this, sum_comm]
      refine sum_congr rfl fun k _ => ?_
      rw [sum_comm, mul_sum]
      refine sum_congr rfl fun m _ => ?_
      rw [mul_sum, mul_sum]
    have e2 : ∀ m ∈ range 32, ∑ l ∈ range 32, invR Z m (64 * h + (32 + l)) * Z (32 + l) (64 * h + (32 + t)) =
        (if m = t then -1 else 0) - invR Z m (64 * h + (32 + t)) := by
      intro m hm
      have := L m (mem_range.mp hm) t ht
      rw [sum_congr rfl fun l hl => by rw [pl l t ht]] at this
      linarith
    rw [e1, j0 r t ht]
    have e3 : ∀ k ∈ range 32, ∑ m ∈ range 32, Z k (64 * h + (32 + m)) *
        (∑ l ∈ range 32, invR Z m (64 * h + (32 + l)) * Z (32 + l) (64 * h + (32 + t))) =
        -Z k (64 * h + (32 + t)) - qR Z k (64 * h + (32 + t)) := by
      intro k _
      rw [sum_congr rfl fun m hm => by rw [e2 m hm, mul_sub], sum_sub_distrib, ← q0 k t ht]
      congr 1
      rw [sum_eq_single t]
      · simp
      · intro b _ hb; simp [hb]
      · intro hn; exact absurd (mem_range.mpr ht) hn
    have e4 : ∑ k ∈ range 32, invR Z r (64 * h + k) * ∑ m ∈ range 32, Z k (64 * h + (32 + m)) *
          ∑ l ∈ range 32, invR Z m (64 * h + (32 + l)) * Z (32 + l) (64 * h + (32 + t)) = ∑ k ∈ range 32, (-(invR Z r (64 * h + k) * Z k (64 * h + (32 + t))) -
      invR Z r (64 * h + k) * qR Z k (64 * h + (32 + t))) := sum_congr rfl fun k hk => by rw [e3 k hk]; ring
    rw [e4, sum_sub_distrib, sum_neg_distrib]; ring
  intro s hs t ht
  have w0 : ∀ m < 32, ∀ i < 32, pinvR Z i (64 * h + m) = invR Z i (64 * h + m) := fun m hm i hi => by
    rw [pinvR, if_pos hi, if_neg (lo' m hm)]
  have w1 : ∀ m < 32, ∀ i < 32, pinvR Z i (64 * h + (32 + m)) = joinR Z i (64 * h + (32 + m)) := fun m hm i hi => by
    rw [pinvR, if_pos hi, if_pos (hi' m hm)]
  have w2 : ∀ m < 32, ∀ i, 32 ≤ i → pinvR Z i (64 * h + m) = 0 := fun m hm i hi => by
    rw [pinvR, if_neg (by omega), if_neg (lo' m hm)]
  have w3 : ∀ m < 32, ∀ i, 32 ≤ i → pinvR Z i (64 * h + (32 + m)) = invR Z (i - 32) (64 * h + (32 + m)) := fun m hm i hi => by
    rw [pinvR, if_neg (by omega), if_pos (hi' m hm)]
  rw [show (64 : ℕ) = 32 + 32 from rfl, sum_range_add]
  by_cases hs2 : s < 32
  · rw [sum_congr rfl fun m hm => by rw [w0 m (mem_range.mp hm) s hs2],
      sum_congr (s₁ := range 32) (f := fun m => pinvR Z s (64 * h + (32 + m)) * _) rfl fun m hm => by rw [w1 m (mem_range.mp hm) s hs2]]
    by_cases ht2 : t < 32
    · rw [w0 t ht2 s hs2, E s hs2 t ht2, sum_congr rfl fun m hm => by rw [pe m t ht2]]
      rw [sum_eq_zero (f := fun m => joinR Z s (64 * h + (32 + m)) * _) fun m hm => by rw [hZ _ (by have := mem_range.mp hm; omega) t (by omega), mul_zero]]
      rw [add_zero]
    · obtain ⟨t', rfl⟩ : ∃ t', t = 32 + t' := ⟨t - 32, by omega⟩
      rw [w1 t' (by omega) s hs2, if_neg (by omega), je s hs2 t' (by omega)]; ring
  · obtain ⟨s', rfl⟩ : ∃ s', s = 32 + s' := ⟨s - 32, by omega⟩
    rw [sum_eq_zero (f := fun m => pinvR Z (32 + s') (64 * h + m) * _) fun m hm => by rw [w2 m (mem_range.mp hm) _ (by omega), zero_mul],
      sum_congr (s₁ := range 32) (f := fun m => pinvR Z (32 + s') (64 * h + (32 + m)) * _) rfl fun m hm => by
        rw [w3 m (mem_range.mp hm) _ (by omega), show 32 + s' - 32 = s' by omega], zero_add]
    by_cases ht2 : t < 32
    · rw [w2 t ht2 _ (by omega), if_neg (by omega), sum_eq_zero fun m hm => by rw [hZ _ (by have := mem_range.mp hm; omega) t (by omega), mul_zero]]
      simp
    · obtain ⟨t', rfl⟩ : ∃ t', t = 32 + t' := ⟨t - 32, by omega⟩
      rw [w3 t' (by omega) _ (by omega), show 32 + s' - 32 = s' by omega, L s' (by omega) t' (by omega),
        sum_congr rfl fun m hm => by rw [pl m t' (by omega)]]
      simp

end Cert.KernelIdeal.M

end
-- ==== Proof.V.Chunk.lean ====
/- One chunk of 64 time steps on real numbers: what the body computes for each of the pair's two heads. -/
module

public import proofs.«01_k».proof.Proof.V.Inv

@[expose] public section

set_option maxRecDepth 16384

noncomputable section

namespace Cert.KernelIdeal.M

open Idealize.ShloMosaic Cert.KernelIdeal Cert.KernelIdeal.Facts₀ Cert.KernelIdeal.Facts
open Finset

theorem lft128_up (X : ℕ → ℕ → ℝ) :
    extractStridedSlice S128x128 ![0, 0] (up X : FVec Ideal S128x256 .f32) slices_S128x256_o0_0_S128x128 = (up X : FVec Ideal S128x128 .f32) := by
  funext i; idx_vars i; pointwise []; rfl
theorem rgt128_up (X : ℕ → ℕ → ℝ) :
    extractStridedSlice S128x128 ![0, 128] (up X : FVec Ideal S128x256 .f32) slices_S128x256_o0_128_S128x128 =
      (up (fun i j => X i (128 + j)) : FVec Ideal S128x128 .f32) := by
  funext i; idx_vars i; pointwise []; rfl
theorem bcRow_up (X : ℕ → ℕ → ℝ) :
    broadcastTo S64x128 (up X : FVec Ideal S1x128 .f32) broadcasts_S1x128_S64x128 = (up (fun _ j => X 0 j) : FVec Ideal S64x128 .f32) := by
  funext i; idx_vars i; pointwise []; rfl

/-- The first 64 lanes. -/
def lowP (_ j : ℕ) : Bool := decide (j < 64)
/-- Earlier steps, or the same step in the later lanes. -/
def keP (i j : ℕ) : Bool := decide (i % 64 < j % 64 + j / 64)
/-- Earlier steps, or the same step in the earlier lanes. -/
def koP (i j : ℕ) : Bool := decide (i % 64 < j % 64 + 1 - j / 64)

section
variable (EV OD B K VA VB S E : ℕ → ℕ → ℝ)

def arR (c j : ℕ) : ℝ := if c < 64 then EV c j else OD (64 + (c - 64)) j
def tiR (i J : ℕ) : ℝ :=
  if J < 128 then ∑ c ∈ range 64, (if i < 64 then B i c else K (i - 64) c) * arR EV OD c J
  else ∑ c ∈ range 64, (if i < 64 then B i (64 + c) else K (i - 64) (64 + c)) * arR EV OD (64 + c) (J - 128)
def t0R (i j : ℕ) : ℝ := if keP i j then tiR EV OD B K i j else 0
def t1R (i j : ℕ) : ℝ := if koP i j then tiR EV OD B K i (128 + j) else 0
def zR (i j : ℕ) : ℝ := if j < 64 then t0R EV OD B K i j else t1R EV OD B K i j
def brR (i j : ℕ) : ℝ := if j < 64 then t1R EV OD B K i j else t0R EV OD B K i j
def spR (v J : ℕ) : ℝ :=
  if J < 128 then ∑ c ∈ range 64, S v c * arR EV OD c J else ∑ c ∈ range 64, S v (64 + c) * arR EV OD (64 + c) (J - 128)
def o0R (v J : ℕ) : ℝ := ∑ s ∈ range 64, VA v s * (if J < 128 then t0R EV OD B K (64 + s) J else K s (J - 128))
def o1R (v J : ℕ) : ℝ := ∑ s ∈ range 64, VB v s * (if J < 128 then t1R EV OD B K (64 + s) J else K s (J - 128))
def xR (v j : ℕ) : ℝ :=
  if j < 64 then spR EV OD S v j + o0R EV OD B K VA v j else spR EV OD S v (128 + j) + o1R EV OD B K VB v j
def yR (v j : ℕ) : ℝ :=
  if j < 64 then spR EV OD S v (128 + j) + o1R EV OD B K VB v j else spR EV OD S v j + o0R EV OD B K VA v j
def uR (v j : ℕ) : ℝ :=
  ∑ c ∈ range 128, xR EV OD B K VA VB S v c * (if c < 64 then (if j < 64 then pinvR (zR EV OD B K) c j else 0)
    else (if j < 64 then 0 else pinvR (zR EV OD B K) (c - 64) j))
def bbR (c j : ℕ) : ℝ :=
  if c < 64 then (if j < 64 then B c j else brR EV OD B K c j) else (if j < 64 then brR EV OD B K (c - 64) j else B (c - 64) j)
def oR (v J : ℕ) : ℝ :=
  if J < 128 then ∑ c ∈ range 64, uR EV OD B K VA VB S v c * bbR EV OD B K c J
  else ∑ c ∈ range 64, uR EV OD B K VA VB S v (64 + c) * bbR EV OD B K (64 + c) (J - 128)
def soR (v j : ℕ) : ℝ :=
  (S v j + (if j < 64 then oR EV OD B K VA VB S v j else oR EV OD B K VA VB S v (128 + j)) +
    (if j < 64 then o0R EV OD B K VA v (128 + j) else o1R EV OD B K VB v (128 + j))) * E 0 j
def yoR (v j : ℕ) : ℝ :=
  yR EV OD B K VA VB S v j + (if j < 64 then oR EV OD B K VA VB S v (128 + j) else oR EV OD B K VA VB S v j)

theorem chunk_up :
    chunk (F := Ideal) lanes (mk lowP) (mk keP) (mk koP) (up EV) (up OD) (up B) (up fun _ _ => 0) (up fun _ _ => 0)
      (up K) (up fun _ _ => 0) (up fun _ _ => 0) (up VA) (up VB) (up S) (up E) =
    ⟨up (soR EV OD B K VA VB S E), up (yoR EV OD B K VA VB S)⟩ := by
  have hz : (fun i j : ℕ => if lowP i j = true then (0 : ℝ) else 0) = fun _ _ => 0 := by funext i j; exact ite_self _
  have hz2 : (fun i j : ℕ => if i < 64 then (0 : ℝ) else 0) = fun _ _ => 0 := by funext i j; exact ite_self _
  unfold chunk
  simp only [top_up, bot_up, over_up, tiles_up, lft128_up, rgt128_up, zf_up, select_up, top_mk, pairInverse_up, hi_up, mid_up, lo_up,
    dotB_up, dotV_up, lft_up, rgt_up, addf_up, mulf_up, bcRow_up, dotW_up, hz, hz2]
  simp only [lowP, decide_eq_true_eq]
  rfl
end

end Cert.KernelIdeal.M

end
-- ==== Proof.V.Head.lean ====
/- One chunk, one head at a time: the corrections of the chunk's steps, the state after it and its outputs. -/
module

public import proofs.«01_k».proof.Proof.V.Chunk

@[expose] public section

set_option maxRecDepth 16384

noncomputable section

namespace Cert.KernelIdeal.M

open Finset

/-- What a chunk computes for one head, from the columns of `a` and `r`, the rows of `b` and `k`, the values, the state
    before the chunk and the factors at its end. -/
def ChunkSpec (A R B K V S : ℕ → ℕ → ℝ) (E : ℕ → ℝ) (SO YO : ℕ → ℕ → ℝ) : Prop :=
  ∃ U : ℕ → ℕ → ℝ,
    (∀ v < 64, ∀ t < 64, U v t = -((∑ c ∈ range 64, S v c * A c t) +
        ∑ s ∈ range 64, V v s * (if s < t then ∑ c ∈ range 64, K s c * A c t else 0)) -
      ∑ s ∈ range 64, U v s * (if s < t then ∑ c ∈ range 64, B s c * A c t else 0)) ∧
    (∀ v < 64, ∀ c < 64, SO v c = (S v c + (∑ s ∈ range 64, U v s * B s c) + ∑ s ∈ range 64, V v s * K s c) * E c) ∧
    (∀ v < 64, ∀ t < 64, YO v t = (∑ c ∈ range 64, S v c * R c t) +
      (∑ s ∈ range 64, V v s * (if s ≤ t then ∑ c ∈ range 64, K s c * R c t else 0)) +
      ∑ s ∈ range 64, U v s * (if s ≤ t then ∑ c ∈ range 64, B s c * R c t else 0))

section
variable (A R B K VA VB S E : ℕ → ℕ → ℝ)

/-- The columns of `a`, then those of `r`. -/
def evR (c j : ℕ) : ℝ := if j < 64 then A c j else R c (j - 64)
/-- The columns of `r`, then those of `a`. -/
def odR (c j : ℕ) : ℝ := if j < 64 then R c j else A c (j - 64)

/-- The correction of each step from its lane: `U = -E - U Z` whenever the inverse is a right inverse. -/
theorem u_of_right (X W Z : ℕ → ℕ → ℝ) (U : ℕ → ℕ → ℝ)
    (hW : ∀ s < 64, ∀ t < 64, W s t = (if s = t then -1 else 0) - ∑ m ∈ range 64, W s m * Z m t)
    (hU : ∀ v, ∀ t < 64, U v t = ∑ s ∈ range 64, X v s * W s t) (v t : ℕ) (ht : t < 64) :
    U v t = -X v t - ∑ m ∈ range 64, U v m * Z m t := by
  rw [hU v t ht, sum_congr (s₁ := range 64) (f := fun m => U v m * Z m t) (g := fun m => ∑ s ∈ range 64, X v s * (W s m * Z m t)) rfl
    fun m hm => by rw [hU v m (mem_range.mp hm), sum_mul]; exact sum_congr rfl fun _ _ => by ring]
  rw [sum_comm, sum_congr (s₁ := range 64) (f := fun s => X v s * W s t)
    (g := fun s => X v s * (if s = t then -1 else 0) - ∑ m ∈ range 64, X v s * (W s m * Z m t)) rfl
    fun s hs => by rw [hW s (mem_range.mp hs) t ht, mul_sub, mul_sum]]
  rw [sum_sub_distrib, sum_eq_single t]
  · simp
  · intro b _ hb; simp [hb]
  · intro hn; exact absurd (mem_range.mpr ht) hn

theorem ar0 (c t : ℕ) (hc : c < 64) : arR (evR A R) (odR A R) c t = evR A R c t := by rw [arR, if_pos hc]
theorem ar1 (c t : ℕ) : arR (evR A R) (odR A R) (64 + c) t = odR A R (64 + c) t := by
  rw [arR, if_neg (by omega), show 64 + (64 + c - 64) = 64 + c by omega]

theorem ti0 (i J : ℕ) (hJ : J < 128) : tiR (evR A R) (odR A R) B K i J =
    ∑ c ∈ range 64, (if i < 64 then B i c else K (i - 64) c) * evR A R c J := by
  rw [tiR, if_pos hJ]; exact sum_congr rfl fun c hc => by rw [ar0 A R c J (mem_range.mp hc)]
theorem ti1 (i J : ℕ) : tiR (evR A R) (odR A R) B K i (128 + J) =
    ∑ c ∈ range 64, (if i < 64 then B i (64 + c) else K (i - 64) (64 + c)) * odR A R (64 + c) J := by
  rw [tiR, if_neg (by omega), show 128 + J - 128 = J by omega]; exact sum_congr rfl fun c hc => by rw [ar1 A R c J]

theorem t0a (s t : ℕ) (hs : s < 64) (ht : t < 64) : t0R (evR A R) (odR A R) B K s t =
    if s < t then ∑ c ∈ range 64, B s c * A c t else 0 := by
  rw [t0R, ti0 A R B K s t (by omega)]
  simp only [keP, decide_eq_true_eq, evR, if_pos ht, if_pos hs, show s % 64 = s by omega, show t % 64 + t / 64 = t by omega]
theorem t0r (s t : ℕ) (hs : s < 64) (ht : t < 64) : t0R (evR A R) (odR A R) B K s (64 + t) =
    if s ≤ t then ∑ c ∈ range 64, B s c * R c t else 0 := by
  rw [t0R, ti0 A R B K s (64 + t) (by omega)]
  simp only [keP, decide_eq_true_eq, evR, if_neg (show ¬ 64 + t < 64 by omega), if_pos hs, show s % 64 = s by omega,
    show (64 + t) % 64 + (64 + t) / 64 = t + 1 by omega, show (s < t + 1) = (s ≤ t) from propext Nat.lt_succ_iff, show 64 + t - 64 = t by omega]
theorem t0ka (s t : ℕ) (hs : s < 64) (ht : t < 64) : t0R (evR A R) (odR A R) B K (64 + s) t =
    if s < t then ∑ c ∈ range 64, K s c * A c t else 0 := by
  rw [t0R, ti0 A R B K _ t (by omega)]
  simp only [keP, decide_eq_true_eq, evR, if_pos ht, if_neg (show ¬ 64 + s < 64 by omega), show (64 + s) % 64 = s by omega,
    show t % 64 + t / 64 = t by omega, show 64 + s - 64 = s by omega]
theorem t0kr (s t : ℕ) (hs : s < 64) (ht : t < 64) : t0R (evR A R) (odR A R) B K (64 + s) (64 + t) =
    if s ≤ t then ∑ c ∈ range 64, K s c * R c t else 0 := by
  rw [t0R, ti0 A R B K _ (64 + t) (by omega)]
  simp only [keP, decide_eq_true_eq, evR, if_neg (show ¬ 64 + t < 64 by omega), if_neg (show ¬ 64 + s < 64 by omega),
    show (64 + s) % 64 = s by omega,
    show (64 + t) % 64 + (64 + t) / 64 = t + 1 by omega, show (s < t + 1) = (s ≤ t) from propext Nat.lt_succ_iff, show 64 + t - 64 = t by omega, show 64 + s - 64 = s by omega]
theorem t1a (s t : ℕ) (hs : s < 64) (ht : t < 64) : t1R (evR A R) (odR A R) B K s (64 + t) =
    if s < t then ∑ c ∈ range 64, B s (64 + c) * A (64 + c) t else 0 := by
  rw [t1R, ti1 A R B K]
  simp only [koP, decide_eq_true_eq, odR, if_neg (show ¬ 64 + t < 64 by omega), if_pos hs, show s % 64 = s by omega,
    show (64 + t) % 64 + 1 - (64 + t) / 64 = t by omega, show 64 + t - 64 = t by omega]
theorem t1r (s t : ℕ) (hs : s < 64) (ht : t < 64) : t1R (evR A R) (odR A R) B K s t =
    if s ≤ t then ∑ c ∈ range 64, B s (64 + c) * R (64 + c) t else 0 := by
  rw [t1R, ti1 A R B K]
  simp only [koP, decide_eq_true_eq, odR, if_pos ht, if_pos hs, show s % 64 = s by omega,
    show t % 64 + 1 - t / 64 = t + 1 by omega, show (s < t + 1) = (s ≤ t) from propext Nat.lt_succ_iff]
theorem t1ka (s t : ℕ) (hs : s < 64) (ht : t < 64) : t1R (evR A R) (odR A R) B K (64 + s) (64 + t) =
    if s < t then ∑ c ∈ range 64, K s (64 + c) * A (64 + c) t else 0 := by
  rw [t1R, ti1 A R B K]
  simp only [koP, decide_eq_true_eq, odR, if_neg (show ¬ 64 + t < 64 by omega), if_neg (show ¬ 64 + s < 64 by omega),
    show (64 + s) % 64 = s by omega,
    show (64 + t) % 64 + 1 - (64 + t) / 64 = t by omega, show 64 + t - 64 = t by omega, show 64 + s - 64 = s by omega]
theorem t1kr (s t : ℕ) (hs : s < 64) (ht : t < 64) : t1R (evR A R) (odR A R) B K (64 + s) t =
    if s ≤ t then ∑ c ∈ range 64, K s (64 + c) * R (64 + c) t else 0 := by
  rw [t1R, ti1 A R B K]
  simp only [koP, decide_eq_true_eq, odR, if_pos ht, if_neg (show ¬ 64 + s < 64 by omega), show (64 + s) % 64 = s by omega,
    show t % 64 + 1 - t / 64 = t + 1 by omega, show (s < t + 1) = (s ≤ t) from propext Nat.lt_succ_iff, show 64 + s - 64 = s by omega]

theorem z0 (s t : ℕ) (hs : s < 64) (ht : t < 64) : zR (evR A R) (odR A R) B K s t =
    if s < t then ∑ c ∈ range 64, B s c * A c t else 0 := by rw [zR, if_pos ht, t0a A R B K s t hs ht]
theorem z1 (s t : ℕ) (hs : s < 64) (ht : t < 64) : zR (evR A R) (odR A R) B K s (64 + t) =
    if s < t then ∑ c ∈ range 64, B s (64 + c) * A (64 + c) t else 0 := by rw [zR, if_neg (by omega), t1a A R B K s t hs ht]

theorem u0 (v t : ℕ) (ht : t < 64) : uR (evR A R) (odR A R) B K VA VB S v t =
    ∑ s ∈ range 64, xR (evR A R) (odR A R) B K VA VB S v s * pinvR (zR (evR A R) (odR A R) B K) s t := by
  rw [uR, show (128 : ℕ) = 64 + 64 from rfl, sum_range_add, add_eq_left.mpr]
  · exact sum_congr rfl fun c hc => by rw [if_pos (mem_range.mp hc), if_pos ht]
  · exact sum_eq_zero fun c hc => by rw [if_neg (by omega), if_pos ht, mul_zero]
theorem u1 (v t : ℕ) (ht : t < 64) : uR (evR A R) (odR A R) B K VA VB S v (64 + t) =
    ∑ s ∈ range 64, xR (evR A R) (odR A R) B K VA VB S v (64 + s) * pinvR (zR (evR A R) (odR A R) B K) s (64 + t) := by
  rw [uR, show (128 : ℕ) = 64 + 64 from rfl, sum_range_add, add_eq_right.mpr]
  · exact sum_congr rfl fun c hc => by rw [if_neg (by omega), if_neg (by omega), show 64 + c - 64 = c by omega]
  · exact sum_eq_zero fun c hc => by rw [if_pos (mem_range.mp hc), if_neg (by omega), mul_zero]

theorem head0 : ChunkSpec A R B K VA S (E 0) (soR (evR A R) (odR A R) B K VA VB S E)
    (fun v t => yoR (evR A R) (odR A R) B K VA VB S v (64 + t)) := by
  refine ⟨uR (evR A R) (odR A R) B K VA VB S, fun v hv t ht => ?_, fun v hv c hc => ?_, fun v hv t ht => ?_⟩
  · have hp := pinv_right (zR (evR A R) (odR A R) B K) 0 (by omega) (fun s hs t ht => by
      simp only [mul_zero, zero_add]; rw [z0 A R B K s t hs (by omega), if_neg (by omega)])
    simp only [mul_zero, zero_add] at hp
    rw [u_of_right (xR (evR A R) (odR A R) B K VA VB S) _ _ _ hp (fun v t ht => u0 A R B K VA VB S v t ht) v t ht,
      sum_congr rfl fun m hm => by rw [z0 A R B K m t (mem_range.mp hm) ht]]
    congr 2
    rw [xR, if_pos ht, spR, if_pos (by omega), o0R]
    refine congrArg₂ (· + ·) (sum_congr rfl fun c hc => ?_) (sum_congr rfl fun s hs => ?_)
    · rw [ar0 A R c t (mem_range.mp hc), evR, if_pos ht]
    · rw [if_pos (by omega), t0ka A R B K s t (mem_range.mp hs) ht]
  · rw [soR, if_pos hc, if_pos hc, oR, if_pos (by omega), o0R]
    congr 2
    · congr 1
      refine sum_congr rfl fun s hs => ?_
      rw [bbR, if_pos (mem_range.mp hs), if_pos hc]
    · refine sum_congr rfl fun s hs => ?_
      rw [if_neg (by omega), show 128 + c - 128 = c by omega]
  · beta_reduce
    rw [yoR, if_neg (by omega), yR, if_neg (by omega), spR, if_pos (by omega), o0R, oR, if_pos (by omega)]
    refine congrArg₂ (· + ·) (congrArg₂ (· + ·) (sum_congr rfl fun c hc => ?_) (sum_congr rfl fun s hs => ?_)) (sum_congr rfl fun s hs => ?_)
    · rw [ar0 A R c _ (mem_range.mp hc), evR, if_neg (by omega), show 64 + t - 64 = t by omega]
    · rw [if_pos (by omega), t0kr A R B K s t (mem_range.mp hs) ht]
    · rw [bbR, if_pos (mem_range.mp hs), if_neg (by omega), brR, if_neg (by omega), t0r A R B K s t (mem_range.mp hs) ht]

theorem head1 : ChunkSpec (fun c => A (64 + c)) (fun c => R (64 + c)) (fun s c => B s (64 + c)) (fun s c => K s (64 + c)) VB
    (fun v c => S v (64 + c)) (fun c => E 0 (64 + c)) (fun v c => soR (evR A R) (odR A R) B K VA VB S E v (64 + c))
    (yoR (evR A R) (odR A R) B K VA VB S) := by
  refine ⟨fun v t => uR (evR A R) (odR A R) B K VA VB S v (64 + t), fun v hv t ht => ?_, fun v hv c hc => ?_, fun v hv t ht => ?_⟩
  · have hp := pinv_right (zR (evR A R) (odR A R) B K) 1 (by omega) (fun s hs t ht => by
      simp only [mul_one]; rw [z1 A R B K s t hs (by omega), if_neg (by omega)])
    simp only [mul_one] at hp
    beta_reduce
    have hr := u_of_right (fun v s => xR (evR A R) (odR A R) B K VA VB S v (64 + s)) (fun s t => pinvR (zR (evR A R) (odR A R) B K) s (64 + t))
      (fun s t => zR (evR A R) (odR A R) B K s (64 + t)) (fun v t => uR (evR A R) (odR A R) B K VA VB S v (64 + t)) hp
      (fun v t ht => u1 A R B K VA VB S v t ht) v t ht
    beta_reduce at hr
    rw [hr, sum_congr (f := fun m => _ * zR (evR A R) (odR A R) B K m (64 + t)) rfl fun m hm => by rw [z1 A R B K m t (mem_range.mp hm) ht]]
    congr 2
    rw [xR, if_neg (by omega), spR, if_neg (by omega), o1R]
    refine congrArg₂ (· + ·) (sum_congr rfl fun c hc => ?_) (sum_congr rfl fun s hs => ?_)
    · rw [ar1 A R c _, odR, if_neg (by omega), show 128 + (64 + t) - 128 - 64 = t by omega]
    · rw [if_pos (by omega), t1ka A R B K s t (mem_range.mp hs) ht]
  · beta_reduce
    rw [soR, if_neg (by omega), if_neg (by omega), oR, if_neg (by omega), o1R]
    congr 2
    · congr 1
      refine sum_congr rfl fun s hs => ?_
      rw [bbR, if_neg (by omega), if_neg (by omega), show 64 + s - 64 = s by omega, show 128 + (64 + c) - 128 = 64 + c by omega]
    · refine sum_congr rfl fun s hs => ?_
      rw [if_neg (by omega), show 128 + (64 + c) - 128 = 64 + c by omega]
  · beta_reduce
    rw [yoR, if_pos ht, yR, if_pos ht, spR, if_neg (by omega), o1R, oR, if_neg (by omega), show 128 + t - 128 = t by omega]
    refine congrArg₂ (· + ·) (congrArg₂ (· + ·) (sum_congr rfl fun c hc => ?_) (sum_congr rfl fun s hs => ?_)) (sum_congr rfl fun s hs => ?_)
    · rw [ar1 A R c _, odR, if_pos ht]
    · rw [if_pos (by omega), t1kr A R B K s t (mem_range.mp hs) ht]
    · rw [bbR, if_neg (by omega), if_pos ht, show 64 + s - 64 = s by omega, brR, if_pos ht, t1r A R B K s t (mem_range.mp hs) ht]
end

end Cert.KernelIdeal.M

end
-- ==== Proof.V.Steps.lean ====
/- The recurrence: 64 of its steps give what a chunk computes. -/
module

public import proofs.«01_k».proof.Proof.V.Head

@[expose] public section

set_option maxRecDepth 16384

noncomputable section

namespace Cert.KernelIdeal.M

open Finset

/-- One step of the recurrence for one head: decay the state, correct it along `kk`, add the new value's product. -/
def stp (ω κ ι k vv : ℕ → ℝ) (σ : ℕ → ℕ → ℝ) : ℕ → ℕ → ℝ := fun v c =>
  σ v c * ω c + (∑ c' ∈ range 64, σ v c' * -κ c') * (κ c * ι c) + vv v * k c

/-- Two to a real power. -/
def p2 (x : ℝ) : ℝ := Real.rpow 2 x
theorem p2_add (x y : ℝ) : p2 (x + y) = p2 x * p2 y := Real.rpow_add (by norm_num) x y
theorem p2_zero : p2 0 = 1 := Real.rpow_zero 2
theorem p2_inv (x : ℝ) : p2 x * p2 (0 - x) = 1 := by rw [← p2_add, add_sub_cancel, p2_zero]

theorem sum_lt (f g : ℕ → ℝ) (n : ℕ) (hn : n ≤ 64) :
    ∑ s ∈ range 64, f s * (if s < n then g s else 0) = ∑ s ∈ range n, f s * g s := by
  rw [← sum_subset (range_subset_range.mpr hn)]
  · exact sum_congr rfl fun s hs => by rw [if_pos (mem_range.mp hs)]
  · intro s _ hs; rw [if_neg (by simpa using hs), mul_zero]

theorem chunk_steps (σ : ℕ → ℕ → ℕ → ℝ) (κ ι r k e vv : ℕ → ℕ → ℝ) (D A R B K V S SO YO : ℕ → ℕ → ℝ) (E : ℕ → ℝ)
    (hs : ChunkSpec A R B K V S E SO YO)
    (hD : ∀ t, ∀ c < 64, D t c = ∑ τ ∈ range t, e τ c)
    (hA : ∀ c < 64, ∀ t < 64, A c t = κ t c * p2 (e t c - D (t + 1) c))
    (hR : ∀ c < 64, ∀ t < 64, R c t = r t c * p2 (0 - D (t + 1) c))
    (hB : ∀ s < 64, ∀ c < 64, B s c = κ s c * ι s c * p2 (D (s + 1) c))
    (hK : ∀ s < 64, ∀ c < 64, K s c = k s c * p2 (D (s + 1) c))
    (hV : ∀ v < 64, ∀ s < 64, V v s = vv s v)
    (hE : ∀ c < 64, E c = p2 (0 - D 64 c))
    (hS : ∀ v < 64, ∀ c < 64, S v c = σ 0 v c)
    (hσ : ∀ t < 64, σ (t + 1) = stp (fun c => p2 (0 - e t c)) (κ t) (ι t) (k t) (vv t) (σ t)) :
    (∀ v < 64, ∀ c < 64, SO v c = σ 64 v c) ∧ ∀ v < 64, ∀ t < 64, YO v t = ∑ c ∈ range 64, σ (t + 1) v c * r t c := by
  obtain ⟨U, hU, hSO, hYO⟩ := hs
  have hD0 : ∀ c < 64, D 0 c = 0 := fun c hc => by rw [hD 0 c hc, sum_range_zero]
  have hD1 : ∀ t, ∀ c < 64, D (t + 1) c = D t c + e t c := fun t c hc => by rw [hD _ c hc, hD _ c hc, sum_range_succ]
  let T : ℕ → ℕ → ℕ → ℝ := fun t v c => S v c + (∑ s ∈ range t, U v s * B s c) + ∑ s ∈ range t, V v s * K s c
  have expand : ∀ (t : ℕ) (v : ℕ) (G : ℕ → ℝ), ∑ c ∈ range 64, T t v c * G c = (∑ c ∈ range 64, S v c * G c) +
      (∑ s ∈ range t, U v s * ∑ c ∈ range 64, B s c * G c) + ∑ s ∈ range t, V v s * ∑ c ∈ range 64, K s c * G c := by
    intro t v G
    simp only [T, add_mul, sum_add_distrib, sum_mul, mul_sum]
    rw [sum_comm (s := range 64), sum_comm (s := range 64)]
    simp only [mul_assoc]
  have hUT : ∀ v < 64, ∀ t < 64, U v t = -∑ c ∈ range 64, T t v c * A c t := by
    intro v hv t ht
    rw [hU v hv t ht, expand, sum_lt (V v) (fun s => ∑ c ∈ range 64, K s c * A c t) t (by omega),
      sum_lt (U v) (fun s => ∑ c ∈ range 64, B s c * A c t) t (by omega)]
    ring
  have hT1 : ∀ t v c, T (t + 1) v c = T t v c + U v t * B t c + V v t * K t c := by
    intro t v c; simp only [T, sum_range_succ]; ring
  have main : ∀ t ≤ 64, ∀ v < 64, ∀ c < 64, σ t v c = T t v c * p2 (0 - D t c) := by
    intro t
    induction t with
    | zero => intro _ v hv c hc; simp [T, hS v hv c hc, hD0 c hc, p2_zero]
    | succ t ih =>
      intro ht v hv c hc
      have hsa : (∑ c' ∈ range 64, σ t v c' * -κ t c') = U v t := by
        rw [hUT v hv t (by omega), ← sum_neg_distrib]
        refine sum_congr rfl fun c' hc' => ?_
        have hc2 := mem_range.mp hc'
        rw [ih (by omega) v hv c' hc2, hA c' hc2 t (by omega), hD1 t c' hc2,
          show e t c' - (D t c' + e t c') = 0 - D t c' by ring]
        ring
      rw [hσ t (by omega)]
      simp only [stp]
      rw [hsa, ih (by omega) v hv c hc, hT1, hB t (by omega) c hc, hK t (by omega) c hc, hV v hv t (by omega)]
      have e1 : p2 (0 - D t c) * p2 (0 - e t c) = p2 (0 - D (t + 1) c) := by
        rw [← p2_add, hD1 t c hc]; congr 1; ring
      have e2 := p2_inv (D (t + 1) c)
      linear_combination T t v c * e1 - (U v t * κ t c * ι t c + vv t v * k t c) * e2
  refine ⟨fun v hv c hc => ?_, fun v hv t ht => ?_⟩
  · rw [main 64 le_rfl v hv c hc, hSO v hv c hc, hE c hc]
  · have h1 : ∑ c ∈ range 64, σ (t + 1) v c * r t c = ∑ c ∈ range 64, T (t + 1) v c * R c t := by
      refine sum_congr rfl fun c hc => ?_
      have hc2 := mem_range.mp hc
      rw [main (t + 1) (by omega) v hv c hc2, hR c hc2 t ht]; ring
    rw [h1, expand, hYO v hv t ht]
    simp only [← Nat.lt_succ_iff]
    rw [sum_lt (V v) (fun s => ∑ c ∈ range 64, K s c * R c t) (t + 1) (by omega),
      sum_lt (U v) (fun s => ∑ c ∈ range 64, B s c * R c t) (t + 1) (by omega)]
    ring

end Cert.KernelIdeal.M

end
-- ==== Proof.V.Pair.lean ====
/- A pair of heads over one block of 128 steps: the state after it and the outputs are the recurrence's. -/
module

public import proofs.«01_k».proof.Proof.V.Steps

@[expose] public section

set_option maxRecDepth 16384

noncomputable section

namespace Cert.KernelIdeal.M

open Idealize.ShloMosaic Cert.KernelIdeal Cert.KernelIdeal.Facts₀ Cert.KernelIdeal.Facts
open Finset

/-- A block with one leading row, of real numbers. -/
def up3 {n m : ℕ} {φ : FTy} (X : ℕ → ℕ → ℝ) : FVec Ideal ⟨3, ![1, n, m]⟩ φ :=
  fun i => ((X (i 1).val (i 2).val : ℝ) : EReal)

theorem rows128_up {φ : FTy} (X : ℕ → ℕ → ℝ) : rows128 (F := Ideal) (up3 X : FVec Ideal S1x128x128 φ) = up X := by
  funext i; idx_vars i; pointwise [rows128]; rfl
theorem state_up (X : ℕ → ℕ → ℝ) :
    shapeCast S64x128 (up3 X : FVec Ideal S1x64x128 .f32) shapeCasts_S1x64x128_S64x128 = (up X : FVec Ideal S64x128 .f32) := by
  funext i; idx_vars i; pointwise []; rfl
theorem scale_up (X : ℕ → ℕ → ℝ) :
    shapeCast S1x128 (up3 X : FVec Ideal S1x1x128 .f32) shapeCasts_S1x1x128_S1x128 = (up X : FVec Ideal S1x128 .f32) := by
  funext i; idx_vars i; pointwise []
  show ((X 0 i1.val : ℝ) : EReal) = ((X i0.val i1.val : ℝ) : EReal)
  rw [show i0.val = 0 by omega]
theorem code_up {φ : FTy} (X : ℕ → ℕ → ℝ) :
    shapeCast S64x128 (up3 X : FVec Ideal S1x64x128 φ) shapeCasts_S1x64x128_S64x128 = (up X : FVec Ideal S64x128 φ) := by
  funext i; idx_vars i; pointwise []; rfl

theorem vals_up (KS VS V : ℕ → ℕ → ℝ) :
    vals (F := Ideal) (up3 KS) (up3 VS) (up3 V) = up (fun i j => V i j * (KS 0 j * VS 0 j)) := by
  unfold vals
  rw [code_up, scale_up, scale_up, extf_up, mulf_up, bcRow_up, mulf_up]

theorem trans_up (X : ℕ → ℕ → ℝ) : tr (F := Ideal) (up X) = up (fun i j => X j i) := by
  funext i; idx_vars i; pointwise [tr]; rfl

/-- The running sums within each chunk of 64. -/
def dR (E2 : ℕ → ℕ → ℝ) (c j : ℕ) : ℝ := ∑ τ ∈ range (j % 64 + 1), E2 c (64 * (j / 64) + τ)

/-- The stacked triangles: three copies of the two chunks' upper triangles of ones. -/
def triR (k j : ℕ) : ℝ := if k % 128 ≤ j ∧ k % 128 / 64 = j / 64 then 1 else 0

theorem sum_tri (X : ℕ → ℝ) (j : ℕ) (hj : j < 128) :
    ∑ k ∈ range 128, X k * triR (128 + 128 + k) j = ∑ τ ∈ range (j % 64 + 1), X (64 * (j / 64) + τ) := by
  have h : ∀ k ∈ range 128, X k * triR (128 + 128 + k) j = if k ≤ j ∧ k / 64 = j / 64 then X k else 0 := by
    intro k hk
    have := mem_range.mp hk
    rw [triR, show (128 + 128 + k) % 128 = k by omega]
    split <;> simp
  rw [sum_congr rfl h, ← sum_filter]
  symm
  refine sum_bij (fun τ _ => 64 * (j / 64) + τ) ?_ ?_ ?_ ?_
  · intro τ hτ
    have := mem_range.mp hτ
    rw [mem_filter, mem_range]
    omega
  · intro a _ b _ hab; omega
  · intro b hb
    rw [mem_filter, mem_range] at hb
    exact ⟨b - 64 * (j / 64), mem_range.mpr (by omega), by omega⟩
  · intro _ _; rfl

theorem decay_up (E2 : ℕ → ℕ → ℝ) : decay (F := Ideal) (up E2) (up triR) = up (dR E2) := by
  unfold decay
  rw [hi_up, mid_up, lo_up]
  have hX : concatenate S128x384 1 [⟨S128x128, (up fun _ _ => 0 : FVec Ideal S128x128 .bf16)⟩, ⟨S128x128, up fun _ _ => 0⟩, ⟨S128x128, up E2⟩]
      concatenates_S128x128_S128x128_S128x128_S128x384_d1 =
      (up (fun i k => if k < 128 then 0 else if k - 128 < 128 then 0 else E2 i (k - 128 - 128)) : FVec Ideal S128x384 .bf16) := by
    funext i; idx_vars i
    pointwise []
    simp only [up_ix2, dite_eq_ite, apply_ite Real.toEReal]
  rw [hX]
  funext i; idx_vars i
  pointwise []
  simp only [up_ix2]
  rw [coe_sum_range 384 (fun k => if k < 128 then 0 else if k - 128 < 128 then 0 else E2 i0.val (k - 128 - 128)) (fun k => triR k i1.val)]
  have hj := i1.isLt
  generalize i1.val = J at hj ⊢
  generalize i0.val = I
  refine congrArg _ ?_
  rw [dR, ← sum_tri (E2 I) J hj, show (384 : ℕ) = 128 + 128 + 128 from rfl, sum_range_add, sum_eq_zero, zero_add]
  · refine sum_congr rfl fun k hk => ?_
    rw [if_neg (by omega), if_neg (by omega), show 128 + 128 + k - 128 - 128 = k by omega]
  · intro k hk
    have := mem_range.mp hk
    split_ifs <;> first | omega | simp

section
variable (E2 KK RR K IC VA VB S : ℕ → ℕ → ℝ)

def aaR (c j : ℕ) : ℝ := KK c j * p2 (E2 c j - dR E2 c j)
def rrR (c j : ℕ) : ℝ := RR c j * p2 (0 - dR E2 c j)
def btR (s c : ℕ) : ℝ := KK c s * IC c s * p2 (dR E2 c s)
def ktR (s c : ℕ) : ℝ := K c s * p2 (dR E2 c s)
def stR (s c : ℕ) : ℝ := p2 (0 - dR E2 c s)
/-- The first chunk's state and outputs. -/
def so0R : ℕ → ℕ → ℝ :=
  soR (evR (aaR E2 KK) (rrR E2 RR)) (odR (aaR E2 KK) (rrR E2 RR)) (btR E2 KK IC) (ktR E2 K)
    (fun i j => if j < 64 then VA i j else VA i ((j + 64) % 128)) (fun i j => if j < 64 then VB i j else VB i ((j + 64) % 128)) S
    (fun i j => stR E2 (63 + i) j)
def yo0R : ℕ → ℕ → ℝ :=
  yoR (evR (aaR E2 KK) (rrR E2 RR)) (odR (aaR E2 KK) (rrR E2 RR)) (btR E2 KK IC) (ktR E2 K)
    (fun i j => if j < 64 then VA i j else VA i ((j + 64) % 128)) (fun i j => if j < 64 then VB i j else VB i ((j + 64) % 128)) S
/-- The second chunk's. -/
def so1R : ℕ → ℕ → ℝ :=
  soR (evR (fun c t => aaR E2 KK c (64 + t)) (fun c t => rrR E2 RR c (64 + t))) (odR (fun c t => aaR E2 KK c (64 + t)) (fun c t => rrR E2 RR c (64 + t)))
    (fun s c => btR E2 KK IC (64 + s) c) (fun s c => ktR E2 K (64 + s) c)
    (fun i j => if j < 64 then VA i ((j + 64) % 128) else VA i j) (fun i j => if j < 64 then VB i ((j + 64) % 128) else VB i j)
    (so0R E2 KK RR K IC VA VB S) (fun i j => stR E2 (127 + i) j)
def yo1R : ℕ → ℕ → ℝ :=
  yoR (evR (fun c t => aaR E2 KK c (64 + t)) (fun c t => rrR E2 RR c (64 + t))) (odR (fun c t => aaR E2 KK c (64 + t)) (fun c t => rrR E2 RR c (64 + t)))
    (fun s c => btR E2 KK IC (64 + s) c) (fun s c => ktR E2 K (64 + s) c)
    (fun i j => if j < 64 then VA i ((j + 64) % 128) else VA i j) (fun i j => if j < 64 then VB i ((j + 64) % 128) else VB i j)
    (so0R E2 KK RR K IC VA VB S)

theorem row63_up (X : ℕ → ℕ → ℝ) : extractStridedSlice S1x128 ![63, 0] (up X : FVec Ideal S128x128 .f32) slices_S128x128_o63_0_S1x128 =
    (up (fun i j => X (63 + i) j) : FVec Ideal S1x128 .f32) := by
  funext i; idx_vars i; pointwise []; simp only [up_ix2]; congr 2 <;> omega
theorem row127_up (X : ℕ → ℕ → ℝ) : extractStridedSlice S1x128 ![127, 0] (up X : FVec Ideal S128x128 .f32) slices_S128x128_o127_0_S1x128 =
    (up (fun i j => X (127 + i) j) : FVec Ideal S1x128 .f32) := by
  funext i; idx_vars i; pointwise []; simp only [up_ix2]; congr 2 <;> omega

theorem pair_up (w : FVec Ideal S1x128x128 .bf16) (tri : FVec Ideal S384x128 .bf16)
    (hw : rate w = up E2) (ht : tri = up triR) :
    pair (F := Ideal) lanes (mk lowP) (mk keP) (mk koP) w tri (up3 KK) (up3 RR) (up3 K) (up3 IC) (up VA) (up VB) (up3 S) =
      ⟨up (so1R E2 KK RR K IC VA VB S), up (yo0R E2 KK RR K IC VA VB S), up (yo1R E2 KK RR K IC VA VB S)⟩ := by
  have e1 : (up (fun i j => if lowP i j = true then KK i j * Real.rpow 2 (E2 i j - dR E2 i j) else
        RR i ((j + 64) % 128) * Real.rpow 2 (0 - dR E2 i ((j + 64) % 128))) : FVec Ideal S128x128 .f32) =
      up (evR (aaR E2 KK) (rrR E2 RR)) := by
    refine up_congr _ _ fun i _ j hj => ?_
    simp only [lowP, decide_eq_true_eq, evR]
    split
    · rfl
    · rw [show (j + 64) % 128 = j - 64 by omega]; rfl
  have e2 : (up (fun i j => if lowP i j = true then RR i j * Real.rpow 2 (0 - dR E2 i j) else
        KK i ((j + 64) % 128) * Real.rpow 2 (E2 i ((j + 64) % 128) - dR E2 i ((j + 64) % 128))) : FVec Ideal S128x128 .f32) =
      up (odR (aaR E2 KK) (rrR E2 RR)) := by
    refine up_congr _ _ fun i _ j hj => ?_
    simp only [lowP, decide_eq_true_eq, odR]
    split
    · rfl
    · rw [show (j + 64) % 128 = j - 64 by omega]; rfl
  have e3 : (up (fun i j => if lowP i j = true then KK i ((j + 64) % 128) * Real.rpow 2 (E2 i ((j + 64) % 128) - dR E2 i ((j + 64) % 128)) else
        RR i j * Real.rpow 2 (0 - dR E2 i j)) : FVec Ideal S128x128 .f32) =
      up (evR (fun c t => aaR E2 KK c (64 + t)) (fun c t => rrR E2 RR c (64 + t))) := by
    refine up_congr _ _ fun i _ j hj => ?_
    simp only [lowP, decide_eq_true_eq, evR]
    split
    · rw [show (j + 64) % 128 = 64 + j by omega]; rfl
    · rw [show 64 + (j - 64) = j by omega]; rfl
  have e4 : (up (fun i j => if lowP i j = true then RR i ((j + 64) % 128) * Real.rpow 2 (0 - dR E2 i ((j + 64) % 128)) else
        KK i j * Real.rpow 2 (E2 i j - dR E2 i j)) : FVec Ideal S128x128 .f32) =
      up (odR (fun c t => aaR E2 KK c (64 + t)) (fun c t => rrR E2 RR c (64 + t))) := by
    refine up_congr _ _ fun i _ j hj => ?_
    simp only [lowP, decide_eq_true_eq, odR]
    split
    · rw [show (j + 64) % 128 = 64 + j by omega]; rfl
    · rw [show 64 + (j - 64) = j by omega]; rfl
  unfold pair
  simp only [hw, ht, decay_up, zf_up, subf_up, exp2_up, rows128_up, extf_up, mulf_up, trans_up, swap128_up, swap64_up, top_mk, select_up,
    e1, e2, e3, e4, hi_up, mid_up, lo_up, top_up, bot_up, state_up, row63_up, row127_up, chunk_up]
  simp only [lowP, decide_eq_true_eq]
  rfl

theorem dR0 (c t : ℕ) (ht : t < 64) : dR E2 c t = ∑ τ ∈ range (t + 1), E2 c τ := by
  rw [dR, show t % 64 = t by omega, show t / 64 = 0 by omega]; simp only [mul_zero, zero_add]
theorem dR1 (c t : ℕ) (ht : t < 64) : dR E2 c (64 + t) = ∑ τ ∈ range (t + 1), E2 c (64 + τ) := by
  rw [dR, show (64 + t) % 64 = t by omega, show (64 + t) / 64 = 1 by omega]

/-- The first head of the pair follows the recurrence. -/
theorem pair_head0 (σ : ℕ → ℕ → ℕ → ℝ) (hS : ∀ v < 64, ∀ c < 64, S v c = σ 0 v c)
    (hσ : ∀ t < 128, σ (t + 1) = stp (fun c => p2 (0 - E2 c t)) (fun c => KK c t) (fun c => IC c t) (fun c => K c t) (fun v => VA v t) (σ t)) :
    (∀ v < 64, ∀ c < 64, so1R E2 KK RR K IC VA VB S v c = σ 128 v c) ∧
    (∀ v < 64, ∀ t < 64, yo0R E2 KK RR K IC VA VB S v (64 + t) = ∑ c ∈ range 64, σ (t + 1) v c * RR c t) ∧
    (∀ v < 64, ∀ t < 64, yo1R E2 KK RR K IC VA VB S v (64 + t) = ∑ c ∈ range 64, σ (64 + t + 1) v c * RR c (64 + t)) := by
  have h0 := chunk_steps σ (fun t c => KK c t) (fun t c => IC c t) (fun t c => RR c t) (fun t c => K c t) (fun t c => E2 c t)
    (fun t v => VA v t) (fun t c => ∑ τ ∈ range t, E2 c τ) _ _ _ _ _ _ _ _ _ (head0 (aaR E2 KK) (rrR E2 RR) (btR E2 KK IC) (ktR E2 K)
      (fun i j => if j < 64 then VA i j else VA i ((j + 64) % 128)) (fun i j => if j < 64 then VB i j else VB i ((j + 64) % 128)) S
      (fun i j => stR E2 (63 + i) j))
    (fun t c hc => rfl) (fun c hc t ht => by simp only [aaR, dR0 E2 c t ht]) (fun c hc t ht => by simp only [rrR, dR0 E2 c t ht])
    (fun s hs c hc => by simp only [btR, dR0 E2 c s hs]) (fun s hs c hc => by simp only [ktR, dR0 E2 c s hs])
    (fun v hv s hs => if_pos hs) (fun c hc => by simp only [stR, add_zero, dR0 E2 c 63 (by omega)]) hS (fun t ht => hσ t (by omega))
  have h1 := chunk_steps (fun t => σ (64 + t)) (fun t c => KK c (64 + t)) (fun t c => IC c (64 + t)) (fun t c => RR c (64 + t))
    (fun t c => K c (64 + t)) (fun t c => E2 c (64 + t))
    (fun t v => VA v (64 + t)) (fun t c => ∑ τ ∈ range t, E2 c (64 + τ)) _ _ _ _ _ _ _ _ _
    (head0 (fun c t => aaR E2 KK c (64 + t)) (fun c t => rrR E2 RR c (64 + t)) (fun s c => btR E2 KK IC (64 + s) c) (fun s c => ktR E2 K (64 + s) c)
      (fun i j => if j < 64 then VA i ((j + 64) % 128) else VA i j) (fun i j => if j < 64 then VB i ((j + 64) % 128) else VB i j)
      (so0R E2 KK RR K IC VA VB S) (fun i j => stR E2 (127 + i) j))
    (fun t c hc => rfl) (fun c hc t ht => by simp only [aaR, dR1 E2 c t ht]) (fun c hc t ht => by simp only [rrR, dR1 E2 c t ht])
    (fun s hs c hc => by simp only [btR, dR1 E2 c s hs]) (fun s hs c hc => by simp only [ktR, dR1 E2 c s hs])
    (fun v hv s hs => by rw [if_pos hs, show (s + 64) % 128 = 64 + s by omega])
    (fun c hc => by simp only [stR, add_zero, ← dR1 E2 c 63 (by omega)]) (fun v hv c hc => h0.1 v hv c hc) (fun t ht => hσ (64 + t) (by omega))
  exact ⟨h1.1, h0.2, h1.2⟩

/-- So does the second. -/
theorem pair_head1 (σ : ℕ → ℕ → ℕ → ℝ) (hS : ∀ v < 64, ∀ c < 64, S v (64 + c) = σ 0 v c)
    (hσ : ∀ t < 128, σ (t + 1) = stp (fun c => p2 (0 - E2 (64 + c) t)) (fun c => KK (64 + c) t) (fun c => IC (64 + c) t) (fun c => K (64 + c) t)
      (fun v => VB v t) (σ t)) :
    (∀ v < 64, ∀ c < 64, so1R E2 KK RR K IC VA VB S v (64 + c) = σ 128 v c) ∧
    (∀ v < 64, ∀ t < 64, yo0R E2 KK RR K IC VA VB S v t = ∑ c ∈ range 64, σ (t + 1) v c * RR (64 + c) t) ∧
    (∀ v < 64, ∀ t < 64, yo1R E2 KK RR K IC VA VB S v t = ∑ c ∈ range 64, σ (64 + t + 1) v c * RR (64 + c) (64 + t)) := by
  have h0 := chunk_steps σ (fun t c => KK (64 + c) t) (fun t c => IC (64 + c) t) (fun t c => RR (64 + c) t) (fun t c => K (64 + c) t)
    (fun t c => E2 (64 + c) t)
    (fun t v => VB v t) (fun t c => ∑ τ ∈ range t, E2 (64 + c) τ) _ _ _ _ _ _ _ _ _ (head1 (aaR E2 KK) (rrR E2 RR) (btR E2 KK IC) (ktR E2 K)
      (fun i j => if j < 64 then VA i j else VA i ((j + 64) % 128)) (fun i j => if j < 64 then VB i j else VB i ((j + 64) % 128)) S
      (fun i j => stR E2 (63 + i) j))
    (fun t c hc => rfl) (fun c hc t ht => by simp only [aaR, dR0 E2 _ t ht]) (fun c hc t ht => by simp only [rrR, dR0 E2 _ t ht])
    (fun s hs c hc => by simp only [btR, dR0 E2 _ s hs]) (fun s hs c hc => by simp only [ktR, dR0 E2 _ s hs])
    (fun v hv s hs => if_pos hs) (fun c hc => by simp only [stR, add_zero, dR0 E2 _ 63 (by omega)]) hS (fun t ht => hσ t (by omega))
  have h1 := chunk_steps (fun t => σ (64 + t)) (fun t c => KK (64 + c) (64 + t)) (fun t c => IC (64 + c) (64 + t)) (fun t c => RR (64 + c) (64 + t))
    (fun t c => K (64 + c) (64 + t)) (fun t c => E2 (64 + c) (64 + t))
    (fun t v => VB v (64 + t)) (fun t c => ∑ τ ∈ range t, E2 (64 + c) (64 + τ)) _ _ _ _ _ _ _ _ _
    (head1 (fun c t => aaR E2 KK c (64 + t)) (fun c t => rrR E2 RR c (64 + t)) (fun s c => btR E2 KK IC (64 + s) c) (fun s c => ktR E2 K (64 + s) c)
      (fun i j => if j < 64 then VA i ((j + 64) % 128) else VA i j) (fun i j => if j < 64 then VB i ((j + 64) % 128) else VB i j)
      (so0R E2 KK RR K IC VA VB S) (fun i j => stR E2 (127 + i) j))
    (fun t c hc => rfl) (fun c hc t ht => by simp only [aaR, dR1 E2 _ t ht]) (fun c hc t ht => by simp only [rrR, dR1 E2 _ t ht])
    (fun s hs c hc => by simp only [btR, dR1 E2 _ s hs]) (fun s hs c hc => by simp only [ktR, dR1 E2 _ s hs])
    (fun v hv s hs => by rw [if_pos hs, show (s + 64) % 128 = 64 + s by omega])
    (fun c hc => by simp only [stR, add_zero, ← dR1 E2 _ 63 (by omega)]) (fun v hv c hc => h0.1 v hv c hc) (fun t ht => hσ (64 + t) (by omega))
  exact ⟨h1.1, h0.2, h1.2⟩
end

end Cert.KernelIdeal.M

end
-- ==== Proof.V.Row.lean ====
/- One pair of heads with its outputs, as steps of the recurrence. -/
module

public import proofs.«01_k».proof.Proof.V.Pair

@[expose] public section

set_option maxRecDepth 16384

noncomputable section

namespace Cert.KernelIdeal.M

open Idealize.ShloMosaic Cert.KernelIdeal Cert.KernelIdeal.Facts₀ Cert.KernelIdeal.Facts
open Finset

theorem outA_up (Y0 Y1 RS : ℕ → ℕ → ℝ) (s : FVec Ideal S64x128 .f32) :
    outA (F := Ideal) (mk lowP) ⟨s, up Y0, up Y1⟩ (up3 RS) =
      up (fun i j => (if lowP i j = true then Y0 i ((j + 64) % 128) else Y1 i j) * RS 0 j) := by
  unfold outA
  dsimp only
  rw [top_mk, swap64_up, select_up, scale_up, bcRow_up, mulf_up, truncf_up]
theorem outB_up (Y0 Y1 RS : ℕ → ℕ → ℝ) (s : FVec Ideal S64x128 .f32) :
    outB (F := Ideal) (mk lowP) ⟨s, up Y0, up Y1⟩ (up3 RS) =
      up (fun i j => (if lowP i j = true then Y0 i j else Y1 i ((j + 64) % 128)) * RS 0 j) := by
  unfold outB
  dsimp only
  rw [top_mk, swap64_up, select_up, scale_up, bcRow_up, mulf_up, truncf_up]

/-- A pair of heads over 128 steps: the two traces `σA` and `σB` give the state and both outputs. -/
theorem pair_steps (E2 KK RR K IC VA VB S RSA RSB : ℕ → ℕ → ℝ) (w : FVec Ideal S1x128x128 .bf16) (tri : FVec Ideal S384x128 .bf16)
    (hw : rate w = up E2) (ht : tri = up triR) (σA σB : ℕ → ℕ → ℕ → ℝ)
    (hA : ∀ v < 64, ∀ c < 64, S v c = σA 0 v c) (hB : ∀ v < 64, ∀ c < 64, S v (64 + c) = σB 0 v c)
    (sA : ∀ t < 128, σA (t + 1) = stp (fun c => p2 (0 - E2 c t)) (fun c => KK c t) (fun c => IC c t) (fun c => K c t) (fun v => VA v t) (σA t))
    (sB : ∀ t < 128, σB (t + 1) = stp (fun c => p2 (0 - E2 (64 + c) t)) (fun c => KK (64 + c) t) (fun c => IC (64 + c) t) (fun c => K (64 + c) t)
      (fun v => VB v t) (σB t)) :
    (pair (F := Ideal) lanes (mk lowP) (mk keP) (mk koP) w tri (up3 KK) (up3 RR) (up3 K) (up3 IC) (up VA) (up VB) (up3 S)).s =
        up (fun v c => if c < 64 then σA 128 v c else σB 128 v (c - 64)) ∧
    outA (F := Ideal) (mk lowP) (pair lanes (mk lowP) (mk keP) (mk koP) w tri (up3 KK) (up3 RR) (up3 K) (up3 IC) (up VA) (up VB) (up3 S)) (up3 RSA) =
        up (fun v t => (∑ c ∈ range 64, σA (t + 1) v c * RR c t) * RSA 0 t) ∧
    outB (F := Ideal) (mk lowP) (pair lanes (mk lowP) (mk keP) (mk koP) w tri (up3 KK) (up3 RR) (up3 K) (up3 IC) (up VA) (up VB) (up3 S)) (up3 RSB) =
        up (fun v t => (∑ c ∈ range 64, σB (t + 1) v c * RR (64 + c) t) * RSB 0 t) := by
  obtain ⟨a1, a2, a3⟩ := pair_head0 E2 KK RR K IC VA VB S σA hA sA
  obtain ⟨b1, b2, b3⟩ := pair_head1 E2 KK RR K IC VA VB S σB hB sB
  rw [pair_up E2 KK RR K IC VA VB S w tri hw ht]
  refine ⟨up_congr _ _ fun v hv c hc => ?_, ?_, ?_⟩
  · beta_reduce
    split_ifs with h
    · exact a1 v hv c h
    · have := b1 v hv (c - 64) (by omega)
      rwa [show 64 + (c - 64) = c by omega] at this
  · rw [outA_up]
    refine up_congr _ _ fun v hv t ht => ?_
    beta_reduce
    congr 1
    simp only [lowP, decide_eq_true_eq]
    split_ifs with h
    · rw [show (t + 64) % 128 = 64 + t by omega]; exact a2 v hv t h
    · have := a3 v hv (t - 64) (by omega)
      rwa [show 64 + (t - 64) = t by omega] at this
  · rw [outB_up]
    refine up_congr _ _ fun v hv t ht => ?_
    beta_reduce
    congr 1
    simp only [lowP, decide_eq_true_eq]
    split_ifs with h
    · exact b2 v hv t h
    · have := b3 v hv (t - 64) (by omega)
      rw [show 64 + (t - 64) = t by omega] at this
      rw [show (t + 64) % 128 = t - 64 by omega]; exact this

end Cert.KernelIdeal.M

end
-- ==== Proof.V.Masks.lean ====
/- The masks the kernel computes from its lane and row numbers, as conditions on the two positions. -/
module

public import proofs.«01_k».proof.Proof.Gen.KernelIdeal.Loops
public import proofs.«01_k».proof.Proof.V.Pair

@[expose] public section

set_option maxRecDepth 16384

noncomputable section

namespace Cert.KernelIdeal.M

open Idealize.ShloMosaic Cert.KernelIdeal
open Cert.KernelIdeal.Gen

theorem v3_lanes : iota .tc S128x128 32 [1] iota_S128x128_d1_w32 = lanes := by
  have h : ∀ b : Fin 128, iota .tc S128x128 32 [1] iota_S128x128_d1_w32 (ix2 (0 : Fin 128) b) = BitVec.ofNat 32 b.val := by decide +kernel
  funext i; rw [eq_ix2 i]; exact h _

theorem v6_mk : k0_pay787 = mk lowP := by
  have h : ∀ b : Fin 128, k0_pay787 (ix2 (0 : Fin 128) b) = BitVec.ofBool (lowP 0 b.val) := by decide +kernel
  exact mk_of fun a b => h b

/-- The row number within its chunk. -/
theorem v22_eq (a b : Fin 128) : k0_pay788 (ix2 a b) = BitVec.ofNat 32 (a.val % 64) := by
  have h : ∀ a : Fin 128, k0_pay788 (ix2 a (0 : Fin 128)) = BitVec.ofNat 32 (a.val % 64) := by decide +kernel
  exact h a

/-- The bound the strict mask compares the row number with. -/
def bound (v3 v38 : IVec S128x128 32) (v39 : IVec S128x128 32) (c64_i32_12 : BitVec 32) : IVec S128x128 32 :=
  have v40 : IVec S128x128 32 := divsi v3 v39
  have v41 : IVec S128x128 32 := broadcast S128x128 0#32
  have v42 : IVec S128x128 1 := cmpi .sgt v3 v41
  have v43 : IVec S128x128 32 := extui 32 v42 natLt_1_32
  have v44 : IVec S128x128 32 := broadcast S128x128 0#32
  have v45 : IVec S128x128 1 := cmpi .slt v3 v44
  have v46 : IVec S128x128 32 := extui 32 v45 natLt_1_32
  have v47 : IVec S128x128 32 := subi v43 v46
  let v48 : BitVec 1 := Scalar.cmpi .sgt c64_i32_12 0#32
  let v49 : BitVec 32 := Scalar.extui v48
  let v50 : BitVec 1 := Scalar.cmpi .slt c64_i32_12 0#32
  let v51 : BitVec 32 := Scalar.extui v50
  let v52 : BitVec 32 := Scalar.subi v49 v51
  have v53 : IVec S128x128 32 := broadcast S128x128 v52
  have v54 : IVec S128x128 1 := cmpi .ne v47 v53
  have v55 : IVec S128x128 32 := broadcast S128x128 c64_i32_12
  have v56 : IVec S128x128 32 := remsi v3 v55
  have v57 : IVec S128x128 32 := broadcast S128x128 0#32
  have v58 : IVec S128x128 1 := cmpi .ne v56 v57
  have v59 : IVec S128x128 1 := andi v54 v58
  have v60 : IVec S128x128 32 := broadcast S128x128 1#32
  have v61 : IVec S128x128 32 := subi v40 v60
  have v62 : IVec S128x128 32 := select v59 v61 v40
  have v63 : IVec S128x128 32 := addi v38 v62
  v63

/-- The bound the output mask compares the row number with. -/
def boundO (v66 v68 : IVec S128x128 32) (v82 v86 : IVec S128x128 1) : IVec S128x128 32 :=
  have v87 : IVec S128x128 1 := andi v82 v86
  have v88 : IVec S128x128 32 := broadcast S128x128 1#32
  have v89 : IVec S128x128 32 := subi v68 v88
  have v90 : IVec S128x128 32 := select v87 v89 v68
  have v91 : IVec S128x128 32 := subi v66 v90
  v91

/-- A comparison of small numbers. -/
theorem slt_small (a b : ℕ) (ha : a < 64) (hb : b < 66) :
    IntOp.cmpi .slt (BitVec.ofNat 32 a) (BitVec.ofNat 32 b) = BitVec.ofBool (decide (a < b)) := by
  have h : ∀ (a : Fin 64) (b : Fin 66), IntOp.cmpi .slt (BitVec.ofNat 32 a.val) (BitVec.ofNat 32 b.val) = BitVec.ofBool (decide (a.val < b.val)) := by decide +kernel
  exact h ⟨a, ha⟩ ⟨b, hb⟩

theorem v64_eq : k0_pay791 lanes k0_pay788 k0_pay789 64#32 k0_pay790 = mk keP := by
  have h : ∀ b : Fin 128, bound lanes k0_pay789 k0_pay790 64#32 (ix2 (0 : Fin 128) b) = BitVec.ofNat 32 (b.val % 64 + b.val / 64) := by decide +kernel
  refine mk_of fun a b => ?_
  show IntOp.cmpi .slt (k0_pay788 (ix2 a b)) (bound lanes k0_pay789 k0_pay790 64#32 (ix2 (0 : Fin 128) b)) = _
  rw [h b, v22_eq, slt_small _ _ (by omega) (by omega)]
  rfl

theorem v92_eq : k0_pay1 k0_pay788 (k0_pay792 k0_pay789) (k0_pay793 lanes) (k0_pay794 lanes) (k0_pay795 lanes) = mk koP := by
  have h : ∀ b : Fin 128, boundO (k0_pay792 k0_pay789) (k0_pay793 lanes) (k0_pay794 lanes) (k0_pay795 lanes) (ix2 (0 : Fin 128) b) = BitVec.ofNat 32 (b.val % 64 + 1 - b.val / 64) := by decide +kernel
  refine mk_of fun a b => ?_
  show IntOp.cmpi .slt (k0_pay788 (ix2 a b)) (boundO (k0_pay792 k0_pay789) (k0_pay793 lanes) (k0_pay794 lanes) (k0_pay795 lanes) (ix2 (0 : Fin 128) b)) = _
  rw [h b, v22_eq, slt_small _ _ (by omega) (by omega)]
  rfl

end Cert.KernelIdeal.M

end
-- ==== Proof.V.Local.lean ====
/- One trip of the batch loop on blocks of real numbers: what it stores into the state and the output. -/
module

public import proofs.«01_k».proof.Proof.V.Trip
public import proofs.«01_k».proof.Proof.V.Row
public import proofs.«01_k».proof.Proof.V.Masks
public import Idealize.ShloMosaic.Lib.WritesUnit
public import Idealize.ShloMosaic.Lib.Pipeline.Value

@[expose] public section

set_option maxRecDepth 16384

noncomputable section

namespace Cert.KernelIdeal.M

open Idealize.ShloMosaic Cert.KernelIdeal
open Cert.KernelIdeal.Gen
open Finset

/-- A block of real numbers. -/
def blk3 {p q r : ℕ} {φ : FTy} (X : ℕ → ℕ → ℕ → ℝ) : FVec Ideal ⟨3, ![p, q, r]⟩ φ :=
  fun i => ((X (i 0).val (i 1).val (i 2).val : ℝ) : EReal)

/-- One row of a block, cut at an offset. -/
theorem ld_blk {p q r : ℕ} {e : EltTy} {g : ℝ → Elt Ideal e} {x : (⟨3, ![p, q, r]⟩ : Shape).Idx → Elt Ideal e} {X : ℕ → ℕ → ℕ → ℝ}
    (hx : x = fun i => g (X (i 0).val (i 1).val (i 2).val)) {off : Fin 3 → ℕ} {n m a b c : ℕ} (h : off = ![a, b, c])
    (inb : ∀ x, off x + (⟨3, ![1, n, m]⟩ : Shape).size x ≤ (⟨3, ![p, q, r]⟩ : Shape).size x) (Y : ℕ → ℕ → ℝ) (hY : ∀ i j, X a (b + i) (c + j) = Y i j) :
    View.ld (Val := Elt Ideal) (e' := e) x (Rect.unit off (⟨3, ![1, n, m]⟩ : Shape).size inb) =
      fun i : (⟨3, ![1, n, m]⟩ : Shape).Idx => g (Y (i 1).val (i 2).val) := by
  subst h; subst hx
  funext x
  have h0 : (x 0).val = 0 := by have := (x 0).isLt; exact Nat.lt_one_iff.mp this
  show g (X (a + 1 * (x 0).val) (b + 1 * (x 1).val) (c + 1 * (x 2).val)) = g (Y (x 1).val (x 2).val)
  simp only [h0, Nat.one_mul, Nat.add_zero, hY]

/-- The newest piece wins where it lies; elsewhere the rest is read. -/
theorem read_put {sig : RefSig} {κ : Kind} {sp : Space} {p q r : ℕ} {e : EltTy} (g : ℝ → Elt Ideal e) (v : View sig κ sp ⟨3, ![p, q, r]⟩ e)
    (f : v.ty.Contents (Elt Ideal)) (off : Fin 3 → ℕ) (n m a b c : ℕ) (h : off = ![a, b, c])
    (inb : ∀ x, off x + (⟨3, ![1, n, m]⟩ : Shape).size x ≤ (⟨3, ![p, q, r]⟩ : Shape).size x)
    (w : (⟨3, ![1, n, m]⟩ : Shape).Idx → Elt Ideal e) (W : ℕ → ℕ → ℝ) (hw : w = fun i => g (W (i 1).val (i 2).val))
    (L : List (View.Piece (Elt Ideal) ⟨3, ![p, q, r]⟩ e)) (y : (⟨3, ![p, q, r]⟩ : Shape).Idx) :
    v.read (Elt Ideal) (v.writes (Elt Ideal) f ((⟨Rect.unit off (⟨3, ![1, n, m]⟩ : Shape).size inb, w⟩ : View.Piece (Elt Ideal) ⟨3, ![p, q, r]⟩ e) :: L)) y =
      if (y 0).val = a ∧ (b ≤ (y 1).val ∧ (y 1).val < b + n) ∧ (c ≤ (y 2).val ∧ (y 2).val < c + m) then
        g (W ((y 1).val - b) ((y 2).val - c)) else v.read (Elt Ideal) (v.writes (Elt Ideal) f L) y := by
  have key := View.read_writes_cons_unit v f inb w L y h
  refine key.trans ?_
  have e : (∀ x : Fin 3, (![a, b, c] : Fin 3 → ℕ) x ≤ (y x).val ∧ (y x).val < (![a, b, c] : Fin 3 → ℕ) x + (⟨3, ![1, n, m]⟩ : Shape).size x) ↔
      (y 0).val = a ∧ (b ≤ (y 1).val ∧ (y 1).val < b + n) ∧ (c ≤ (y 2).val ∧ (y 2).val < c + m) := by
    constructor
    · intro h
      have h0 : a ≤ (y 0).val ∧ (y 0).val < a + 1 := h 0
      have h1 : b ≤ (y 1).val ∧ (y 1).val < b + n := h 1
      have h2 : c ≤ (y 2).val ∧ (y 2).val < c + m := h 2
      exact ⟨by omega, h1, h2⟩
    · rintro ⟨h0, h1, h2⟩ x
      have h0' : a ≤ (y 0).val ∧ (y 0).val < a + 1 := by omega
      fin_cases x
      · exact h0'
      · exact h1
      · exact h2
  by_cases hc : (y 0).val = a ∧ (b ≤ (y 1).val ∧ (y 1).val < b + n) ∧ (c ≤ (y 2).val ∧ (y 2).val < c + m)
  · rw [if_pos hc]
    refine (dif_pos (e.mpr hc)).trans ?_
    subst hw
    rfl
  · rw [if_neg hc]
    exact dif_neg fun h => hc (e.mp h)

theorem cast_up3 {φ : FTy} (X : ℕ → ℕ → ℝ) :
    shapeCast S1x64x128 (up X : FVec Ideal S64x128 φ) shapeCasts_S64x128_S1x64x128 = up3 X := by
  funext i; idx_vars i; pointwise []; rfl

/-- The rate of one entry of the decay input. -/
def rateE (x : EReal) : EReal :=
  FloatOps.exp2 (F := Ideal) (φ := .f32) (x * Named.named (F := Ideal) (φ := .f32) κ "log2e" 0x3FB8AA3B#32) * Named.named (F := Ideal) (φ := .f32) κ "log2e" 0x3FB8AA3B#32

theorem rate_up (w : FVec Ideal S1x128x128 .bf16) (E : ℕ → ℕ → ℝ)
    (h : ∀ (i j : Fin 128), rateE (w (ix3 (0 : Fin 1) i j)) = ((E i.val j.val : ℝ) : EReal)) : rate (F := Ideal) w = up E := by
  funext i; idx_vars i; pointwise [rate, rows128]
  exact h i0 i1

theorem pair_congr {v3 : IVec S128x128 32} {v6 v64 v92 : IVec S128x128 1} {w w' : FVec Ideal S1x128x128 .bf16} {tri tri' : FVec Ideal S384x128 .bf16}
    {kk kk' : FVec Ideal S1x128x128 .bf16} {r r' k k' : FVec Ideal S1x128x128 .fp8e4m3} {ic ic' : FVec Ideal S1x128x128 .bf16}
    {va va' vb vb' : FVec Ideal S64x128 .f32} {s s' : FVec Ideal S1x64x128 .f32}
    (h1 : w = w') (h2 : tri = tri') (h3 : kk = kk') (h4 : r = r') (h5 : k = k') (h6 : ic = ic') (h7 : va = va') (h8 : vb = vb') (h9 : s = s') :
    pair (F := Ideal) v3 v6 v64 v92 w tri kk r k ic va vb s = pair v3 v6 v64 v92 w' tri' kk' r' k' ic' va' vb' s' := by
  subst h1 h2 h3 h4 h5 h6 h7 h8 h9; rfl
theorem vals_congr {a a' b b' : FVec Ideal S1x1x128 .f32} {c c' : FVec Ideal S1x64x128 .fp8e4m3} (h1 : a = a') (h2 : b = b') (h3 : c = c') :
    vals (F := Ideal) a b c = vals a' b' c' := by
  subst h1 h2 h3; rfl

section
variable {R K V KK IC E2 RS KS VS : ℕ → ℕ → ℕ → ℝ} {S : ℕ → ℕ → ℕ → ℝ}
  {x3 x4 x5 : Vec Ideal S8x256x128 .fp8e4m3}
  {x6 x7 x8 : Vec Ideal S4x8x128 .f32} {x9 x10 x11 : Vec Ideal S8x256x128 .bf16} {x13 : Vec Ideal S384x128 .bf16}
  {x16 : Vec Ideal S8x64x256 .f32} (k : Fin k0_t1_loop.trips)
  (h3 : x3 = (blk3 R : FVec Ideal S8x256x128 .fp8e4m3)) (h4 : x4 = (blk3 K : FVec Ideal S8x256x128 .fp8e4m3)) (h5 : x5 = (blk3 V : FVec Ideal S8x256x128 .fp8e4m3))
  (h6 : x6 = (blk3 RS : FVec Ideal S4x8x128 .f32)) (h7 : x7 = (blk3 KS : FVec Ideal S4x8x128 .f32)) (h8 : x8 = (blk3 VS : FVec Ideal S4x8x128 .f32))
  (h9 : ∀ i : S8x256x128.Idx, rateE (x9 i) = ((E2 (i 0).val (i 1).val (i 2).val : ℝ) : EReal))
  (h10 : x10 = (blk3 KK : FVec Ideal S8x256x128 .bf16)) (h11 : x11 = (blk3 IC : FVec Ideal S8x256x128 .bf16))
  (h13 : x13 = (up triR : FVec Ideal S384x128 .bf16)) (h16 : x16 = (blk3 S : FVec Ideal S8x64x256 .f32))

include h3 h4 h5 h7 h8 h10 h11 h16 in
theorem P0_blk : P0 (F := Ideal) lanes (mk lowP) (mk keP) (mk koP) x3 x4 x5 x7 x8 x9 x10 x11 x13 x16 k =
    pair (F := Ideal) lanes (mk lowP) (mk keP) (mk koP) (View.ld (Val := Elt Ideal) (e' := .bf16) x9 (Rect.unit (k0_off1 k) S1x128x128.size (k0_off1_inb k))) x13
      (up3 (fun i j => KK k i j)) (up3 (fun i j => R k i j)) (up3 (fun i j => K k i j)) (up3 (fun i j => IC k i j))
      (up (fun i j => V k i j * (KS 0 k j * VS 0 k j))) (up (fun i j => V k (64 + i) j * (KS 1 k j * VS 1 k j))) (up3 (fun i j => S k i j)) := by
  unfold P0
  refine pair_congr rfl (View.ld_unit_zero (funext fun a => by fin_cases a <;> rfl) _ _) (ld_blk h10 (k0_off1_eq k) (k0_off1_inb k) (fun i j => KK k i j) (fun i j => by simp only [Nat.zero_add])) (ld_blk h3 (k0_off1_eq k) (k0_off1_inb k) (fun i j => R k i j) (fun i j => by simp only [Nat.zero_add]))
    (ld_blk h4 (k0_off1_eq k) (k0_off1_inb k) (fun i j => K k i j) (fun i j => by simp only [Nat.zero_add])) (ld_blk h11 (k0_off1_eq k) (k0_off1_inb k) (fun i j => IC k i j) (fun i j => by simp only [Nat.zero_add])) ?_ ?_ (ld_blk h16 (k0_off6_eq k) (k0_off6_inb k) (fun i j => S k i j) (fun i j => by simp only [Nat.zero_add]))
  · refine Eq.trans ?_ (vals_up (fun i j => KS 0 (k + i) j) (fun i j => VS 0 (k + i) j) (fun i j => V k i j))
    exact vals_congr (ld_blk h7 (k0_off2_eq k) (k0_off2_inb k) (fun i j => KS 0 (k + i) j) (fun i j => by simp only [Nat.zero_add])) (ld_blk h8 (k0_off2_eq k) (k0_off2_inb k) (fun i j => VS 0 (k + i) j) (fun i j => by simp only [Nat.zero_add]))
      (ld_blk h5 (k0_off3_eq k) (k0_off3_inb k) (fun i j => V k i j) (fun i j => by simp only [Nat.zero_add]))
  · refine Eq.trans ?_ (vals_up (fun i j => KS 1 (k + i) j) (fun i j => VS 1 (k + i) j) (fun i j => V k (64 + i) j))
    exact vals_congr (ld_blk h7 (k0_off4_eq k) (k0_off4_inb k) (fun i j => KS 1 (k + i) j) (fun i j => by simp only [Nat.zero_add])) (ld_blk h8 (k0_off4_eq k) (k0_off4_inb k) (fun i j => VS 1 (k + i) j) (fun i j => by simp only [Nat.zero_add]))
      (ld_blk h5 (k0_off5_eq k) (k0_off5_inb k) (fun i j => V k (64 + i) j) (fun i j => by simp only [Nat.zero_add]))

include h3 h4 h5 h7 h8 h10 h11 h16 in
theorem P1_blk : P1 (F := Ideal) lanes (mk lowP) (mk keP) (mk koP) x3 x4 x5 x7 x8 x9 x10 x11 x13 x16 k =
    pair (F := Ideal) lanes (mk lowP) (mk keP) (mk koP) (View.ld (Val := Elt Ideal) (e' := .bf16) x9 (Rect.unit (k0_off7 k) S1x128x128.size (k0_off7_inb k))) x13
      (up3 (fun i j => KK k (128 + i) j)) (up3 (fun i j => R k (128 + i) j)) (up3 (fun i j => K k (128 + i) j)) (up3 (fun i j => IC k (128 + i) j))
      (up (fun i j => V k (128 + i) j * (KS 2 k j * VS 2 k j))) (up (fun i j => V k (192 + i) j * (KS 3 k j * VS 3 k j))) (up3 (fun i j => S k i (128 + j))) := by
  unfold P1
  refine pair_congr rfl (View.ld_unit_zero (funext fun a => by fin_cases a <;> rfl) _ _) (ld_blk h10 (k0_off7_eq k) (k0_off7_inb k) (fun i j => KK k (128 + i) j) (fun i j => by simp only [Nat.zero_add])) (ld_blk h3 (k0_off7_eq k) (k0_off7_inb k) (fun i j => R k (128 + i) j) (fun i j => by simp only [Nat.zero_add]))
    (ld_blk h4 (k0_off7_eq k) (k0_off7_inb k) (fun i j => K k (128 + i) j) (fun i j => by simp only [Nat.zero_add])) (ld_blk h11 (k0_off7_eq k) (k0_off7_inb k) (fun i j => IC k (128 + i) j) (fun i j => by simp only [Nat.zero_add])) ?_ ?_ (ld_blk h16 (k0_off12_eq k) (k0_off12_inb k) (fun i j => S k i (128 + j)) (fun i j => by simp only [Nat.zero_add]))
  · refine Eq.trans ?_ (vals_up (fun i j => KS 2 (k + i) j) (fun i j => VS 2 (k + i) j) (fun i j => V k (128 + i) j))
    exact vals_congr (ld_blk h7 (k0_off8_eq k) (k0_off8_inb k) (fun i j => KS 2 (k + i) j) (fun i j => by simp only [Nat.zero_add])) (ld_blk h8 (k0_off8_eq k) (k0_off8_inb k) (fun i j => VS 2 (k + i) j) (fun i j => by simp only [Nat.zero_add]))
      (ld_blk h5 (k0_off9_eq k) (k0_off9_inb k) (fun i j => V k (128 + i) j) (fun i j => by simp only [Nat.zero_add]))
  · refine Eq.trans ?_ (vals_up (fun i j => KS 3 (k + i) j) (fun i j => VS 3 (k + i) j) (fun i j => V k (192 + i) j))
    exact vals_congr (ld_blk h7 (k0_off10_eq k) (k0_off10_inb k) (fun i j => KS 3 (k + i) j) (fun i j => by simp only [Nat.zero_add])) (ld_blk h8 (k0_off10_eq k) (k0_off10_inb k) (fun i j => VS 3 (k + i) j) (fun i j => by simp only [Nat.zero_add]))
      (ld_blk h5 (k0_off11_eq k) (k0_off11_inb k) (fun i j => V k (192 + i) j) (fun i j => by simp only [Nat.zero_add]))

variable {σ : ℕ → ℕ → ℕ → ℕ → ℕ → ℝ}
  (hσ : ∀ h < 4, ∀ t < 128, σ k h (t + 1) = stp (fun c => p2 (0 - E2 k (64 * h + c) t)) (fun c => KK k (64 * h + c) t) (fun c => IC k (64 * h + c) t)
    (fun c => K k (64 * h + c) t) (fun v => V k (64 * h + v) t * (KS h k t * VS h k t)) (σ k h t))
  (hS : ∀ v < 64, ∀ c < 256, S k v c = σ k (c / 64) 0 v (c % 64))

include h3 h4 h5 h6 h7 h8 h9 h10 h11 h13 h16 hσ hS in
theorem P0_steps : (P0 (F := Ideal) lanes (mk lowP) (mk keP) (mk koP) x3 x4 x5 x7 x8 x9 x10 x11 x13 x16 k).s = up (fun v c => σ k (c / 64) 128 v (c % 64)) ∧
    outA (F := Ideal) (mk lowP) (P0 (F := Ideal) lanes (mk lowP) (mk keP) (mk koP) x3 x4 x5 x7 x8 x9 x10 x11 x13 x16 k) (View.ld (Val := Elt Ideal) (e' := .f32) x6 (Rect.unit (k0_off2 k) S1x1x128.size (k0_off2_inb k))) =
      up (fun v t => (∑ c ∈ range 64, σ k 0 (t + 1) v c * R k c t) * RS 0 k t) ∧
    outB (F := Ideal) (mk lowP) (P0 (F := Ideal) lanes (mk lowP) (mk keP) (mk koP) x3 x4 x5 x7 x8 x9 x10 x11 x13 x16 k) (View.ld (Val := Elt Ideal) (e' := .f32) x6 (Rect.unit (k0_off4 k) S1x1x128.size (k0_off4_inb k))) =
      up (fun v t => (∑ c ∈ range 64, σ k 1 (t + 1) v c * R k (64 + c) t) * RS 1 k t) := by
  have hr : rate (F := Ideal) (View.ld (Val := Elt Ideal) (e' := .bf16) x9 (Rect.unit (k0_off1 k) S1x128x128.size (k0_off1_inb k))) = up (fun i j => E2 k i j) := by
    refine rate_up _ _ fun i j => (h9 _).trans ?_
    have e : ((k0_off1 k) 0 + 1 * 0 = k.val) ∧ ((k0_off1 k) 1 + 1 * i.val = 0 + i.val) ∧ ((k0_off1 k) 2 + 1 * j.val = j.val) := by
      rw [k0_off1_eq k]; exact ⟨by simp, by simp, by simp⟩
    show ((E2 ((k0_off1 k) 0 + 1 * 0) ((k0_off1 k) 1 + 1 * i.val) ((k0_off1 k) 2 + 1 * j.val) : ℝ) : EReal) = _
    rw [e.1, e.2.1, e.2.2]; simp only [Nat.zero_add]
  have key := pair_steps (fun i j => E2 k i j) (fun i j => KK k i j) (fun i j => R k i j) (fun i j => K k i j) (fun i j => IC k i j)
    (fun i j => V k i j * (KS 0 k j * VS 0 k j)) (fun i j => V k (64 + i) j * (KS 1 k j * VS 1 k j)) (fun i j => S k i j)
    (fun i j => RS 0 (k + i) j) (fun i j => RS 1 (k + i) j) _ x13 hr h13 (σ k 0) (σ k 1)
    (fun v hv c hc => (hS v hv c (by omega)).trans (by rw [show c / 64 = 0 by omega, show c % 64 = c by omega]))
    (fun v hv c hc => (hS v hv (64 + c) (by omega)).trans (by rw [show (64 + c) / 64 = 1 by omega, show (64 + c) % 64 = c by omega]))
    (fun t ht => by simpa using hσ 0 (by omega) t ht) (fun t ht => by simpa [← Nat.add_assoc] using hσ 1 (by omega) t ht)
  rw [P0_blk k h3 h4 h5 h7 h8 h10 h11 h16]
  refine ⟨key.1.trans (up_congr _ _ fun v hv c hc => ?_), ?_, ?_⟩
  · beta_reduce
    split_ifs with h
    · rw [show c / 64 = 0 by omega, show c % 64 = c by omega]
    · rw [show c / 64 = 1 by omega, show c % 64 = c - 64 by omega]
  · refine (congrArg (outA (F := Ideal) (mk lowP) _) (ld_blk h6 (k0_off2_eq k) (k0_off2_inb k) (fun i j => RS 0 (k + i) j) (fun i j => by simp only [Nat.zero_add]))).trans ?_
    exact key.2.1
  · refine (congrArg (outB (F := Ideal) (mk lowP) _) (ld_blk h6 (k0_off4_eq k) (k0_off4_inb k) (fun i j => RS 1 (k + i) j) (fun i j => by simp only [Nat.zero_add]))).trans ?_
    exact key.2.2

include h3 h4 h5 h6 h7 h8 h9 h10 h11 h13 h16 hσ hS in
theorem P1_steps : (P1 (F := Ideal) lanes (mk lowP) (mk keP) (mk koP) x3 x4 x5 x7 x8 x9 x10 x11 x13 x16 k).s = up (fun v c => σ k ((128 + c) / 64) 128 v ((128 + c) % 64)) ∧
    outA (F := Ideal) (mk lowP) (P1 (F := Ideal) lanes (mk lowP) (mk keP) (mk koP) x3 x4 x5 x7 x8 x9 x10 x11 x13 x16 k) (View.ld (Val := Elt Ideal) (e' := .f32) x6 (Rect.unit (k0_off8 k) S1x1x128.size (k0_off8_inb k))) =
      up (fun v t => (∑ c ∈ range 64, σ k 2 (t + 1) v c * R k (128 + c) t) * RS 2 k t) ∧
    outB (F := Ideal) (mk lowP) (P1 (F := Ideal) lanes (mk lowP) (mk keP) (mk koP) x3 x4 x5 x7 x8 x9 x10 x11 x13 x16 k) (View.ld (Val := Elt Ideal) (e' := .f32) x6 (Rect.unit (k0_off10 k) S1x1x128.size (k0_off10_inb k))) =
      up (fun v t => (∑ c ∈ range 64, σ k 3 (t + 1) v c * R k (192 + c) t) * RS 3 k t) := by
  have hr : rate (F := Ideal) (View.ld (Val := Elt Ideal) (e' := .bf16) x9 (Rect.unit (k0_off7 k) S1x128x128.size (k0_off7_inb k))) = up (fun i j => E2 k (128 + i) j) := by
    refine rate_up _ _ fun i j => (h9 _).trans ?_
    have e : ((k0_off7 k) 0 + 1 * 0 = k.val) ∧ ((k0_off7 k) 1 + 1 * i.val = 128 + i.val) ∧ ((k0_off7 k) 2 + 1 * j.val = j.val) := by
      rw [k0_off7_eq k]; exact ⟨by simp, by simp, by simp⟩
    show ((E2 ((k0_off7 k) 0 + 1 * 0) ((k0_off7 k) 1 + 1 * i.val) ((k0_off7 k) 2 + 1 * j.val) : ℝ) : EReal) = _
    rw [e.1, e.2.1, e.2.2]
  have key := pair_steps (fun i j => E2 k (128 + i) j) (fun i j => KK k (128 + i) j) (fun i j => R k (128 + i) j) (fun i j => K k (128 + i) j) (fun i j => IC k (128 + i) j)
    (fun i j => V k (128 + i) j * (KS 2 k j * VS 2 k j)) (fun i j => V k (192 + i) j * (KS 3 k j * VS 3 k j)) (fun i j => S k i (128 + j))
    (fun i j => RS 2 (k + i) j) (fun i j => RS 3 (k + i) j) _ x13 hr h13 (σ k 2) (σ k 3)
    (fun v hv c hc => (hS v hv (128 + c) (by omega)).trans (by rw [show (128 + c) / 64 = 2 by omega, show (128 + c) % 64 = c by omega]))
    (fun v hv c hc => (hS v hv (128 + (64 + c)) (by omega)).trans (by rw [show (128 + (64 + c)) / 64 = 3 by omega, show (128 + (64 + c)) % 64 = c by omega]))
    (fun t ht => by simpa using hσ 2 (by omega) t ht) (fun t ht => by simpa [← Nat.add_assoc] using hσ 3 (by omega) t ht)
  rw [P1_blk k h3 h4 h5 h7 h8 h10 h11 h16]
  refine ⟨key.1.trans (up_congr _ _ fun v hv c hc => ?_), ?_, ?_⟩
  · beta_reduce
    split_ifs with h
    · rw [show (128 + c) / 64 = 2 by omega, show (128 + c) % 64 = c by omega]
    · rw [show (128 + c) / 64 = 3 by omega, show (128 + c) % 64 = c - 64 by omega]
  · refine (congrArg (outA (F := Ideal) (mk lowP) _) (ld_blk h6 (k0_off8_eq k) (k0_off8_inb k) (fun i j => RS 2 (k + i) j) (fun i j => by simp only [Nat.zero_add]))).trans ?_
    exact key.2.1
  · refine (congrArg (outB (F := Ideal) (mk lowP) _) (ld_blk h6 (k0_off10_eq k) (k0_off10_inb k) (fun i j => RS 3 (k + i) j) (fun i j => by simp only [Nat.zero_add]))).trans ?_
    refine key.2.2.trans (up_congr _ _ fun v hv t ht => ?_)
    simp only [← Nat.add_assoc, Nat.reduceAdd, Nat.add_zero]

include h3 h4 h5 h6 h7 h8 h9 h10 h11 h13 h16 hσ hS in
/-- The state after a trip: the trip's own row moves 128 steps, the others stay. -/
theorem read_tripS {sig : RefSig} {κ : Kind} {sp : Space} (v : View sig κ sp S8x64x256 .f32) (f : v.ty.Contents (Elt Ideal))
    (L : List (View.Piece (Elt Ideal) S8x64x256 .f32)) (y : S8x64x256.Idx) :
    v.read (Elt Ideal) (v.writes (Elt Ideal) f (tripS (F := Ideal) lanes (mk lowP) (mk keP) (mk koP) x3 x4 x5 x7 x8 x9 x10 x11 x13 x16 k ++ L)) y =
      if (y 0).val = k.val then ((σ k ((y 2).val / 64) 128 (y 1).val ((y 2).val % 64) : ℝ) : EReal) else v.read (Elt Ideal) (v.writes (Elt Ideal) f L) y := by
  have y1 : (y 1).val < 64 := (y 1).isLt
  have y2 : (y 2).val < 256 := (y 2).isLt
  refine (read_put (e := .f32) (fun r : ℝ => (r : EReal)) v f (k0_off12 k) 64 128 k.val 0 128 (k0_off12_eq k) (k0_off12_inb k) _ (fun v c => σ k ((128 + c) / 64) 128 v ((128 + c) % 64)) ((congrArg (fun z => shapeCast S1x64x128 z shapeCasts_S64x128_S1x64x128) (P1_steps k h3 h4 h5 h6 h7 h8 h9 h10 h11 h13 h16 hσ hS).1).trans (cast_up3 _)) _ y).trans ?_
  refine (if_congr Iff.rfl rfl (read_put (e := .f32) (fun r : ℝ => (r : EReal)) v f (k0_off6 k) 64 128 k.val 0 0 (k0_off6_eq k) (k0_off6_inb k) _ (fun v c => σ k (c / 64) 128 v (c % 64)) ((congrArg (fun z => shapeCast S1x64x128 z shapeCasts_S64x128_S1x64x128) (P0_steps k h3 h4 h5 h6 h7 h8 h9 h10 h11 h13 h16 hσ hS).1).trans (cast_up3 _)) _ y)).trans ?_
  by_cases hk : (y 0).val = k.val
  · rw [if_pos hk]
    by_cases hc : 128 ≤ (y 2).val
    · rw [if_pos ⟨hk, by omega, by omega⟩, Nat.sub_zero, show 128 + ((y 2).val - 128) = (y 2).val by omega]
    · rw [if_neg (by omega), if_pos ⟨hk, by omega, by omega⟩, Nat.sub_zero, Nat.sub_zero]
  · rw [if_neg hk, if_neg (by omega), if_neg (by omega)]; rfl

include h3 h4 h5 h6 h7 h8 h9 h10 h11 h13 h16 hσ hS in
/-- The output after a trip: the trip's own row is written, the others stay. -/
theorem read_tripY {sig : RefSig} {κ : Kind} {sp : Space} (v : View sig κ sp S8x256x128 .bf16) (f : v.ty.Contents (Elt Ideal))
    (L : List (View.Piece (Elt Ideal) S8x256x128 .bf16)) (y : S8x256x128.Idx) :
    v.read (Elt Ideal) (v.writes (Elt Ideal) f (tripY (F := Ideal) lanes (mk lowP) (mk keP) (mk koP) x3 x4 x5 x7 x8 x9 x10 x11 x13 x16 k x6 ++ L)) y =
      if (y 0).val = k.val then (((∑ c ∈ range 64, σ k ((y 1).val / 64) ((y 2).val + 1) ((y 1).val % 64) c * R k (64 * ((y 1).val / 64) + c) (y 2).val) *
        RS ((y 1).val / 64) k (y 2).val : ℝ) : EReal) else v.read (Elt Ideal) (v.writes (Elt Ideal) f L) y := by
  have y1 : (y 1).val < 256 := (y 1).isLt
  have y2 : (y 2).val < 128 := (y 2).isLt
  refine (read_put (e := .bf16) (fun r : ℝ => (r : EReal)) v f (k0_off11 k) 64 128 k.val 192 0 (k0_off11_eq k) (k0_off11_inb k) _ (fun v t => (∑ c ∈ range 64, σ k 3 (t + 1) v c * R k (192 + c) t) * RS 3 k t) ((congrArg (fun z => shapeCast S1x64x128 z shapeCasts_S64x128_S1x64x128) (P1_steps k h3 h4 h5 h6 h7 h8 h9 h10 h11 h13 h16 hσ hS).2.2).trans (cast_up3 _)) _ y).trans ?_
  refine (if_congr Iff.rfl rfl (read_put (e := .bf16) (fun r : ℝ => (r : EReal)) v f (k0_off9 k) 64 128 k.val 128 0 (k0_off9_eq k) (k0_off9_inb k) _ (fun v t => (∑ c ∈ range 64, σ k 2 (t + 1) v c * R k (128 + c) t) * RS 2 k t) ((congrArg (fun z => shapeCast S1x64x128 z shapeCasts_S64x128_S1x64x128) (P1_steps k h3 h4 h5 h6 h7 h8 h9 h10 h11 h13 h16 hσ hS).2.1).trans (cast_up3 _)) _ y)).trans ?_
  refine (if_congr Iff.rfl rfl (if_congr Iff.rfl rfl (read_put (e := .bf16) (fun r : ℝ => (r : EReal)) v f (k0_off5 k) 64 128 k.val 64 0 (k0_off5_eq k) (k0_off5_inb k) _ (fun v t => (∑ c ∈ range 64, σ k 1 (t + 1) v c * R k (64 + c) t) * RS 1 k t) ((congrArg (fun z => shapeCast S1x64x128 z shapeCasts_S64x128_S1x64x128) (P0_steps k h3 h4 h5 h6 h7 h8 h9 h10 h11 h13 h16 hσ hS).2.2).trans (cast_up3 _)) _ y))).trans ?_
  refine (if_congr Iff.rfl rfl (if_congr Iff.rfl rfl (if_congr Iff.rfl rfl (read_put (e := .bf16) (fun r : ℝ => (r : EReal)) v f (k0_off3 k) 64 128 k.val 0 0 (k0_off3_eq k) (k0_off3_inb k) _ (fun v t => (∑ c ∈ range 64, σ k 0 (t + 1) v c * R k c t) * RS 0 k t) ((congrArg (fun z => shapeCast S1x64x128 z shapeCasts_S64x128_S1x64x128) (P0_steps k h3 h4 h5 h6 h7 h8 h9 h10 h11 h13 h16 hσ hS).2.1).trans (cast_up3 _)) _ y)))).trans ?_
  by_cases hk : (y 0).val = k.val
  · rw [if_pos hk]
    by_cases h3 : 192 ≤ (y 1).val
    · rw [if_pos ⟨hk, by omega, by omega⟩, Nat.sub_zero, show (y 1).val / 64 = 3 by omega, show (y 1).val % 64 = (y 1).val - 192 by omega]
    rw [if_neg (by omega)]
    by_cases h2 : 128 ≤ (y 1).val
    · rw [if_pos ⟨hk, by omega, by omega⟩, Nat.sub_zero, show (y 1).val / 64 = 2 by omega, show (y 1).val % 64 = (y 1).val - 128 by omega]
    rw [if_neg (by omega)]
    by_cases h1 : 64 ≤ (y 1).val
    · rw [if_pos ⟨hk, by omega, by omega⟩, Nat.sub_zero, show (y 1).val / 64 = 1 by omega, show (y 1).val % 64 = (y 1).val - 64 by omega]
    rw [if_neg (by omega), if_pos ⟨hk, by omega, by omega⟩, Nat.sub_zero, Nat.sub_zero, show (y 1).val / 64 = 0 by omega, show (y 1).val % 64 = (y 1).val by omega]
    simp only [Nat.mul_zero, Nat.zero_add]
  · rw [if_neg hk, if_neg (by omega), if_neg (by omega), if_neg (by omega), if_neg (by omega)]; rfl

end

end Cert.KernelIdeal.M

end
-- ==== Proof.V.Loop.lean ====
/- The batch loop on blocks of real numbers: after all its trips every row has moved 128 steps. -/
module

public import proofs.«01_k».proof.Proof.V.Local

@[expose] public section

set_option maxRecDepth 16384

noncomputable section

namespace Cert.KernelIdeal.M

open Idealize.ShloMosaic Idealize.ShloMosaic.TcCoe Cert.KernelIdeal
open Cert.KernelIdeal.Gen
open Finset

variable {𝒱 : Variants} (c : Dev nD) (bd : Option 𝒱.V) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (v22 : IVec S128x128 32) (v66 : IVec S128x128 32) (v68 : IVec S128x128 32) (v82 : IVec S128x128 1) (v86 : IVec S128x128 1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg13 : BufTy.Contents (Elt Ideal) arg13.view.ty)
variable (G14 : BufTy.Contents (Elt Ideal) arg14.view.ty) (G16 : BufTy.Contents (Elt Ideal) arg16.view.ty)
  {R K V KK IC E2 RS KS VS : ℕ → ℕ → ℕ → ℝ} {σ : ℕ → ℕ → ℕ → ℕ → ℕ → ℝ}
  (hm : k0_pay1 v22 v66 v68 v82 v86 = mk koP)
  (h3 : arg3.view.read (Elt Ideal) X_arg3 = (blk3 R : FVec Ideal S8x256x128 .fp8e4m3)) (h4 : arg4.view.read (Elt Ideal) X_arg4 = (blk3 K : FVec Ideal S8x256x128 .fp8e4m3))
  (h5 : arg5.view.read (Elt Ideal) X_arg5 = (blk3 V : FVec Ideal S8x256x128 .fp8e4m3))
  (h6 : arg6.view.read (Elt Ideal) X_arg6 = (blk3 RS : FVec Ideal S4x8x128 .f32)) (h7 : arg7.view.read (Elt Ideal) X_arg7 = (blk3 KS : FVec Ideal S4x8x128 .f32))
  (h8 : arg8.view.read (Elt Ideal) X_arg8 = (blk3 VS : FVec Ideal S4x8x128 .f32))
  (h9 : ∀ i : S8x256x128.Idx, rateE (arg9.view.read (Elt Ideal) X_arg9 i) = ((E2 (i 0).val (i 1).val (i 2).val : ℝ) : EReal))
  (h10 : arg10.view.read (Elt Ideal) X_arg10 = (blk3 KK : FVec Ideal S8x256x128 .bf16)) (h11 : arg11.view.read (Elt Ideal) X_arg11 = (blk3 IC : FVec Ideal S8x256x128 .bf16))
  (h13 : arg13.view.read (Elt Ideal) X_arg13 = (up triR : FVec Ideal S384x128 .bf16))
  (h16 : arg16.view.read (Elt Ideal) G16 = (blk3 (fun b v c => σ b (c / 64) 0 v (c % 64)) : FVec Ideal S8x64x256 .f32))
  (hσ : ∀ b < 8, ∀ h < 4, ∀ t < 128, σ b h (t + 1) = stp (fun c => p2 (0 - E2 b (64 * h + c) t)) (fun c => KK b (64 * h + c) t) (fun c => IC b (64 * h + c) t)
    (fun c => K b (64 * h + c) t) (fun v => V b (64 * h + v) t * (KS h b t * VS h b t)) (σ b h t))

include hm h3 h4 h5 h6 h7 h8 h9 h10 h11 h13 h16 hσ
theorem loop_rows (n : ℕ) (hn : n ≤ k0_t1_loop.trips) :
    (∀ y : S8x64x256.Idx, arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 lanes (mk lowP) v22 (mk keP) v66 v68 v82 v86 X_arg3 X_arg4 X_arg5 X_arg6 X_arg7 X_arg8 X_arg9 X_arg10 X_arg11 X_arg13 G14 G16 n).2) y =
      ((σ (y 0).val ((y 2).val / 64) (if (y 0).val < n then 128 else 0) (y 1).val ((y 2).val % 64) : ℝ) : EReal)) ∧
    (∀ {sig : RefSig} {κ : Kind} {sp : Space} (v : View sig κ sp S8x256x128 .bf16) (f : v.ty.Contents (Elt Ideal)) (y : S8x256x128.Idx), (y 0).val < n →
      v.read (Elt Ideal) (v.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 lanes (mk lowP) v22 (mk keP) v66 v68 v82 v86 X_arg3 X_arg4 X_arg5 X_arg6 X_arg7 X_arg8 X_arg9 X_arg10 X_arg11 X_arg13 G14 G16 n).1) y =
        (((∑ c ∈ range 64, σ (y 0).val ((y 1).val / 64) ((y 2).val + 1) ((y 1).val % 64) c * R (y 0).val (64 * ((y 1).val / 64) + c) (y 2).val) *
          RS ((y 1).val / 64) (y 0).val (y 2).val : ℝ) : EReal)) := by
  induction n with
  | zero =>
    refine ⟨fun y => ?_, fun v f y hy => absurd hy (Nat.not_lt_zero _)⟩
    rw [if_neg (Nat.not_lt_zero _)]
    exact congrFun h16 y
  | succ n ih =>
    obtain ⟨ihS, ihY⟩ := ih (by omega)
    have ht : k0_t1_loop.trips = 8 := by decide +kernel
    have key := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 lanes (mk lowP) v22 (mk keP) v66 v68 v82 v86 X_arg3 X_arg4 X_arg5 X_arg6 X_arg7 X_arg8 X_arg9 X_arg10 X_arg11 X_arg13 G14 G16 ⟨n, by omega⟩
    rw [tripS_eq, tripY_eq, hm] at key
    dsimp only at key
    have hx : arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 lanes (mk lowP) v22 (mk keP) v66 v68 v82 v86 X_arg3 X_arg4 X_arg5 X_arg6 X_arg7 X_arg8 X_arg9 X_arg10 X_arg11 X_arg13 G14 G16 n).2) =
        (blk3 (fun b v c => σ b (c / 64) (if b < n then 128 else 0) v (c % 64)) : FVec Ideal S8x64x256 .f32) := funext fun y => ihS y
    have hσ' := hσ n (by omega)
    have hS : ∀ v < 64, ∀ c < 256, (fun b v c => σ b (c / 64) (if b < n then 128 else 0) v (c % 64)) n v c = σ n (c / 64) 0 v (c % 64) := fun v _ c _ => by
      simp only [lt_irrefl, if_false]
    rw [key]
    dsimp only
    constructor
    · intro y
      refine (read_tripS (⟨n, by omega⟩ : Fin k0_t1_loop.trips) h3 h4 h5 h6 h7 h8 h9 h10 h11 h13 hx hσ' hS arg16.view G16 _ y).trans ?_
      by_cases hk : (y 0).val = n
      · rw [if_pos hk, if_pos (by omega), hk]
      · rw [if_neg hk, ihS y]
        by_cases hl : (y 0).val < n
        · rw [if_pos hl, if_pos (by omega)]
        · rw [if_neg hl, if_neg (by omega)]
    · intro sig κ sp v f y hy
      refine (read_tripY (⟨n, by omega⟩ : Fin k0_t1_loop.trips) h3 h4 h5 h6 h7 h8 h9 h10 h11 h13 hx hσ' hS v f _ y).trans ?_
      by_cases hk : (y 0).val = n
      · rw [if_pos hk, hk]
      · rw [if_neg hk]; exact ihY v f y (by omega)

end Cert.KernelIdeal.M

end
-- ==== Proof.V.Point.lean ====
/- One grid point on blocks of real numbers, in each of its three cases. -/
module

public import proofs.«01_k».proof.Proof.KI.Frame
public import proofs.«01_k».proof.Proof.V.Loop
public import Idealize.ShloMosaic.Lib.VecWindow

@[expose] public section

set_option maxRecDepth 16384
set_option maxHeartbeats 4000000

noncomputable section

namespace Cert.KernelIdeal.M

open Idealize.ShloMosaic Idealize.ShloMosaic.TcCoe Cert.KernelIdeal
open Cert.KernelIdeal.Gen
open Finset

theorem zero3 : (![0, 0, 0] : Fin 3 → ℕ) = fun _ => 0 := funext fun a => by fin_cases a <;> rfl

theorem pay786 (x : Vec Ideal S8x64x256 .f32) : k0_pay786 (F := Ideal) x = x := by
  unfold k0_pay786; simp only [shapeCast_self]

variable (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole)
variable {R K V KK IC E2 RS KS VS : ℕ → ℕ → ℕ → ℝ} {σ : ℕ → ℕ → ℕ → ℕ → ℕ → ℝ}
  {x0 x1 x2 : Vec Ideal S8x256x128 .fp8e4m3} {x3 x4 x5 : Vec Ideal S4x8x128 .f32} {x6 x7 x8 : Vec Ideal S8x256x128 .bf16}
  {x9 : Vec Ideal S8x64x256 .f32} {x10 : Vec Ideal S384x128 .bf16} {xs0 : Vec Ideal S8x64x256 .f32}
  (h0 : x0 = (blk3 R : FVec Ideal S8x256x128 .fp8e4m3)) (h1 : x1 = (blk3 K : FVec Ideal S8x256x128 .fp8e4m3)) (h2 : x2 = (blk3 V : FVec Ideal S8x256x128 .fp8e4m3))
  (h3 : x3 = (blk3 RS : FVec Ideal S4x8x128 .f32)) (h4 : x4 = (blk3 KS : FVec Ideal S4x8x128 .f32)) (h5 : x5 = (blk3 VS : FVec Ideal S4x8x128 .f32))
  (h6 : ∀ i : S8x256x128.Idx, rateE (x6 i) = ((E2 (i 0).val (i 1).val (i 2).val : ℝ) : EReal))
  (h7 : x7 = (blk3 KK : FVec Ideal S8x256x128 .bf16)) (h8 : x8 = (blk3 IC : FVec Ideal S8x256x128 .bf16))
  (h10 : x10 = (up triR : FVec Ideal S384x128 .bf16))
  (hσ : ∀ b < 8, ∀ h < 4, ∀ t < 128, σ b h (t + 1) = stp (fun c => p2 (0 - E2 b (64 * h + c) t)) (fun c => KK b (64 * h + c) t) (fun c => IC b (64 * h + c) t)
    (fun c => K b (64 * h + c) t) (fun v => V b (64 * h + v) t * (KS h b t * VS h b t)) (σ b h t))

include h0 h1 h2 h3 h4 h5 h6 h7 h8 h10 hσ in
theorem pointA (hc0 : cond0_0 i) (hc1 : ¬cond0_1 i) (hs : x9 = (blk3 (fun b v c => σ b (c / 64) 0 v (c % 64)) : FVec Ideal S8x64x256 .f32)) :
    (∀ y : S8x256x128.Idx, out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 y = ((((∑ c ∈ range 64, σ (y 0).val ((y 1).val / 64) ((y 2).val + 1) ((y 1).val % 64) c * R (y 0).val (64 * ((y 1).val / 64) + c) (y 2).val) *
          RS ((y 1).val / 64) (y 0).val (y 2).val : ℝ) : EReal))) ∧
    (∀ y : S8x64x256.Idx, sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 y = ((σ (y 0).val ((y 2).val / 64) 128 (y 1).val ((y 2).val % 64) : ℝ) : EReal)) := by
  have ht : k0_t1_loop.trips = 8 := by decide +kernel
  have h16 : arg16.view.read (Elt Ideal) (arg16.view.writes (Elt Ideal) arg16.view.junk (kernelRun0_A.sl.HS0_1 c arg12 harg12 x9)) = (blk3 (fun b v c => σ b (c / 64) 0 v (c % 64)) : FVec Ideal S8x64x256 .f32) := by
    refine (View.read_writes_full arg16.view _ _ _ _).trans ?_
    refine (pay786 _).trans ?_
    refine (View.readAt_full arg12.view _ _).trans ?_
    rw [harg12.read_unread]; exact hs
  have key := loop_rows (𝒱 := Variants.none) c none i arg3 harg3 arg4 harg4 arg5 harg5 arg6 harg6 arg7 harg7 arg8 harg8 arg9 harg9 arg10 harg10 arg11 harg11 arg12 harg12 arg13 harg13 arg14 harg14 arg15 harg15 arg16 harg16 k0_pay788 (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (arg16.view.writes (Elt Ideal) arg16.view.junk (kernelRun0_A.sl.HS0_1 c arg12 harg12 x9)) v92_eq
    ((harg3.read_unread _).trans h0) ((harg4.read_unread _).trans h1) ((harg5.read_unread _).trans h2) ((harg6.read_unread _).trans h3) ((harg7.read_unread _).trans h4) ((harg8.read_unread _).trans h5) (fun y => (congrArg rateE (congrFun (harg9.read_unread x6) y)).trans (h6 y)) ((harg10.read_unread _).trans h7) ((harg11.read_unread _).trans h8) ((harg13.read_unread _).trans h10) h16 hσ k0_t1_loop.trips le_rfl
  have e1 : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (arg16.view.writes (Elt Ideal) arg16.view.junk (kernelRun0_A.sl.HS0_1 c arg12 harg12 x9)) k0_t1_loop.trips).1 := by
    rw [← v3_lanes, ← v6_mk, ← v64_eq, ← v3_lanes]; rfl
  have e2 : (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (arg16.view.writes (Elt Ideal) arg16.view.junk (kernelRun0_A.sl.HS0_1 c arg12 harg12 x9)) k0_t1_loop.trips).2 ++ kernelRun0_A.sl.HS0_1 c arg12 harg12 x9 := by
    rw [← v3_lanes, ← v6_mk, ← v64_eq, ← v3_lanes]; rfl
  have hS : ∀ y : S8x64x256.Idx, arg16.view.read (Elt Ideal) (arg16.view.writes (Elt Ideal) (arg16.view.writes (Elt Ideal) arg16.view.junk (kernelRun0_A.sl.HS0_1 c arg12 harg12 x9)) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (arg16.view.writes (Elt Ideal) arg16.view.junk (kernelRun0_A.sl.HS0_1 c arg12 harg12 x9)) k0_t1_loop.trips).2) y = ((σ (y 0).val ((y 2).val / 64) 128 (y 1).val ((y 2).val % 64) : ℝ) : EReal) := fun y => by
    have y0 : (y 0).val < 8 := (y 0).isLt
    rw [key.1 y, if_pos (by omega)]
  refine ⟨fun y => ?_, fun y => ?_⟩
  · have y0 : (y 0).val < 8 := (y 0).isLt
    unfold out0_A_11
    rw [e1]
    exact key.2 VO0_11 _ y (by omega)
  · rw [← hS y]
    unfold sout0_A_0
    have hcov := scover0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
    rw [View.read_writes_eq_canon VS0_0 _ _ hcov]
    rw [← View.writes_append, ← e2, View.read_writes_eq_canon arg16.view _ _ hcov]

include h0 h1 h2 h3 h4 h5 h6 h7 h8 h10 hσ in
theorem pointB (hc0 : ¬cond0_0 i) (hc1 : ¬cond0_1 i) (hs : xs0 = (blk3 (fun b v c => σ b (c / 64) 0 v (c % 64)) : FVec Ideal S8x64x256 .f32)) :
    (∀ y : S8x256x128.Idx, out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y = ((((∑ c ∈ range 64, σ (y 0).val ((y 1).val / 64) ((y 2).val + 1) ((y 1).val % 64) c * R (y 0).val (64 * ((y 1).val / 64) + c) (y 2).val) *
          RS ((y 1).val / 64) (y 0).val (y 2).val : ℝ) : EReal))) ∧
    (∀ y : S8x64x256.Idx, sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y = ((σ (y 0).val ((y 2).val / 64) 128 (y 1).val ((y 2).val % 64) : ℝ) : EReal)) := by
  have ht : k0_t1_loop.trips = 8 := by decide +kernel
  have h16 : arg16.view.read (Elt Ideal) (harg16.unread xs0) = (blk3 (fun b v c => σ b (c / 64) 0 v (c % 64)) : FVec Ideal S8x64x256 .f32) := by
    rw [harg16.read_unread]; exact hs
  have key := loop_rows (𝒱 := Variants.none) c none i arg3 harg3 arg4 harg4 arg5 harg5 arg6 harg6 arg7 harg7 arg8 harg8 arg9 harg9 arg10 harg10 arg11 harg11 arg12 harg12 arg13 harg13 arg14 harg14 arg15 harg15 arg16 harg16 k0_pay788 (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) v92_eq
    ((harg3.read_unread _).trans h0) ((harg4.read_unread _).trans h1) ((harg5.read_unread _).trans h2) ((harg6.read_unread _).trans h3) ((harg7.read_unread _).trans h4) ((harg8.read_unread _).trans h5) (fun y => (congrArg rateE (congrFun (harg9.read_unread x6) y)).trans (h6 y)) ((harg10.read_unread _).trans h7) ((harg11.read_unread _).trans h8) ((harg13.read_unread _).trans h10) h16 hσ k0_t1_loop.trips le_rfl
  have e1 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).1 := by
    rw [← v3_lanes, ← v6_mk, ← v64_eq, ← v3_lanes]; rfl
  have e2 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).2 := by
    rw [← v3_lanes, ← v6_mk, ← v64_eq, ← v3_lanes]; rfl
  have hS : ∀ y : S8x64x256.Idx, arg16.view.read (Elt Ideal) (arg16.view.writes (Elt Ideal) (harg16.unread xs0) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).2) y = ((σ (y 0).val ((y 2).val / 64) 128 (y 1).val ((y 2).val % 64) : ℝ) : EReal) := fun y => by
    have y0 : (y 0).val < 8 := (y 0).isLt
    rw [key.1 y, if_pos (by omega)]
  refine ⟨fun y => ?_, fun y => ?_⟩
  · have y0 : (y 0).val < 8 := (y 0).isLt
    unfold out0_B_11
    rw [e1]
    exact key.2 VO0_11 _ y (by omega)
  · rw [← hS y]
    unfold sout0_B_0
    have hcov := scover0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0
    rw [View.read_writes_eq_canon VS0_0 _ _ hcov]
    rw [← e2, View.read_writes_eq_canon arg16.view _ _ hcov]

include h0 h1 h2 h3 h4 h5 h6 h7 h8 h10 hσ in
theorem pointC (hc0 : ¬cond0_0 i) (hc1 : cond0_1 i) (hs : xs0 = (blk3 (fun b v c => σ b (c / 64) 0 v (c % 64)) : FVec Ideal S8x64x256 .f32)) :
    (∀ y : S8x256x128.Idx, out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y = ((((∑ c ∈ range 64, σ (y 0).val ((y 1).val / 64) ((y 2).val + 1) ((y 1).val % 64) c * R (y 0).val (64 * ((y 1).val / 64) + c) (y 2).val) *
          RS ((y 1).val / 64) (y 0).val (y 2).val : ℝ) : EReal))) ∧
    (∀ y : S8x64x256.Idx, sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y = ((σ (y 0).val ((y 2).val / 64) 128 (y 1).val ((y 2).val % 64) : ℝ) : EReal)) ∧
    (∀ y : S8x64x256.Idx, out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 y = ((σ (y 0).val ((y 2).val / 64) 128 (y 1).val ((y 2).val % 64) : ℝ) : EReal)) := by
  have ht : k0_t1_loop.trips = 8 := by decide +kernel
  have h16 : arg16.view.read (Elt Ideal) (harg16.unread xs0) = (blk3 (fun b v c => σ b (c / 64) 0 v (c % 64)) : FVec Ideal S8x64x256 .f32) := by
    rw [harg16.read_unread]; exact hs
  have key := loop_rows (𝒱 := Variants.none) c none i arg3 harg3 arg4 harg4 arg5 harg5 arg6 harg6 arg7 harg7 arg8 harg8 arg9 harg9 arg10 harg10 arg11 harg11 arg12 harg12 arg13 harg13 arg14 harg14 arg15 harg15 arg16 harg16 k0_pay788 (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) v92_eq
    ((harg3.read_unread _).trans h0) ((harg4.read_unread _).trans h1) ((harg5.read_unread _).trans h2) ((harg6.read_unread _).trans h3) ((harg7.read_unread _).trans h4) ((harg8.read_unread _).trans h5) (fun y => (congrArg rateE (congrFun (harg9.read_unread x6) y)).trans (h6 y)) ((harg10.read_unread _).trans h7) ((harg11.read_unread _).trans h8) ((harg13.read_unread _).trans h10) h16 hσ k0_t1_loop.trips le_rfl
  have e1 : (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).1 := by
    rw [← v3_lanes, ← v6_mk, ← v64_eq, ← v3_lanes]; rfl
  have e2 : (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 = (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).2 := by
    rw [← v3_lanes, ← v6_mk, ← v64_eq, ← v3_lanes]; rfl
  have hS : ∀ y : S8x64x256.Idx, arg16.view.read (Elt Ideal) (arg16.view.writes (Elt Ideal) (harg16.unread xs0) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).2) y = ((σ (y 0).val ((y 2).val / 64) 128 (y 1).val ((y 2).val % 64) : ℝ) : EReal) := fun y => by
    have y0 : (y 0).val < 8 := (y 0).isLt
    rw [key.1 y, if_pos (by omega)]
  refine ⟨fun y => ?_, fun y => ?_, fun y => ?_⟩
  · have y0 : (y 0).val < 8 := (y 0).isLt
    unfold out0_C_11
    rw [e1]
    exact key.2 VO0_11 _ y (by omega)
  · rw [← hS y]
    unfold sout0_C_0
    have hcov := scover0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0
    rw [View.read_writes_eq_canon VS0_0 _ _ hcov]
    rw [← e2, View.read_writes_eq_canon arg16.view _ _ hcov]
  · rw [← hS y]
    unfold out0_C_12
    have e3 : (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1 = [⟨Rect.unit ![0, 0, 0] ![8, 64, 256] inb_S8x64x256_S8x64x256_0_0_0,
      View.readAt (Elt Ideal) arg16.view (Rect.unit ![0, 0, 0] ![8, 64, 256] inb_S8x64x256_S8x64x256_0_0_0).toLoadRect
        (arg16.view.writes (Elt Ideal) (harg16.unread xs0) (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 lanes (mk lowP) k0_pay788 (mk keP) (k0_pay792 k0_pay789) (k0_pay793 lanes) (k0_pay794 lanes) (k0_pay795 lanes) (harg3.unread x0) (harg4.unread x1) (harg5.unread x2) (harg6.unread x3) (harg7.unread x4) (harg8.unread x5) (harg9.unread x6) (harg10.unread x7) (harg11.unread x8) (harg13.unread x10) arg14.view.junk (harg16.unread xs0) k0_t1_loop.trips).2)⟩] := by
      rw [← v3_lanes, ← v6_mk, ← v64_eq, ← v3_lanes]; rfl
    rw [e3]
    refine congrFun ((View.read_writes_full VO0_12 _ _ _ _).trans ?_) y
    exact View.readAt_full arg16.view _ _

end Cert.KernelIdeal.M

end
-- ==== Proof.V.Grid.lean ====
/- The whole grid: the state the kernel carries and the two results, as the recurrence over all the steps. -/
module

public import proofs.«01_k».proof.Proof.KI.Value
public import proofs.«01_k».proof.Proof.V.Point

@[expose] public section

set_option maxRecDepth 16384
set_option maxHeartbeats 4000000

noncomputable section

namespace Cert.KernelIdeal.M

open Idealize.ShloMosaic Idealize.ShloMosaic.TcCoe Cert.KernelIdeal
open Cert.KernelIdeal.Gen Cert.KernelIdeal.Value Idealize.ShloMosaic.Tactic
open Finset

/-- The recurrence's state after `t` steps, all steps' inputs given. -/
def trace (ω κ ι k vv : ℕ → ℕ → ℝ) (s0 : ℕ → ℕ → ℝ) : ℕ → ℕ → ℕ → ℝ
  | 0 => s0
  | t + 1 => stp (fun c => ω c t) (fun c => κ c t) (fun c => ι c t) (fun c => k c t) (fun v => vv v t) (trace ω κ ι k vv s0 t)

/-- All inputs as real numbers: streams by row, channel, step; scales by head, row, step; the initial state by row, value, channel. -/
structure Reals where
  r : ℕ → ℕ → ℕ → ℝ
  k : ℕ → ℕ → ℕ → ℝ
  v : ℕ → ℕ → ℕ → ℝ
  kk : ℕ → ℕ → ℕ → ℝ
  ic : ℕ → ℕ → ℕ → ℝ
  e2 : ℕ → ℕ → ℕ → ℝ
  rs : ℕ → ℕ → ℕ → ℝ
  ks : ℕ → ℕ → ℕ → ℝ
  vs : ℕ → ℕ → ℕ → ℝ
  s0 : ℕ → ℕ → ℕ → ℝ

/-- The state of row `b` and head `h` after `t` steps. -/
def Reals.σ (g : Reals) (b h : ℕ) : ℕ → ℕ → ℕ → ℝ :=
  trace (fun c t => p2 (0 - g.e2 b (64 * h + c) t)) (fun c t => g.kk b (64 * h + c) t) (fun c t => g.ic b (64 * h + c) t) (fun c t => g.k b (64 * h + c) t)
    (fun v t => g.v b (64 * h + v) t * (g.ks h b t * g.vs h b t)) (fun v c => g.s0 b v (64 * h + c))

/-- The output of row `b`, channel `ch`, step `t`. -/
def Reals.y (g : Reals) (b ch t : ℕ) : ℝ :=
  (∑ c ∈ range 64, g.σ b (ch / 64) (t + 1) (ch % 64) c * g.r b (64 * (ch / 64) + c) t) * g.rs (ch / 64) b t

variable (m : (ℓ : Loc nD τ sig) → Buf (Elt Ideal) ℓ) (c : Dev nD) (g : Reals)

/-- A stream's block at a point, as real numbers. -/
def strB (X : ℕ → ℕ → ℕ → ℝ) (n : ℕ) (b ch τ : ℕ) : ℝ := X (8 * (n / 48) + b) (256 * (n / 16 % 3) + ch) (128 * (n % 16) + τ)
/-- A scale's block at a point. -/
def sclB (X : ℕ → ℕ → ℕ → ℝ) (n : ℕ) (h b τ : ℕ) : ℝ := X (4 * (n / 16 % 3) + h) (8 * (n / 48) + b) (128 * (n % 16) + τ)
/-- The initial state's block at a point. -/
def staB (X : ℕ → ℕ → ℕ → ℝ) (n : ℕ) (b v ch : ℕ) : ℝ := X (8 * (n / 48) + b) v (256 * (n / 16 % 3) + ch)

/-- The kernel's input blocks are those real numbers. -/
structure Blocks : Prop where
  r : ∀ t : Fin cfg0.N, (iblk m c 0 t : Vec Ideal S8x256x128 .fp8e4m3) = (blk3 (strB g.r t.val) : FVec Ideal S8x256x128 .fp8e4m3)
  k : ∀ t : Fin cfg0.N, (iblk m c 1 t : Vec Ideal S8x256x128 .fp8e4m3) = (blk3 (strB g.k t.val) : FVec Ideal S8x256x128 .fp8e4m3)
  v : ∀ t : Fin cfg0.N, (iblk m c 2 t : Vec Ideal S8x256x128 .fp8e4m3) = (blk3 (strB g.v t.val) : FVec Ideal S8x256x128 .fp8e4m3)
  rs : ∀ t : Fin cfg0.N, (iblk m c 3 t : Vec Ideal S4x8x128 .f32) = (blk3 (sclB g.rs t.val) : FVec Ideal S4x8x128 .f32)
  ks : ∀ t : Fin cfg0.N, (iblk m c 4 t : Vec Ideal S4x8x128 .f32) = (blk3 (sclB g.ks t.val) : FVec Ideal S4x8x128 .f32)
  vs : ∀ t : Fin cfg0.N, (iblk m c 5 t : Vec Ideal S4x8x128 .f32) = (blk3 (sclB g.vs t.val) : FVec Ideal S4x8x128 .f32)
  e2 : ∀ t : Fin cfg0.N, ∀ i : S8x256x128.Idx, rateE ((iblk m c 6 t : Vec Ideal S8x256x128 .bf16) i) = ((strB g.e2 t.val (i 0).val (i 1).val (i 2).val : ℝ) : EReal)
  kk : ∀ t : Fin cfg0.N, (iblk m c 7 t : Vec Ideal S8x256x128 .bf16) = (blk3 (strB g.kk t.val) : FVec Ideal S8x256x128 .bf16)
  ic : ∀ t : Fin cfg0.N, (iblk m c 8 t : Vec Ideal S8x256x128 .bf16) = (blk3 (strB g.ic t.val) : FVec Ideal S8x256x128 .bf16)
  s0 : ∀ t : Fin cfg0.N, (iblk m c 9 t : Vec Ideal S8x64x256 .f32) = (blk3 (staB g.s0 t.val) : FVec Ideal S8x64x256 .f32)
  tri : ∀ t : Fin cfg0.N, (iblk m c 10 t : Vec Ideal S384x128 .bf16) = (up triR : FVec Ideal S384x128 .bf16)

/-- The states at a point, relative to its row, head and step offsets. -/
def sigB (n b h t v c : ℕ) : ℝ := g.σ (8 * (n / 48) + b) (4 * (n / 16 % 3) + h) (128 * (n % 16) + t) v c

theorem sigB_step (n b h t : ℕ) : sigB g n b h (t + 1) =
    stp (fun c => p2 (0 - strB g.e2 n b (64 * h + c) t)) (fun c => strB g.kk n b (64 * h + c) t) (fun c => strB g.ic n b (64 * h + c) t)
      (fun c => strB g.k n b (64 * h + c) t) (fun v => strB g.v n b (64 * h + v) t * (sclB g.ks n h b t * sclB g.vs n h b t)) (sigB g n b h t) := by
  have e : ∀ c, 64 * (4 * (n / 16 % 3) + h) + c = 256 * (n / 16 % 3) + (64 * h + c) := fun c => by omega
  unfold strB sclB
  simp only [← e]
  rfl

theorem sigB_zero (n b h : ℕ) (hn : n % 16 = 0) (v c : ℕ) : sigB g n b h 0 v c = g.s0 (8 * (n / 48) + b) v (256 * (n / 16 % 3) + (64 * h + c)) := by
  unfold sigB
  rw [hn, show 256 * (n / 16 % 3) + (64 * h + c) = 64 * (4 * (n / 16 % 3) + h) + c by omega]
  rfl

theorem sigB_next (n b h v c : ℕ) (hn : ¬(n + 1) % 16 = 0) : sigB g (n + 1) b h 0 v c = sigB g n b h 128 v c := by
  unfold sigB
  rw [show (n + 1) / 48 = n / 48 by omega, show (n + 1) / 16 % 3 = n / 16 % 3 by omega, show 128 * ((n + 1) % 16) + 0 = 128 * (n % 16) + 128 by omega]

/-- What a point leaves, as real numbers. -/
def After (n : ℕ) (o : Vec Ideal S8x256x128 .bf16 × Vec Ideal S8x64x256 .f32 × Vec Ideal S8x64x256 .f32) : Prop :=
  (∀ y : S8x256x128.Idx, o.1 y = ((g.y (8 * (n / 48) + (y 0).val) (256 * (n / 16 % 3) + (y 1).val) (128 * (n % 16) + (y 2).val) : ℝ) : EReal)) ∧
  (∀ y : S8x64x256.Idx, o.2.2 y = ((sigB g n (y 0).val ((y 2).val / 64) 128 (y 1).val ((y 2).val % 64) : ℝ) : EReal)) ∧
  (n % 16 = 15 → ∀ y : S8x64x256.Idx, o.2.1 y = ((sigB g n (y 0).val ((y 2).val / 64) 128 (y 1).val ((y 2).val % 64) : ℝ) : EReal))

theorem y_local (n y0 y1 y2 : ℕ) :
    (∑ c ∈ range 64, sigB g n y0 (y1 / 64) (y2 + 1) (y1 % 64) c * strB g.r n y0 (64 * (y1 / 64) + c) y2) * sclB g.rs n (y1 / 64) y0 y2 =
      g.y (8 * (n / 48) + y0) (256 * (n / 16 % 3) + y1) (128 * (n % 16) + y2) := by
  unfold Reals.y sigB strB sclB
  rw [show (256 * (n / 16 % 3) + y1) / 64 = 4 * (n / 16 % 3) + y1 / 64 by omega, show (256 * (n / 16 % 3) + y1) % 64 = y1 % 64 by omega]
  congr 1
  refine sum_congr rfl fun c _ => ?_
  rw [show 256 * (n / 16 % 3) + (64 * (y1 / 64) + c) = 64 * (4 * (n / 16 % 3) + y1 / 64) + c by omega]
  rfl

variable {m c g}

theorem after_A (B : Blocks m c g) (t : Fin cfg0.N) (acc : Vec Ideal S8x256x128 .bf16 × Vec Ideal S8x64x256 .f32 × Vec Ideal S8x64x256 .f32) (h0 : t.val % 16 = 0) (h1 : ¬t.val % 16 = 15) :
    After g t.val (stAt0 m c t.val t.isLt acc) := by
  rw [stAt0_A m c t acc h0 h1]
  have hs : (iblk m c 9 t : Vec Ideal S8x64x256 .f32) = (blk3 (fun b v c => sigB g t.val b (c / 64) 0 v (c % 64)) : FVec Ideal S8x64x256 .f32) := by
    rw [B.s0 t]
    funext y
    show ((staB g.s0 t.val (y 0).val (y 1).val (y 2).val : ℝ) : EReal) = ((sigB g t.val (y 0).val ((y 2).val / 64) 0 (y 1).val ((y 2).val % 64) : ℝ) : EReal)
    rw [sigB_zero g _ _ _ h0, show 64 * ((y 2).val / 64) + (y 2).val % 64 = (y 2).val by omega]
    rfl
  have key := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (B.r t) (B.k t) (B.v t) (B.rs t) (B.ks t) (B.vs t) (B.e2 t) (B.kk t) (B.ic t) (B.tri t) (fun b _ h _ s _ => sigB_step g t.val b h s) ((hcond0_0 t).mpr h0) (fun h => h1 ((hcond0_1 t).mp h)) hs
  refine ⟨fun y => (key.1 y).trans ?_, key.2, fun h => absurd h h1⟩
  exact congrArg Real.toEReal (y_local g t.val (y 0).val (y 1).val (y 2).val)

theorem after_B (B : Blocks m c g) (t : Fin cfg0.N) (acc : Vec Ideal S8x256x128 .bf16 × Vec Ideal S8x64x256 .f32 × Vec Ideal S8x64x256 .f32) (h0 : ¬t.val % 16 = 0) (h1 : ¬t.val % 16 = 15)
    (hs : acc.2.2 = (blk3 (fun b v c => sigB g t.val b (c / 64) 0 v (c % 64)) : FVec Ideal S8x64x256 .f32)) :
    After g t.val (stAt0 m c t.val t.isLt acc) := by
  rw [stAt0_B m c t acc h0 h1]
  have key := pointB (x9 := iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (B.r t) (B.k t) (B.v t) (B.rs t) (B.ks t) (B.vs t) (B.e2 t) (B.kk t) (B.ic t) (B.tri t) (fun b _ h _ s _ => sigB_step g t.val b h s) (fun h => h0 ((hcond0_0 t).mp h)) (fun h => h1 ((hcond0_1 t).mp h)) hs
  refine ⟨fun y => (key.1 y).trans ?_, key.2, fun h => absurd h h1⟩
  exact congrArg Real.toEReal (y_local g t.val (y 0).val (y 1).val (y 2).val)

theorem after_C (B : Blocks m c g) (t : Fin cfg0.N) (acc : Vec Ideal S8x256x128 .bf16 × Vec Ideal S8x64x256 .f32 × Vec Ideal S8x64x256 .f32) (h0 : ¬t.val % 16 = 0) (h1 : t.val % 16 = 15)
    (hs : acc.2.2 = (blk3 (fun b v c => sigB g t.val b (c / 64) 0 v (c % 64)) : FVec Ideal S8x64x256 .f32)) :
    After g t.val (stAt0 m c t.val t.isLt acc) := by
  rw [stAt0_C m c t acc h0 h1]
  have key := pointC (x9 := iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (B.r t) (B.k t) (B.v t) (B.rs t) (B.ks t) (B.vs t) (B.e2 t) (B.kk t) (B.ic t) (B.tri t) (fun b _ h _ s _ => sigB_step g t.val b h s) (fun h => h0 ((hcond0_0 t).mp h)) ((hcond0_1 t).mpr h1) hs
  refine ⟨fun y => (key.1 y).trans ?_, key.2.1, fun _ => key.2.2⟩
  exact congrArg Real.toEReal (y_local g t.val (y 0).val (y 1).val (y 2).val)

theorem after_all (B : Blocks m c g) (n : ℕ) (hn : n < cfg0.N) : After g n (outsAt0 m c n hn) := by
  induction n with
  | zero =>
    rw [outsAt0_zero]
    exact after_A B ⟨0, hn⟩ _ rfl (by show ¬0 % 16 = 15; omega)
  | succ n ih =>
    rw [outsAt0_succ]
    by_cases h0 : (n + 1) % 16 = 0
    · exact after_A B ⟨n + 1, hn⟩ _ h0 (by show ¬(n + 1) % 16 = 15; omega)
    have hs : (outsAt0 m c n (Nat.lt_of_succ_lt hn)).2.2 = (blk3 (fun b v c => sigB g (n + 1) b (c / 64) 0 v (c % 64)) : FVec Ideal S8x64x256 .f32) := by
      funext y
      refine ((ih (Nat.lt_of_succ_lt hn)).2.1 y).trans ?_
      exact congrArg Real.toEReal (sigB_next g n _ _ _ _ h0).symm
    by_cases h1 : (n + 1) % 16 = 15
    · exact after_C B ⟨n + 1, hn⟩ _ h0 h1 hs
    · exact after_B B ⟨n + 1, hn⟩ _ h0 h1 hs

/-- The output result. -/
theorem G11_eq (B : Blocks m c g) (i : S96x768x2048.Idx) : G11 m c i = ((g.y (i 0).val (i 1).val (i 2).val : ℝ) : EReal) := by
  have i0 : (i 0).val < 96 := (i 0).isLt
  have i1 : (i 1).val < 768 := (i 1).isLt
  have i2 : (i 2).val < 2048 := (i 2).isLt
  have hp : pt11Of i = 48 * ((i 0).val / 8) + 16 * ((i 1).val / 256) + (i 2).val / 128 := by
    show 48 * ((i 0).val / 8 - 0) + 16 * ((i 1).val / 256 - 0) + 1 * ((i 2).val / 128 - 0) = _
    omega
  have hN : cfg0.N = 576 := N_0
  have h : pt11Of i < cfg0.N := by omega
  unfold G11
  rw [dif_pos h]
  have key := (after_all B (pt11Of i) h).1 (loc11Of i)
  rw [outsAt0_sweep] at key
  refine key.trans (congrArg Real.toEReal ?_)
  show g.y (8 * (pt11Of i / 48) + (i 0).val % 8) (256 * (pt11Of i / 16 % 3) + (i 1).val % 256) (128 * (pt11Of i % 16) + (i 2).val % 128) = _
  rw [show 8 * (pt11Of i / 48) + (i 0).val % 8 = (i 0).val by omega, show 256 * (pt11Of i / 16 % 3) + (i 1).val % 256 = (i 1).val by omega,
    show 128 * (pt11Of i % 16) + (i 2).val % 128 = (i 2).val by omega]

/-- The final state. -/
theorem G12_eq (B : Blocks m c g) (i : S96x64x768.Idx) : G12 m c i = ((g.σ (i 0).val ((i 2).val / 64) 2048 (i 1).val ((i 2).val % 64) : ℝ) : EReal) := by
  have i0 : (i 0).val < 96 := (i 0).isLt
  have i1 : (i 1).val < 64 := (i 1).isLt
  have i2 : (i 2).val < 768 := (i 2).isLt
  have hp : pt12Of i = 48 * ((i 0).val / 8) + 16 * ((i 2).val / 256) + 15 := by
    show 16 * (3 * ((i 0).val / 8 - 0) + 3 * ((i 1).val / 64 - 0) + 1 * ((i 2).val / 256 - 0)) + 15 = _
    omega
  have hN : cfg0.N = 576 := N_0
  have h : pt12Of i < cfg0.N := by omega
  unfold G12
  rw [dif_pos h]
  have key := (after_all B (pt12Of i) h).2.2 (by omega) (loc12Of i)
  rw [outsAt0_sweep] at key
  refine key.trans (congrArg Real.toEReal ?_)
  show g.σ (8 * (pt12Of i / 48) + (i 0).val % 8) (4 * (pt12Of i / 16 % 3) + (i 2).val % 256 / 64) (128 * (pt12Of i % 16) + 128) ((i 1).val % 64) ((i 2).val % 256 % 64) = _
  rw [show 8 * (pt12Of i / 48) + (i 0).val % 8 = (i 0).val by omega, show 4 * (pt12Of i / 16 % 3) + (i 2).val % 256 / 64 = (i 2).val / 64 by omega,
    show 128 * (pt12Of i % 16) + 128 = 2048 by omega, show (i 1).val % 64 = (i 1).val by omega, show (i 2).val % 256 % 64 = (i 2).val % 64 by omega]

/-- The first result in closed form: batch row, step, head, value. -/
theorem O11_eq (B : Blocks m c g) (i : S96x2048x12x64.Idx) : O11 m c i = ((g.y (i 0).val (64 * (i 2).val + (i 3).val) (i 1).val : ℝ) : EReal) := by
  have b2 : (i 2).val < 12 := (i 2).isLt
  have b3 : (i 3).val < 64 := (i 3).isLt
  refine (transpose_apply _ _ _ _ (ix4 (n0 := 96) (n1 := 12) (n2 := 64) (n3 := 2048) (i 0) (i 2) (i 3) (i 1)) (fun b => match b with
    | ⟨0, _⟩ => rfl
    | ⟨1, _⟩ => rfl
    | ⟨2, _⟩ => rfl
    | ⟨3, _⟩ => rfl)).trans ?_
  refine (shapeCast_apply _ _ _ (ix3 (n0 := 96) (n1 := 768) (n2 := 2048) (i 0) ⟨64 * (i 2).val + (i 3).val, by omega⟩ (i 1)) ?_).trans (G11_eq B _)
  rw [Shape.rowMajor_val_three, Shape.rowMajor_val_four]
  show ((i 0).val * 768 + (64 * (i 2).val + (i 3).val)) * 2048 + (i 1).val = (((i 0).val * 12 + (i 2).val) * 64 + (i 3).val) * 2048 + (i 1).val
  omega

/-- The second result in closed form: batch row, head, value, channel. -/
theorem O12_eq (B : Blocks m c g) (i : S96x12x64x64.Idx) : O12 m c i = ((g.σ (i 0).val (i 1).val 2048 (i 2).val (i 3).val : ℝ) : EReal) := by
  have b1 : (i 1).val < 12 := (i 1).isLt
  have b3 : (i 3).val < 64 := (i 3).isLt
  refine (transpose_apply _ _ _ _ (ix4 (n0 := 96) (n1 := 64) (n2 := 12) (n3 := 64) (i 0) (i 2) (i 1) (i 3)) (fun b => match b with
    | ⟨0, _⟩ => rfl
    | ⟨1, _⟩ => rfl
    | ⟨2, _⟩ => rfl
    | ⟨3, _⟩ => rfl)).trans ?_
  refine (shapeCast_apply _ _ _ (ix3 (n0 := 96) (n1 := 64) (n2 := 768) (i 0) (i 2) ⟨64 * (i 1).val + (i 3).val, by omega⟩) ?_).trans ((G12_eq B _).trans ?_)
  · rw [Shape.rowMajor_val_three, Shape.rowMajor_val_four]
    show ((i 0).val * 64 + (i 2).val) * 768 + (64 * (i 1).val + (i 3).val) = (((i 0).val * 64 + (i 2).val) * 12 + (i 1).val) * 64 + (i 3).val
    omega
  show ((g.σ (i 0).val ((64 * (i 1).val + (i 3).val) / 64) 2048 (i 2).val ((64 * (i 1).val + (i 3).val) % 64) : ℝ) : EReal) = _
  rw [show (64 * (i 1).val + (i 3).val) / 64 = (i 1).val by omega, show (64 * (i 1).val + (i 3).val) % 64 = (i 3).val by omega]

end Cert.KernelIdeal.M

end
-- ==== Proof.V.HostV.lean ====
/- The kernel's operands when it is launched, as functions of the program's arguments. -/
module

public import proofs.«01_k».proof.Proof.V.Grid

@[expose] public section

set_option maxRecDepth 16384
set_option maxHeartbeats 4000000

noncomputable section

namespace Cert.KernelIdeal.M

open Idealize.ShloMosaic Idealize.ShloMosaic.TcCoe Cert.KernelIdeal Idealize.ShloMosaic.Tactic
open Cert.KernelIdeal.Gen Cert.KernelIdeal.Value

variable (m : (ℓ : Loc nD τ sig) → Buf (Elt Ideal) ℓ) (c : Dev nD)

/-- A stream argument with the step index moved last and heads and channels joined. -/
def hostStream {e : EltTy} (x : S96x2048x12x64.Idx → Elt Ideal e) : S96x768x2048.Idx → Elt Ideal e :=
  shapeCast S96x768x2048 (transpose S96x12x64x2048 [0, 2, 3, 1] x transposes_S96x2048x12x64_S96x12x64x2048_0_2_3_1) shapeCasts_S96x12x64x2048_S96x768x2048

/-- A scale argument with the head index moved first. -/
def hostScale (x : S96x2048x12.Idx → Elt Ideal .f32) : S12x96x2048.Idx → Elt Ideal .f32 :=
  transpose S12x96x2048 [2, 0, 1] x transposes_S96x2048x12_S12x96x2048_2_0_1

/-- The initial state with heads and channels joined. -/
def hostState (x : S96x12x64x64.Idx → Elt Ideal .f32) : S96x64x768.Idx → Elt Ideal .f32 :=
  shapeCast S96x64x768 (transpose S96x64x12x64 [0, 2, 1, 3] x transposes_S96x12x64x64_S96x64x12x64_0_2_1_3) shapeCasts_S96x64x12x64_S96x64x768

/-- Floor division by 64 as the program's lines compute it. -/
def floor64 {S : Shape} (h : S_.BroadcastsInDim S ![]) (a : IVec S 32) : IVec S 32 :=
  select (andi (cmpi .ne (signi a) (broadcastInDim S ![] h (signi (constantI S_ 32 64#32))))
      (cmpi .ne (Host.remsi a (broadcastInDim S ![] h (constantI S_ 32 64#32))) (broadcastInDim S ![] h (constantI S_ 32 0#32))))
    (subi (Host.divsi a (broadcastInDim S ![] h (constantI S_ 32 64#32))) (broadcastInDim S ![] h (constantI S_ 32 1#32)))
    (Host.divsi a (broadcastInDim S ![] h (constantI S_ 32 64#32)))

/-- The steps 0 to 127 as a column. -/
def iotaCol : IVec S128x1 32 := broadcastInDim S128x1 ![0] bcast_S128_S128x1_0 (iotaInDim S128 32 0)
/-- The steps 0 to 127 as a row. -/
def iotaRow : IVec S1x128 32 := broadcastInDim S1x128 ![1] bcast_S128_S1x128_1 (iotaInDim S128 32 0)

/-- The mask of step pairs: not later, and of one chunk. -/
def hostMask : IVec S128x128 1 :=
  andi (cmpi .sle (broadcastInDim S128x128 ![0, 1] bcast_S128x1_S128x128_0_1 iotaCol) (broadcastInDim S128x128 ![0, 1] bcast_S1x128_S128x128_0_1 iotaRow))
    (cmpi .eq (broadcastInDim S128x128 ![0, 1] bcast_S128x1_S128x128_0_1 (floor64 bcast_S_S128x1 iotaCol))
      (broadcastInDim S128x128 ![0, 1] bcast_S1x128_S128x128_0_1 (floor64 bcast_S_S1x128 iotaRow)))

/-- Three copies of the mask, one below the other. -/
def stack3 (x : FVec Ideal S128x128 .bf16) : FVec Ideal S384x128 .bf16 :=
  concatenate S384x128 0 [⟨S128x128, x⟩, ⟨S128x128, x⟩, ⟨S128x128, x⟩] concatenates_S128x128_S128x128_S128x128_S384x128_d0

/-- The codes of a stream read as fp8 values. -/
def codes (x : IVec S96x2048x12x64 8) : FVec Ideal S96x2048x12x64 .fp8e4m3 := bitcastToFloat .fp8e4m3 x

theorem V_r : V m c main_v22 = hostStream (e := .fp8e4m3) (codes (m ((c : Thread nD τ).loc main_arg0))) := by
  show StableHlo.after _ _ (Proc.devRef .tc main_v22) = _
  simp only [List.flatten_cons, List.flatten_nil, List.append_nil, List.cons_append, List.nil_append]
  after_results
  rfl

theorem V_k : V m c main_v24 = hostStream (e := .fp8e4m3) (codes (m ((c : Thread nD τ).loc main_arg1))) := by
  show StableHlo.after _ _ (Proc.devRef .tc main_v24) = _
  simp only [List.flatten_cons, List.flatten_nil, List.append_nil, List.cons_append, List.nil_append]
  after_results
  rfl

theorem V_v : V m c main_v26 = hostStream (e := .fp8e4m3) (codes (m ((c : Thread nD τ).loc main_arg2))) := by
  show StableHlo.after _ _ (Proc.devRef .tc main_v26) = _
  simp only [List.flatten_cons, List.flatten_nil, List.append_nil, List.cons_append, List.nil_append]
  after_results
  rfl

theorem V_rs : V m c main_v27 = hostScale (m ((c : Thread nD τ).loc main_arg3)) := by
  show StableHlo.after _ _ (Proc.devRef .tc main_v27) = _
  simp only [List.flatten_cons, List.flatten_nil, List.append_nil, List.cons_append, List.nil_append]
  after_results
  rfl

theorem V_ks : V m c main_v28 = hostScale (m ((c : Thread nD τ).loc main_arg4)) := by
  show StableHlo.after _ _ (Proc.devRef .tc main_v28) = _
  simp only [List.flatten_cons, List.flatten_nil, List.append_nil, List.cons_append, List.nil_append]
  after_results
  rfl

theorem V_vs : V m c main_v29 = hostScale (m ((c : Thread nD τ).loc main_arg5)) := by
  show StableHlo.after _ _ (Proc.devRef .tc main_v29) = _
  simp only [List.flatten_cons, List.flatten_nil, List.append_nil, List.cons_append, List.nil_append]
  after_results
  rfl

theorem V_w : V m c main_v31 = hostStream (e := .bf16) (m ((c : Thread nD τ).loc main_arg6)) := by
  show StableHlo.after _ _ (Proc.devRef .tc main_v31) = _
  simp only [List.flatten_cons, List.flatten_nil, List.append_nil, List.cons_append, List.nil_append]
  after_results
  rfl

theorem V_kk : V m c main_v33 = hostStream (e := .bf16) (m ((c : Thread nD τ).loc main_arg7)) := by
  show StableHlo.after _ _ (Proc.devRef .tc main_v33) = _
  simp only [List.flatten_cons, List.flatten_nil, List.append_nil, List.cons_append, List.nil_append]
  after_results
  rfl

theorem V_ic : V m c main_v35 = hostStream (e := .bf16) (m ((c : Thread nD τ).loc main_arg8)) := by
  show StableHlo.after _ _ (Proc.devRef .tc main_v35) = _
  simp only [List.flatten_cons, List.flatten_nil, List.append_nil, List.cons_append, List.nil_append]
  after_results
  rfl

theorem V_s0 : V m c main_v20 = hostState (m ((c : Thread nD τ).loc main_arg9)) := by
  show StableHlo.after _ _ (Proc.devRef .tc main_v20) = _
  simp only [List.flatten_cons, List.flatten_nil, List.append_nil, List.cons_append, List.nil_append]
  after_results
  rfl

theorem V_tri : V m c main_v18 = stack3 (uitofp .bf16 hostMask) := by
  show StableHlo.after _ _ (Proc.devRef .tc main_v18) = _
  simp only [List.flatten_cons, List.flatten_nil, List.append_nil, List.cons_append, List.nil_append]
  after_results
  rfl

end Cert.KernelIdeal.M
-- ==== Proof.V.Host.lean ====
/- The blocks the kernel reads, as real numbers, when the arguments are finite. -/
module

public import proofs.«01_k».proof.Proof.V.HostV

@[expose] public section

set_option maxRecDepth 16384
set_option maxHeartbeats 4000000

noncomputable section

namespace Cert.KernelIdeal.M

open Idealize.ShloMosaic Idealize.ShloMosaic.TcCoe Cert.KernelIdeal Idealize.ShloMosaic.Tactic
open Cert.KernelIdeal.Gen Cert.KernelIdeal.Value

variable (m : (ℓ : Loc nD τ sig) → Buf (Elt Ideal) ℓ) (c : Dev nD)

theorem hostStream_apply {e : EltTy} (x : S96x2048x12x64.Idx → Elt Ideal e) (i : S96x768x2048.Idx) (k : S96x2048x12x64.Idx)
    (h0 : (k 0).val = (i 0).val) (h1 : (k 1).val = (i 2).val) (h2 : (k 2).val = (i 1).val / 64) (h3 : (k 3).val = (i 1).val % 64) :
    hostStream x i = x k := by
  unfold hostStream
  have b0 : (i 0).val < 96 := (i 0).isLt
  have b1 : (i 1).val < 768 := (i 1).isLt
  have b2 : (i 2).val < 2048 := (i 2).isLt
  refine (shapeCast_apply _ _ i (ix4 (n0 := 96) (n1 := 12) (n2 := 64) (n3 := 2048) ⟨(i 0).val, b0⟩ ⟨(i 1).val / 64, by omega⟩ ⟨(i 1).val % 64, by omega⟩ ⟨(i 2).val, b2⟩) ?_).trans
    (transpose_apply _ x _ _ k ?_)
  · rw [Shape.rowMajor_val_four, Shape.rowMajor_val_three]
    show (((i 0).val * 12 + (i 1).val / 64) * 64 + (i 1).val % 64) * 2048 + (i 2).val = ((i 0).val * 768 + (i 1).val) * 2048 + (i 2).val
    omega
  · intro b
    match b with
    | ⟨0, _⟩ => exact h0
    | ⟨1, _⟩ => exact h2
    | ⟨2, _⟩ => exact h3
    | ⟨3, _⟩ => exact h1

theorem hostScale_apply (x : S96x2048x12.Idx → Elt Ideal .f32) (i : S12x96x2048.Idx) (k : S96x2048x12.Idx)
    (h0 : (k 0).val = (i 1).val) (h1 : (k 1).val = (i 2).val) (h2 : (k 2).val = (i 0).val) : hostScale x i = x k := by
  unfold hostScale
  refine transpose_apply _ x _ _ k ?_
  intro b
  match b with
  | ⟨0, _⟩ => exact h2
  | ⟨1, _⟩ => exact h0
  | ⟨2, _⟩ => exact h1

theorem hostState_apply (x : S96x12x64x64.Idx → Elt Ideal .f32) (i : S96x64x768.Idx) (k : S96x12x64x64.Idx)
    (h0 : (k 0).val = (i 0).val) (h1 : (k 1).val = (i 2).val / 64) (h2 : (k 2).val = (i 1).val) (h3 : (k 3).val = (i 2).val % 64) :
    hostState x i = x k := by
  unfold hostState
  have b0 : (i 0).val < 96 := (i 0).isLt
  have b1 : (i 1).val < 64 := (i 1).isLt
  have b2 : (i 2).val < 768 := (i 2).isLt
  refine (shapeCast_apply _ _ i (ix4 (n0 := 96) (n1 := 64) (n2 := 12) (n3 := 64) ⟨(i 0).val, b0⟩ ⟨(i 1).val, b1⟩ ⟨(i 2).val / 64, by omega⟩ ⟨(i 2).val % 64, by omega⟩) ?_).trans
    (transpose_apply _ x _ _ k ?_)
  · rw [Shape.rowMajor_val_four, Shape.rowMajor_val_three]
    show (((i 0).val * 64 + (i 1).val) * 12 + (i 2).val / 64) * 64 + (i 2).val % 64 = ((i 0).val * 64 + (i 1).val) * 768 + (i 2).val
    omega
  · intro b
    match b with
    | ⟨0, _⟩ => exact h0
    | ⟨1, _⟩ => exact h2
    | ⟨2, _⟩ => exact h1
    | ⟨3, _⟩ => exact h3

theorem idx_str : ∀ t : Fin cfg0.N,
    (win0_0.index t (0 : Fin 3) = t.val / 48 ∧ win0_0.index t (1 : Fin 3) = t.val / 16 % 3 ∧ win0_0.index t (2 : Fin 3) = t.val % 16)
    ∧ win0_1.index t = win0_0.index t ∧ win0_2.index t = win0_0.index t ∧ win0_6.index t = win0_0.index t
    ∧ win0_7.index t = win0_0.index t ∧ win0_8.index t = win0_0.index t := by decide +kernel
theorem idx_scl : ∀ t : Fin cfg0.N,
    (win0_3.index t (0 : Fin 3) = t.val / 16 % 3 ∧ win0_3.index t (1 : Fin 3) = t.val / 48 ∧ win0_3.index t (2 : Fin 3) = t.val % 16)
    ∧ win0_4.index t = win0_3.index t ∧ win0_5.index t = win0_3.index t := by decide +kernel
theorem idx_sta : ∀ t : Fin cfg0.N,
    (win0_9.index t (0 : Fin 3) = t.val / 48 ∧ win0_9.index t (1 : Fin 3) = 0 ∧ win0_9.index t (2 : Fin 3) = t.val / 16 % 3)
    ∧ win0_10.index t (0 : Fin 2) = 0 ∧ win0_10.index t (1 : Fin 2) = 0 := by decide +kernel

/-- An entry of a stream argument, by row, channel and step. -/
def at4 {e : EltTy} (x : S96x2048x12x64.Idx → Elt Ideal e) (b ch t : ℕ) : Elt Ideal e :=
  x (ix4 (Fin.ofNat 96 b) (Fin.ofNat 2048 t) (Fin.ofNat 12 (ch / 64)) (Fin.ofNat 64 ch))
/-- An entry of a scale argument, by head, row and step. -/
def at3 (x : S96x2048x12.Idx → Elt Ideal .f32) (h b t : ℕ) : EReal :=
  x (ix3 (Fin.ofNat 96 b) (Fin.ofNat 2048 t) (Fin.ofNat 12 h))
/-- An entry of the initial state, by row, value and channel. -/
def atS (x : S96x12x64x64.Idx → Elt Ideal .f32) (b v ch : ℕ) : EReal :=
  x (ix4 (Fin.ofNat 96 b) (Fin.ofNat 12 (ch / 64)) (Fin.ofNat 64 v) (Fin.ofNat 64 ch))

theorem hostStream_at {e : EltTy} (x : S96x2048x12x64.Idx → Elt Ideal e) (i : S96x768x2048.Idx) :
    hostStream x i = at4 x (i 0).val (i 1).val (i 2).val := by
  have b0 : (i 0).val < 96 := (i 0).isLt
  have b1 : (i 1).val < 768 := (i 1).isLt
  have b2 : (i 2).val < 2048 := (i 2).isLt
  refine hostStream_apply x i _ ?_ ?_ ?_ ?_
  · show (i 0).val % 96 = _; omega
  · show (i 2).val % 2048 = _; omega
  · show (i 1).val / 64 % 12 = _; omega
  · rfl
theorem hostScale_at (x : S96x2048x12.Idx → Elt Ideal .f32) (i : S12x96x2048.Idx) :
    hostScale x i = at3 x (i 0).val (i 1).val (i 2).val := by
  have b0 : (i 0).val < 12 := (i 0).isLt
  have b1 : (i 1).val < 96 := (i 1).isLt
  have b2 : (i 2).val < 2048 := (i 2).isLt
  refine hostScale_apply x i _ ?_ ?_ ?_
  · show (i 1).val % 96 = _; omega
  · show (i 2).val % 2048 = _; omega
  · show (i 0).val % 12 = _; omega
theorem hostState_at (x : S96x12x64x64.Idx → Elt Ideal .f32) (i : S96x64x768.Idx) :
    hostState x i = atS x (i 0).val (i 1).val (i 2).val := by
  have b0 : (i 0).val < 96 := (i 0).isLt
  have b1 : (i 1).val < 64 := (i 1).isLt
  have b2 : (i 2).val < 768 := (i 2).isLt
  refine hostState_apply x i _ ?_ ?_ ?_ ?_
  · show (i 0).val % 96 = _; omega
  · show (i 2).val / 64 % 12 = _; omega
  · show (i 1).val % 64 = _; omega
  · rfl

end Cert.KernelIdeal.M
-- ==== Proof.V.HostB.lean ====
/- The operand blocks at every grid point, read off the arguments. -/
module

public import proofs.«01_k».proof.Proof.V.Host

@[expose] public section

set_option maxRecDepth 16384
set_option maxHeartbeats 4000000

noncomputable section

namespace Cert.KernelIdeal.M

open Idealize.ShloMosaic Idealize.ShloMosaic.TcCoe Cert.KernelIdeal Idealize.ShloMosaic.Tactic
open Cert.KernelIdeal.Gen Cert.KernelIdeal.Value

variable (m : (ℓ : Loc nD τ sig) → Buf (Elt Ideal) ℓ) (c : Dev nD)

theorem floor_col (a : Fin 128) : floor64 bcast_S_S128x1 iotaCol (ix2 a (0 : Fin 1)) = BitVec.ofNat 32 (a.val / 64) := by
  have h : ∀ a : Fin 128, floor64 bcast_S_S128x1 iotaCol (ix2 a (0 : Fin 1)) = BitVec.ofNat 32 (a.val / 64) := by decide +kernel
  exact h a
theorem floor_row (a : Fin 128) : floor64 bcast_S_S1x128 iotaRow (ix2 (0 : Fin 1) a) = BitVec.ofNat 32 (a.val / 64) := by
  have h : ∀ a : Fin 128, floor64 bcast_S_S1x128 iotaRow (ix2 (0 : Fin 1) a) = BitVec.ofNat 32 (a.val / 64) := by decide +kernel
  exact h a

theorem sle_small (a b : Fin 128) : IntOp.cmpi .sle (BitVec.ofNat 32 a.val) (BitVec.ofNat 32 b.val) = BitVec.ofBool (decide (a.val ≤ b.val)) := by
  have h : ∀ a b : Fin 128, IntOp.cmpi .sle (BitVec.ofNat 32 a.val) (BitVec.ofNat 32 b.val) = BitVec.ofBool (decide (a.val ≤ b.val)) := by decide +kernel
  exact h a b
theorem eq_small (a b : Fin 2) : IntOp.cmpi .eq (BitVec.ofNat 32 a.val) (BitVec.ofNat 32 b.val) = BitVec.ofBool (decide (a.val = b.val)) := by
  have h : ∀ a b : Fin 2, IntOp.cmpi .eq (BitVec.ofNat 32 a.val) (BitVec.ofNat 32 b.val) = BitVec.ofBool (decide (a.val = b.val)) := by decide +kernel
  exact h a b

/-- The mask bit of two steps. -/
theorem mask_bit (a b : Fin 128) : hostMask (ix2 a b) = BitVec.ofBool (decide (a.val ≤ b.val) && decide (a.val / 64 = b.val / 64)) := by
  have e1 : iotaCol (ix2 a (0 : Fin 1)) = BitVec.ofNat 32 a.val := rfl
  have e2 : iotaRow (ix2 (0 : Fin 1) b) = BitVec.ofNat 32 b.val := rfl
  have h : hostMask (ix2 a b) = IntOp.andi (IntOp.cmpi .sle (iotaCol (ix2 a (0 : Fin 1))) (iotaRow (ix2 (0 : Fin 1) b)))
    (IntOp.cmpi .eq (floor64 bcast_S_S128x1 iotaCol (ix2 a (0 : Fin 1))) (floor64 bcast_S_S1x128 iotaRow (ix2 (0 : Fin 1) b))) := by
    pointwise [hostMask]
  rw [h, floor_col, floor_row, e1, e2, sle_small, eq_small ⟨a.val / 64, by omega⟩ ⟨b.val / 64, by omega⟩]
  cases decide (a.val ≤ b.val) <;> cases decide (a.val / 64 = b.val / 64) <;> rfl

theorem tri_eq : stack3 (uitofp .bf16 hostMask) = (up triR : FVec Ideal S384x128 .bf16) := by
  funext i
  have b0 : (i 0).val < 384 := (i 0).isLt
  have b1 : (i 1).val < 128 := (i 1).isLt
  refine (concatenate_replicate_apply (t := S384x128) (s₁ := S128x128) 0 3 (uitofp (F := Ideal) .bf16 hostMask) concatenates_S128x128_S128x128_S128x128_S384x128_d0 rfl i (ix2 (n0 := 128) (n1 := 128) ⟨(i 0).val % 128, by omega⟩ ⟨(i 1).val, b1⟩) rfl ?_).trans ?_
  · intro b hb
    match b with
    | ⟨0, _⟩ => exact absurd rfl hb
    | ⟨1, _⟩ => rfl
  · show FloatOps.uitofp (F := Ideal) .bf16 (hostMask (ix2 (n0 := 128) (n1 := 128) ⟨(i 0).val % 128, _⟩ ⟨(i 1).val, b1⟩)) = ((triR (i 0).val (i 1).val : ℝ) : EReal)
    rw [mask_bit]
    unfold triR
    by_cases h1 : (i 0).val % 128 ≤ (i 1).val <;> by_cases h2 : (i 0).val % 128 / 64 = (i 1).val / 64 <;> simp [h1, h2] <;> simp [FloatOps.uitofp]

theorem iblk_r (t : Fin cfg0.N) (i : S8x256x128.Idx) :
    iblk m c 0 t i = at4 (e := .fp8e4m3) (codes (m ((c : Thread nD τ).loc main_arg0))) (8 * (t.val / 48) + (i 0).val) (256 * (t.val / 16 % 3) + (i 1).val) (128 * (t.val % 16) + (i 2).val) := by
  show V m c main_v22 (((cfg0.win 0).blk t).view.emb i) = _
  rw [V_r, hostStream_at]
  have e0 : (((cfg0.win 0).blk t).view.emb i 0).val = win0_0.index t (0 : Fin 3) * 8 + 1 * (i 0).val := rfl
  have e1 : (((cfg0.win 0).blk t).view.emb i 1).val = win0_0.index t (1 : Fin 3) * 256 + 1 * (i 1).val := rfl
  have e2 : (((cfg0.win 0).blk t).view.emb i 2).val = win0_0.index t (2 : Fin 3) * 128 + 1 * (i 2).val := rfl
  obtain ⟨⟨f0, f1, f2⟩, g1, g2, g6, g7, g8⟩ := idx_str t
  rw [e0, e1, e2, f0, f1, f2, Nat.one_mul, Nat.one_mul, Nat.one_mul]
  simp only [Nat.mul_comm, Nat.zero_mul, Nat.zero_add]

theorem iblk_k (t : Fin cfg0.N) (i : S8x256x128.Idx) :
    iblk m c 1 t i = at4 (e := .fp8e4m3) (codes (m ((c : Thread nD τ).loc main_arg1))) (8 * (t.val / 48) + (i 0).val) (256 * (t.val / 16 % 3) + (i 1).val) (128 * (t.val % 16) + (i 2).val) := by
  show V m c main_v24 (((cfg0.win 1).blk t).view.emb i) = _
  rw [V_k, hostStream_at]
  have e0 : (((cfg0.win 1).blk t).view.emb i 0).val = win0_1.index t (0 : Fin 3) * 8 + 1 * (i 0).val := rfl
  have e1 : (((cfg0.win 1).blk t).view.emb i 1).val = win0_1.index t (1 : Fin 3) * 256 + 1 * (i 1).val := rfl
  have e2 : (((cfg0.win 1).blk t).view.emb i 2).val = win0_1.index t (2 : Fin 3) * 128 + 1 * (i 2).val := rfl
  obtain ⟨⟨f0, f1, f2⟩, g1, g2, g6, g7, g8⟩ := idx_str t
  rw [e0, e1, e2, g1, f0, f1, f2, Nat.one_mul, Nat.one_mul, Nat.one_mul]
  simp only [Nat.mul_comm, Nat.zero_mul, Nat.zero_add]

theorem iblk_v (t : Fin cfg0.N) (i : S8x256x128.Idx) :
    iblk m c 2 t i = at4 (e := .fp8e4m3) (codes (m ((c : Thread nD τ).loc main_arg2))) (8 * (t.val / 48) + (i 0).val) (256 * (t.val / 16 % 3) + (i 1).val) (128 * (t.val % 16) + (i 2).val) := by
  show V m c main_v26 (((cfg0.win 2).blk t).view.emb i) = _
  rw [V_v, hostStream_at]
  have e0 : (((cfg0.win 2).blk t).view.emb i 0).val = win0_2.index t (0 : Fin 3) * 8 + 1 * (i 0).val := rfl
  have e1 : (((cfg0.win 2).blk t).view.emb i 1).val = win0_2.index t (1 : Fin 3) * 256 + 1 * (i 1).val := rfl
  have e2 : (((cfg0.win 2).blk t).view.emb i 2).val = win0_2.index t (2 : Fin 3) * 128 + 1 * (i 2).val := rfl
  obtain ⟨⟨f0, f1, f2⟩, g1, g2, g6, g7, g8⟩ := idx_str t
  rw [e0, e1, e2, g2, f0, f1, f2, Nat.one_mul, Nat.one_mul, Nat.one_mul]
  simp only [Nat.mul_comm, Nat.zero_mul, Nat.zero_add]

theorem iblk_w (t : Fin cfg0.N) (i : S8x256x128.Idx) :
    iblk m c 6 t i = at4 (e := .bf16) (m ((c : Thread nD τ).loc main_arg6)) (8 * (t.val / 48) + (i 0).val) (256 * (t.val / 16 % 3) + (i 1).val) (128 * (t.val % 16) + (i 2).val) := by
  show V m c main_v31 (((cfg0.win 6).blk t).view.emb i) = _
  rw [V_w, hostStream_at]
  have e0 : (((cfg0.win 6).blk t).view.emb i 0).val = win0_6.index t (0 : Fin 3) * 8 + 1 * (i 0).val := rfl
  have e1 : (((cfg0.win 6).blk t).view.emb i 1).val = win0_6.index t (1 : Fin 3) * 256 + 1 * (i 1).val := rfl
  have e2 : (((cfg0.win 6).blk t).view.emb i 2).val = win0_6.index t (2 : Fin 3) * 128 + 1 * (i 2).val := rfl
  obtain ⟨⟨f0, f1, f2⟩, g1, g2, g6, g7, g8⟩ := idx_str t
  rw [e0, e1, e2, g6, f0, f1, f2, Nat.one_mul, Nat.one_mul, Nat.one_mul]
  simp only [Nat.mul_comm, Nat.zero_mul, Nat.zero_add]

theorem iblk_kk (t : Fin cfg0.N) (i : S8x256x128.Idx) :
    iblk m c 7 t i = at4 (e := .bf16) (m ((c : Thread nD τ).loc main_arg7)) (8 * (t.val / 48) + (i 0).val) (256 * (t.val / 16 % 3) + (i 1).val) (128 * (t.val % 16) + (i 2).val) := by
  show V m c main_v33 (((cfg0.win 7).blk t).view.emb i) = _
  rw [V_kk, hostStream_at]
  have e0 : (((cfg0.win 7).blk t).view.emb i 0).val = win0_7.index t (0 : Fin 3) * 8 + 1 * (i 0).val := rfl
  have e1 : (((cfg0.win 7).blk t).view.emb i 1).val = win0_7.index t (1 : Fin 3) * 256 + 1 * (i 1).val := rfl
  have e2 : (((cfg0.win 7).blk t).view.emb i 2).val = win0_7.index t (2 : Fin 3) * 128 + 1 * (i 2).val := rfl
  obtain ⟨⟨f0, f1, f2⟩, g1, g2, g6, g7, g8⟩ := idx_str t
  rw [e0, e1, e2, g7, f0, f1, f2, Nat.one_mul, Nat.one_mul, Nat.one_mul]
  simp only [Nat.mul_comm, Nat.zero_mul, Nat.zero_add]

theorem iblk_ic (t : Fin cfg0.N) (i : S8x256x128.Idx) :
    iblk m c 8 t i = at4 (e := .bf16) (m ((c : Thread nD τ).loc main_arg8)) (8 * (t.val / 48) + (i 0).val) (256 * (t.val / 16 % 3) + (i 1).val) (128 * (t.val % 16) + (i 2).val) := by
  show V m c main_v35 (((cfg0.win 8).blk t).view.emb i) = _
  rw [V_ic, hostStream_at]
  have e0 : (((cfg0.win 8).blk t).view.emb i 0).val = win0_8.index t (0 : Fin 3) * 8 + 1 * (i 0).val := rfl
  have e1 : (((cfg0.win 8).blk t).view.emb i 1).val = win0_8.index t (1 : Fin 3) * 256 + 1 * (i 1).val := rfl
  have e2 : (((cfg0.win 8).blk t).view.emb i 2).val = win0_8.index t (2 : Fin 3) * 128 + 1 * (i 2).val := rfl
  obtain ⟨⟨f0, f1, f2⟩, g1, g2, g6, g7, g8⟩ := idx_str t
  rw [e0, e1, e2, g8, f0, f1, f2, Nat.one_mul, Nat.one_mul, Nat.one_mul]
  simp only [Nat.mul_comm, Nat.zero_mul, Nat.zero_add]

theorem iblk_rs (t : Fin cfg0.N) (i : S4x8x128.Idx) :
    iblk m c 3 t i = at3 (m ((c : Thread nD τ).loc main_arg3)) (4 * (t.val / 16 % 3) + (i 0).val) (8 * (t.val / 48) + (i 1).val) (128 * (t.val % 16) + (i 2).val) := by
  show V m c main_v27 (((cfg0.win 3).blk t).view.emb i) = _
  rw [V_rs, hostScale_at]
  have e0 : (((cfg0.win 3).blk t).view.emb i 0).val = win0_3.index t (0 : Fin 3) * 4 + 1 * (i 0).val := rfl
  have e1 : (((cfg0.win 3).blk t).view.emb i 1).val = win0_3.index t (1 : Fin 3) * 8 + 1 * (i 1).val := rfl
  have e2 : (((cfg0.win 3).blk t).view.emb i 2).val = win0_3.index t (2 : Fin 3) * 128 + 1 * (i 2).val := rfl
  obtain ⟨⟨f0, f1, f2⟩, g4, g5⟩ := idx_scl t
  rw [e0, e1, e2, f0, f1, f2, Nat.one_mul, Nat.one_mul, Nat.one_mul]
  simp only [Nat.mul_comm, Nat.zero_mul, Nat.zero_add]

theorem iblk_ks (t : Fin cfg0.N) (i : S4x8x128.Idx) :
    iblk m c 4 t i = at3 (m ((c : Thread nD τ).loc main_arg4)) (4 * (t.val / 16 % 3) + (i 0).val) (8 * (t.val / 48) + (i 1).val) (128 * (t.val % 16) + (i 2).val) := by
  show V m c main_v28 (((cfg0.win 4).blk t).view.emb i) = _
  rw [V_ks, hostScale_at]
  have e0 : (((cfg0.win 4).blk t).view.emb i 0).val = win0_4.index t (0 : Fin 3) * 4 + 1 * (i 0).val := rfl
  have e1 : (((cfg0.win 4).blk t).view.emb i 1).val = win0_4.index t (1 : Fin 3) * 8 + 1 * (i 1).val := rfl
  have e2 : (((cfg0.win 4).blk t).view.emb i 2).val = win0_4.index t (2 : Fin 3) * 128 + 1 * (i 2).val := rfl
  obtain ⟨⟨f0, f1, f2⟩, g4, g5⟩ := idx_scl t
  rw [e0, e1, e2, g4, f0, f1, f2, Nat.one_mul, Nat.one_mul, Nat.one_mul]
  simp only [Nat.mul_comm, Nat.zero_mul, Nat.zero_add]

theorem iblk_vs (t : Fin cfg0.N) (i : S4x8x128.Idx) :
    iblk m c 5 t i = at3 (m ((c : Thread nD τ).loc main_arg5)) (4 * (t.val / 16 % 3) + (i 0).val) (8 * (t.val / 48) + (i 1).val) (128 * (t.val % 16) + (i 2).val) := by
  show V m c main_v29 (((cfg0.win 5).blk t).view.emb i) = _
  rw [V_vs, hostScale_at]
  have e0 : (((cfg0.win 5).blk t).view.emb i 0).val = win0_5.index t (0 : Fin 3) * 4 + 1 * (i 0).val := rfl
  have e1 : (((cfg0.win 5).blk t).view.emb i 1).val = win0_5.index t (1 : Fin 3) * 8 + 1 * (i 1).val := rfl
  have e2 : (((cfg0.win 5).blk t).view.emb i 2).val = win0_5.index t (2 : Fin 3) * 128 + 1 * (i 2).val := rfl
  obtain ⟨⟨f0, f1, f2⟩, g4, g5⟩ := idx_scl t
  rw [e0, e1, e2, g5, f0, f1, f2, Nat.one_mul, Nat.one_mul, Nat.one_mul]
  simp only [Nat.mul_comm, Nat.zero_mul, Nat.zero_add]

theorem iblk_s0 (t : Fin cfg0.N) (i : S8x64x256.Idx) :
    iblk m c 9 t i = atS (m ((c : Thread nD τ).loc main_arg9)) (8 * (t.val / 48) + (i 0).val) (i 1).val (256 * (t.val / 16 % 3) + (i 2).val) := by
  show V m c main_v20 (((cfg0.win 9).blk t).view.emb i) = _
  rw [V_s0, hostState_at]
  have e0 : (((cfg0.win 9).blk t).view.emb i 0).val = win0_9.index t (0 : Fin 3) * 8 + 1 * (i 0).val := rfl
  have e1 : (((cfg0.win 9).blk t).view.emb i 1).val = win0_9.index t (1 : Fin 3) * 64 + 1 * (i 1).val := rfl
  have e2 : (((cfg0.win 9).blk t).view.emb i 2).val = win0_9.index t (2 : Fin 3) * 256 + 1 * (i 2).val := rfl
  obtain ⟨⟨f0, f1, f2⟩, _, _⟩ := idx_sta t
  rw [e0, e1, e2, f0, f1, f2, Nat.one_mul, Nat.one_mul, Nat.one_mul]
  simp only [Nat.mul_comm, Nat.zero_mul, Nat.zero_add]

theorem iblk_tri (t : Fin cfg0.N) : (iblk m c 10 t : Vec Ideal S384x128 .bf16) = (up triR : FVec Ideal S384x128 .bf16) := by
  funext i
  show V m c main_v18 (((cfg0.win 10).blk t).view.emb i) = _
  rw [V_tri, tri_eq]
  have e0 : (((cfg0.win 10).blk t).view.emb i 0).val = win0_10.index t (0 : Fin 2) * 384 + 1 * (i 0).val := rfl
  have e1 : (((cfg0.win 10).blk t).view.emb i 1).val = win0_10.index t (1 : Fin 2) * 128 + 1 * (i 1).val := rfl
  obtain ⟨_, f0, f1⟩ := idx_sta t
  unfold up
  rw [e0, e1, f0, f1]
  simp only [Nat.zero_mul, Nat.zero_add, Nat.one_mul]

end Cert.KernelIdeal.M
-- ==== Proof.V.Fin.lean ====
/- What the precondition says: every argument entry the kernel computes with is a real number. -/
module

public import proofs.«01_k».proof.Proof.V.HostB
public import proofs.«01_k».proof.Proof.Gen.Pre_finite
public import proofs.«01_k».proof.Defs

@[expose] public section

set_option maxRecDepth 16384
set_option maxHeartbeats 4000000

noncomputable section

namespace Cert.KernelIdeal.M

open Idealize.ShloMosaic Idealize.ShloMosaic.TcCoe Cert.KernelIdeal Idealize.ShloMosaic.Tactic
open Cert.KernelIdeal.Gen Cert.KernelIdeal.Value

variable (m : (ℓ : Loc nD τ sig) → Buf (Elt Ideal) ℓ) (c : Dev nD)

/-- A real number among the extended ones. -/
def IsR (x : EReal) : Prop := ((x.toReal : ℝ) : EReal) = x

theorem isR_of_ne {x : EReal} (h1 : x ≠ ⊤) (h2 : x ≠ ⊥) : IsR x := EReal.coe_toReal h1 h2

/-- The argument entries are real; the logarithm of the decay rate may also be minus infinity. -/
structure Finite : Prop where
  r : ∀ i, IsR (codes (m ((c : Thread nD τ).loc main_arg0)) i)
  k : ∀ i, IsR (codes (m ((c : Thread nD τ).loc main_arg1)) i)
  v : ∀ i, IsR (codes (m ((c : Thread nD τ).loc main_arg2)) i)
  rs : ∀ i, IsR ((m ((c : Thread nD τ).loc main_arg3)) i)
  ks : ∀ i, IsR ((m ((c : Thread nD τ).loc main_arg4)) i)
  vs : ∀ i, IsR ((m ((c : Thread nD τ).loc main_arg5)) i)
  w : ∀ i, (m ((c : Thread nD τ).loc main_arg6)) i ≠ (⊤ : EReal)
  kk : ∀ i, IsR ((m ((c : Thread nD τ).loc main_arg7)) i)
  ic : ∀ i, IsR ((m ((c : Thread nD τ).loc main_arg8)) i)
  s0 : ∀ i, IsR ((m ((c : Thread nD τ).loc main_arg9)) i)

/-- A code that is not the NaN denotes a real number. -/
theorem code_real (b : BitVec 8) (h : IntOp.cmpi .slt (IntOp.andi (b.setWidth 32) 127#32) 127#32 = 1#1) : IsR (Ideal.ofBits .fp8e4m3 b) := by
  have hb : ∀ n : Fin 256, IntOp.cmpi .slt (IntOp.andi ((BitVec.ofFin (w := 8) n).setWidth 32) 127#32) 127#32 = 1#1 →
      ¬ (((BitVec.ofFin (w := 8) n).extractLsb' 3 4).toNat = 15 ∧ ((BitVec.ofFin (w := 8) n).extractLsb' 0 3).toNat = 7) := by decide +kernel
  have hn := hb b.toFin h
  show IsR (Ideal.e4m3fn b)
  unfold Ideal.e4m3fn IsR
  simp only []
  rw [if_neg hn]
  split <;> exact EReal.toReal_coe _ ▸ rfl

theorem inf_f32 : Ideal.ofBits .f32 0x7F800000#32 = ⊤ := by
  show Ideal.ieee 8 23 0x7F800000#32 = ⊤
  unfold Ideal.ieee
  have h1 : (0x7F800000#32).extractLsb' 23 8 = 255#8 := by decide
  have h2 : (0x7F800000#32).extractLsb' 0 23 = 0#23 := by decide
  have h3 : (0x7F800000#32).extractLsb' 31 1 = 0#1 := by decide
  simp [h1, h2, h3]
theorem inf_bf16 : Ideal.ofBits .bf16 0x7F80#16 = ⊤ := by
  show Ideal.ieee 8 7 0x7F80#16 = ⊤
  unfold Ideal.ieee
  have h1 : (0x7F80#16).extractLsb' 7 8 = 255#8 := by decide
  have h2 : (0x7F80#16).extractLsb' 0 7 = 0#7 := by decide
  have h3 : (0x7F80#16).extractLsb' 15 1 = 0#1 := by decide
  simp [h1, h2, h3]

theorem lt_of_cmp {x y : EReal} (h : Ideal.cmp .olt x y = 1#1) : x < y := by
  unfold Ideal.cmp at h
  by_contra hn
  simp [hn] at h

theorem isR_of_abs {x : EReal} (h : Ideal.cmp .olt (max x (-x)) ⊤ = 1#1) : IsR x := by
  have hl := lt_of_cmp h
  refine isR_of_ne (fun e => ?_) (fun e => ?_)
  · subst e; simp at hl
  · subst e; simp at hl

/-- The precondition, entry by entry. -/
theorem finite_of_pre (h : Cert.Pre_KernelIdeal_finite m) : Finite m c := by
  obtain ⟨p0, p1, p2, p3, p4, p5, p6, p7, p8, p9⟩ := h c
  refine ⟨fun i => code_real _ (congrFun p0 i), fun i => code_real _ (congrFun p1 i), fun i => code_real _ (congrFun p2 i), ?_, ?_, ?_, ?_, ?_, ?_, ?_⟩
  · intro i
    have q : Ideal.cmp .olt _ (Ideal.ofBits .f32 0x7F800000#32) = 1#1 := congrFun p3 i
    rw [inf_f32] at q; exact isR_of_abs q
  · intro i
    have q : Ideal.cmp .olt _ (Ideal.ofBits .f32 0x7F800000#32) = 1#1 := congrFun p4 i
    rw [inf_f32] at q; exact isR_of_abs q
  · intro i
    have q : Ideal.cmp .olt _ (Ideal.ofBits .f32 0x7F800000#32) = 1#1 := congrFun p5 i
    rw [inf_f32] at q; exact isR_of_abs q
  · intro i
    have q : Ideal.cmp .olt _ (Ideal.ofBits .bf16 0x7F80#16) = 1#1 := congrFun p9 i
    rw [inf_bf16] at q; exact (lt_of_cmp q).ne
  · intro i
    have q : Ideal.cmp .olt _ (Ideal.ofBits .bf16 0x7F80#16) = 1#1 := congrFun p6 i
    rw [inf_bf16] at q; exact isR_of_abs q
  · intro i
    have q : Ideal.cmp .olt _ (Ideal.ofBits .bf16 0x7F80#16) = 1#1 := congrFun p7 i
    rw [inf_bf16] at q; exact isR_of_abs q
  · intro i
    have q : Ideal.cmp .olt _ (Ideal.ofBits .f32 0x7F800000#32) = 1#1 := congrFun p8 i
    rw [inf_f32] at q; exact isR_of_abs q

/-- The named constant's value: the reciprocal of the natural logarithm of 2. -/
theorem log2e_val : Named.named (F := Ideal) (φ := .f32) κ "log2e" 0x3FB8AA3B#32 = (((Real.log 2)⁻¹ : ℝ) : EReal) :=
  IdealRules.named_const.ideal_named_scalar _ _ _ _ rfl

theorem log2_inv_pos : (0 : ℝ) < (Real.log 2)⁻¹ := inv_pos.mpr (Real.log_pos (by norm_num))

/-- The rate is `exp` of the input, times the constant. -/
theorem rateE_eq {x : EReal} (h : x ≠ ⊤) : rateE x = ((((Ideal.exp x).toReal * (Real.log 2)⁻¹ : ℝ)) : EReal) := by
  unfold rateE
  rw [log2e_val]
  induction x with
  | top => exact absurd rfl h
  | bot =>
    rw [EReal.bot_mul_coe_of_pos log2_inv_pos]
    show (0 : EReal) * _ = (((0 : EReal).toReal * _ : ℝ) : EReal)
    simp
  | coe r =>
    rw [← EReal.coe_mul]
    show ((Real.rpow 2 (r * (Real.log 2)⁻¹) : ℝ) : EReal) * _ = (((((Real.exp r : ℝ) : EReal)).toReal * _ : ℝ) : EReal)
    rw [EReal.toReal_coe, ← EReal.coe_mul]
    have e : Real.rpow 2 (r * (Real.log 2)⁻¹) = Real.exp r := by
      show (2 : ℝ) ^ (r * (Real.log 2)⁻¹) = Real.exp r
      rw [Real.rpow_def_of_pos (by norm_num), mul_comm r, ← mul_assoc, mul_inv_cancel₀ (Real.log_pos (by norm_num)).ne', one_mul]
    rw [e]

/-- The arguments as real numbers. -/
def reals : Reals where
  r b ch t := EReal.toReal (at4 (e := .fp8e4m3) (codes (m ((c : Thread nD τ).loc main_arg0))) b ch t)
  k b ch t := EReal.toReal (at4 (e := .fp8e4m3) (codes (m ((c : Thread nD τ).loc main_arg1))) b ch t)
  v b ch t := EReal.toReal (at4 (e := .fp8e4m3) (codes (m ((c : Thread nD τ).loc main_arg2))) b ch t)
  kk b ch t := EReal.toReal (at4 (e := .bf16) (m ((c : Thread nD τ).loc main_arg7)) b ch t)
  ic b ch t := EReal.toReal (at4 (e := .bf16) (m ((c : Thread nD τ).loc main_arg8)) b ch t)
  e2 b ch t := EReal.toReal (Ideal.exp (at4 (e := .bf16) (m ((c : Thread nD τ).loc main_arg6)) b ch t)) * (Real.log 2)⁻¹
  rs h b t := EReal.toReal (at3 (m ((c : Thread nD τ).loc main_arg3)) h b t)
  ks h b t := EReal.toReal (at3 (m ((c : Thread nD τ).loc main_arg4)) h b t)
  vs h b t := EReal.toReal (at3 (m ((c : Thread nD τ).loc main_arg5)) h b t)
  s0 b v ch := EReal.toReal (atS (m ((c : Thread nD τ).loc main_arg9)) b v ch)

/-- The blocks the kernel reads are the arguments' real numbers. -/
theorem blocks (hf : Finite m c) : Blocks m c (reals m c) where
  r t := funext fun i => (iblk_r m c t i).trans (hf.r _).symm
  k t := funext fun i => (iblk_k m c t i).trans (hf.k _).symm
  v t := funext fun i => (iblk_v m c t i).trans (hf.v _).symm
  rs t := funext fun i => (iblk_rs m c t i).trans (hf.rs _).symm
  ks t := funext fun i => (iblk_ks m c t i).trans (hf.ks _).symm
  vs t := funext fun i => (iblk_vs m c t i).trans (hf.vs _).symm
  e2 t i := (congrArg rateE (iblk_w m c t i)).trans (rateE_eq (hf.w _))
  kk t := funext fun i => (iblk_kk m c t i).trans (hf.kk _).symm
  ic t := funext fun i => (iblk_ic m c t i).trans (hf.ic _).symm
  s0 t := funext fun i => (iblk_s0 m c t i).trans (hf.s0 _).symm
  tri t := iblk_tri m c t

end Cert.KernelIdeal.M
-- ==== Proof.V.RefL.lean ====
/- The reference's loop on the arguments' real numbers. -/
module

public import proofs.«01_k».proof.Proof.V.Ref
public import proofs.«01_k».proof.Proof.V.RefW
public import proofs.«01_k».proof.Proof.V.Fin

@[expose] public section

set_option maxRecDepth 16384
set_option maxHeartbeats 4000000

noncomputable section

namespace Cert.ReferenceIdeal.V

open Idealize.ShloMosaic Idealize.ShloMosaic.TcCoe Cert.ReferenceIdeal Idealize.ShloMosaic.Tactic
open Cert.ReferenceIdeal.Step Finset
open Cert.KernelIdeal.M (Reals p2 stp trace at4 at3 atS IsR)

/-- A stream of real numbers, time first. -/
def tm (X : ℕ → ℕ → ℕ → ℝ) (t b h c : ℕ) : ℝ := X b (64 * h + c) t
/-- A stream times its scale, time first. -/
def tms (X s : ℕ → ℕ → ℕ → ℝ) (t b h c : ℕ) : ℝ := X b (64 * h + c) t * s h b t

variable (g : Reals)

/-- The decay factor. -/
def dec (t b h c : ℕ) : ℝ := p2 (0 - g.e2 b (64 * h + c) t)
/-- The removal vector. -/
def rem (t b h c : ℕ) : ℝ := -g.kk b (64 * h + c) t
/-- The write vector. -/
def wri (t b h c : ℕ) : ℝ := g.kk b (64 * h + c) t * g.ic b (64 * h + c) t
/-- The outputs, as the reference sums them. -/
def out (t b h v : ℕ) : ℝ := (∑ c ∈ range 64, g.σ b h (t + 1) v c * g.r b (64 * h + c) t) * g.rs h b t

/-- State number `n`. -/
def stn (n : ℕ) : State Ideal :=
  st (fun b h v c => g.σ b h n v c) (fun t b h v => if t < n then out g t b h v else 0)
    (tms g.r g.rs) (tms g.k g.ks) (tms g.v g.vs) (dec g) (rem g) (wri g)

theorem step_stn {n : ℕ} (hn : n < 2048) : step n (stn g n) = stn g (n + 1) := by
  have e : nx (fun b h v c => g.σ b h n v c) (tms g.k g.ks) (tms g.v g.vs) (dec g) (rem g) (wri g) n = fun b h v c => g.σ b h (n + 1) v c := by
    funext b h v c
    show _ = g.σ b h n v c * p2 (0 - g.e2 b (64 * h + c) n)
      + (∑ c' ∈ range 64, g.σ b h n v c' * -g.kk b (64 * h + c') n) * (g.kk b (64 * h + c) n * g.ic b (64 * h + c) n)
      + g.v b (64 * h + v) n * (g.ks h b n * g.vs h b n) * g.k b (64 * h + c) n
    unfold nx tms dec rem wri
    ring
  unfold stn
  rw [step_st _ _ _ _ _ _ _ _ hn, e]
  congr 1
  funext t b h v
  by_cases ht : t = n
  · subst ht
    rw [if_pos rfl, if_pos (Nat.lt_succ_self t)]
    unfold out tms
    rw [sum_mul]
    exact sum_congr rfl fun c _ => by ring
  · rw [if_neg ht]
    by_cases hl : t < n
    · rw [if_pos hl, if_pos (by omega)]
    · rw [if_neg hl, if_neg (by omega)]

/-- The states from the first on. -/
def it (s : State Ideal) : ℕ → State Ideal
  | 0 => s
  | n + 1 => step n (it s n)

theorem it_stn (s : State Ideal) (hs : s = stn g 0) : ∀ n, n ≤ 2048 → it s n = stn g n
  | 0, _ => hs
  | n + 1, h => by
    show step n (it s n) = _
    rw [it_stn s hs n (by omega)]
    exact step_stn g (by omega)

/-- The first result from the last state. -/
theorem out33 (i : S96x2048x12x64.Idx) : R_main_v33 (stn g 2048) i = ((g.y (i 0).val (64 * (i 2).val + (i 3).val) (i 1).val : ℝ) : EReal) := by
  have b1 : (i 1).val < 2048 := (i 1).isLt
  have b3 : (i 3).val < 64 := (i 3).isLt
  show transpose S96x2048x12x64 [1, 0, 2, 3] (stn g 2048).main_v31_8 _ i = _
  refine (transpose_apply _ _ _ _ (ix4 (n0 := 2048) (n1 := 96) (n2 := 12) (n3 := 64) (i 1) (i 0) (i 2) (i 3)) (fun b => match b with
    | ⟨0, _⟩ => rfl
    | ⟨1, _⟩ => rfl
    | ⟨2, _⟩ => rfl
    | ⟨3, _⟩ => rfl)).trans ?_
  show (((if (i 1).val < 2048 then out g (i 1).val (i 0).val (i 2).val (i 3).val else 0 : ℝ)) : EReal)
    = ((out g (i 1).val (i 0).val ((64 * (i 2).val + (i 3).val) / 64) ((64 * (i 2).val + (i 3).val) % 64) : ℝ) : EReal)
  rw [if_pos b1, show (64 * (i 2).val + (i 3).val) / 64 = (i 2).val by omega, show (64 * (i 2).val + (i 3).val) % 64 = (i 3).val by omega]

/-- The second result is the last state's. -/
theorem out31 (i : S96x12x64x64.Idx) : (stn g 2048).main_v31_7 i = ((g.σ (i 0).val (i 1).val 2048 (i 2).val (i 3).val : ℝ) : EReal) := rfl

/-- A stream entry found through its channel. -/
theorem at4_ix {e : EltTy} (x : Vec Ideal S96x2048x12x64 e) (b : Fin 96) (t : Fin 2048) (h : Fin 12) (c : Fin 64) :
    at4 x b.val (64 * h.val + c.val) t.val = x (ix4 b t h c) := by
  unfold at4
  have hb := b.isLt
  have ht := t.isLt
  have hh := h.isLt
  have hc := c.isLt
  rw [show Fin.ofNat 96 b.val = b from Fin.ext (Nat.mod_eq_of_lt hb), show Fin.ofNat 2048 t.val = t from Fin.ext (Nat.mod_eq_of_lt ht),
    show Fin.ofNat 12 ((64 * h.val + c.val) / 64) = h from Fin.ext (by show (64 * h.val + c.val) / 64 % 12 = h.val; omega),
    show Fin.ofNat 64 (64 * h.val + c.val) = c from Fin.ext (by show (64 * h.val + c.val) % 64 = c.val; omega)]

theorem at3_ix (x : FVec Ideal S96x2048x12 .f32) (b : Fin 96) (t : Fin 2048) (h : Fin 12) :
    at3 x h.val b.val t.val = x (ix3 b t h) := by
  unfold at3
  rw [show Fin.ofNat 96 b.val = b from Fin.ext (Nat.mod_eq_of_lt b.isLt), show Fin.ofNat 2048 t.val = t from Fin.ext (Nat.mod_eq_of_lt t.isLt),
    show Fin.ofNat 12 h.val = h from Fin.ext (Nat.mod_eq_of_lt h.isLt)]

theorem atS_ix (x : FVec Ideal S96x12x64x64 .f32) (b : Fin 96) (h : Fin 12) (v c : Fin 64) :
    atS x b.val v.val (64 * h.val + c.val) = x (ix4 b h v c) := by
  unfold atS
  have hh := h.isLt
  have hc := c.isLt
  rw [show Fin.ofNat 96 b.val = b from Fin.ext (Nat.mod_eq_of_lt b.isLt), show Fin.ofNat 64 v.val = v from Fin.ext (Nat.mod_eq_of_lt v.isLt),
    show Fin.ofNat 12 ((64 * h.val + c.val) / 64) = h from Fin.ext (by show (64 * h.val + c.val) / 64 % 12 = h.val; omega),
    show Fin.ofNat 64 (64 * h.val + c.val) = c from Fin.ext (by show (64 * h.val + c.val) % 64 = c.val; omega)]

end Cert.ReferenceIdeal.V
-- ==== Proof.V.RefI.lean ====
/- The state the reference's loop starts from, as real numbers. -/
module

public import proofs.«01_k».proof.Proof.V.RefL

@[expose] public section

set_option maxRecDepth 16384
set_option maxHeartbeats 4000000

noncomputable section

namespace Cert.ReferenceIdeal.V

open Idealize.ShloMosaic Idealize.ShloMosaic.TcCoe Cert.ReferenceIdeal Idealize.ShloMosaic.Tactic
open Cert.ReferenceIdeal.Step Finset
open Cert.KernelIdeal.M (Reals p2 at4 at3 atS IsR codes reals)

/-- The reference's decay is the power of two the kernel takes, also where the logarithm is minus infinity. -/
theorem dec_eq (x : EReal) (hx : x ≠ ⊤) :
    Ideal.exp (-(Ideal.exp x)) = ((p2 (0 - EReal.toReal (Ideal.exp x) * (Real.log 2)⁻¹) : ℝ) : EReal) := by
  have hl : Real.log 2 ≠ 0 := (Real.log_pos (by norm_num)).ne'
  have key : ∀ r : ℝ, Real.exp (-r) = p2 (0 - r * (Real.log 2)⁻¹) := by
    intro r
    show _ = (2 : ℝ) ^ (0 - r * (Real.log 2)⁻¹)
    rw [Real.rpow_def_of_pos (by norm_num)]
    congr 1
    field_simp
    ring
  obtain ⟨r, hr⟩ : ∃ r : ℝ, Ideal.exp x = (r : EReal) := by
    induction x with
    | top => exact absurd rfl hx
    | bot => exact ⟨0, by simp⟩
    | coe r => exact ⟨Real.exp r, by simp⟩
  rw [hr, EReal.toReal_coe, ← key, ← EReal.coe_neg]
  exact Ideal.exp_coe _

/-- A stream with time first, at an index. -/
theorem tr4 {φ : FTy} (x : FVec Ideal S96x2048x12x64 φ) (h : S96x2048x12x64.Transposes [1, 0, 2, 3] S2048x96x12x64) (i : S2048x96x12x64.Idx) :
    transpose S2048x96x12x64 [1, 0, 2, 3] x h i = x (ix4 (i 1) (i 0) (i 2) (i 3)) :=
  transpose_apply _ x h i (ix4 (i 1) (i 0) (i 2) (i 3)) fun b => match b with
    | ⟨0, _⟩ => rfl
    | ⟨1, _⟩ => rfl
    | ⟨2, _⟩ => rfl
    | ⟨3, _⟩ => rfl

/-- A scale with time first and spread over the channels, at an index. -/
theorem tr3 {φ : FTy} (x : FVec Ideal S96x2048x12 φ) (h : S96x2048x12.Transposes [1, 0, 2] S2048x96x12)
    (h1 : S2048x96x12.BroadcastsInDim S2048x96x12x1 ![0, 1, 2]) (h2 : S2048x96x12x1.BroadcastsInDim S2048x96x12x64 ![0, 1, 2, 3]) (i : S2048x96x12x64.Idx) :
    broadcastInDim S2048x96x12x64 ![0, 1, 2, 3] h2 (broadcastInDim S2048x96x12x1 ![0, 1, 2] h1 (transpose S2048x96x12 [1, 0, 2] x h)) i = x (ix3 (i 1) (i 0) (i 2)) :=
  transpose_apply _ x h _ (ix3 (i 1) (i 0) (i 2)) fun b => match b with
    | ⟨0, _⟩ => rfl
    | ⟨1, _⟩ => rfl
    | ⟨2, _⟩ => rfl

variable (m : (ℓ : Loc Cert.KernelIdeal.nD Cert.KernelIdeal.τ Cert.KernelIdeal.sig) → Buf (Elt Ideal) ℓ) (c : Dev Cert.KernelIdeal.nD)
variable (hf : Cert.KernelIdeal.M.Finite m c)

include hf

theorem init_r : A_main_v8 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (tms (reals m c).r (reals m c).rs) : FVec Ideal S2048x96x12x64 .f32) := by
  funext i
  refine Eq.trans (b := (codes (m ((c : Thread Cert.KernelIdeal.nD Cert.KernelIdeal.τ).loc Cert.KernelIdeal.main_arg0)) (ix4 (i 1) (i 0) (i 2) (i 3)) * (m ((c : Thread Cert.KernelIdeal.nD Cert.KernelIdeal.τ).loc Cert.KernelIdeal.main_arg3)) (ix3 (i 1) (i 0) (i 2)) : EReal)) ?_ ?_
  · exact congrArg₂ (fun a b : EReal => a * b) (tr4 (φ := .f32) (wide (m ((c : Thread Cert.KernelIdeal.nD Cert.KernelIdeal.τ).loc Cert.KernelIdeal.main_arg0))) _ i) (tr3 (φ := .f32) (m ((c : Thread Cert.KernelIdeal.nD Cert.KernelIdeal.τ).loc Cert.KernelIdeal.main_arg3)) _ _ _ i)
  rw [← hf.r (ix4 (i 1) (i 0) (i 2) (i 3)), ← hf.rs (ix3 (i 1) (i 0) (i 2)), ← at4_ix (e := .fp8e4m3) (codes (m ((c : Thread Cert.KernelIdeal.nD Cert.KernelIdeal.τ).loc Cert.KernelIdeal.main_arg0))) (i 1) (i 0) (i 2) (i 3), ← at3_ix (m ((c : Thread Cert.KernelIdeal.nD Cert.KernelIdeal.τ).loc Cert.KernelIdeal.main_arg3)) (i 1) (i 0) (i 2), ← EReal.coe_mul]
  rfl

theorem init_k : A_main_v13 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (tms (reals m c).k (reals m c).ks) : FVec Ideal S2048x96x12x64 .f32) := by
  funext i
  refine Eq.trans (b := (codes (m ((c : Thread Cert.KernelIdeal.nD Cert.KernelIdeal.τ).loc Cert.KernelIdeal.main_arg1)) (ix4 (i 1) (i 0) (i 2) (i 3)) * (m ((c : Thread Cert.KernelIdeal.nD Cert.KernelIdeal.τ).loc Cert.KernelIdeal.main_arg4)) (ix3 (i 1) (i 0) (i 2)) : EReal)) ?_ ?_
  · exact congrArg₂ (fun a b : EReal => a * b) (tr4 (φ := .f32) (wide (m ((c : Thread Cert.KernelIdeal.nD Cert.KernelIdeal.τ).loc Cert.KernelIdeal.main_arg1))) _ i) (tr3 (φ := .f32) (m ((c : Thread Cert.KernelIdeal.nD Cert.KernelIdeal.τ).loc Cert.KernelIdeal.main_arg4)) _ _ _ i)
  rw [← hf.k (ix4 (i 1) (i 0) (i 2) (i 3)), ← hf.ks (ix3 (i 1) (i 0) (i 2)), ← at4_ix (e := .fp8e4m3) (codes (m ((c : Thread Cert.KernelIdeal.nD Cert.KernelIdeal.τ).loc Cert.KernelIdeal.main_arg1))) (i 1) (i 0) (i 2) (i 3), ← at3_ix (m ((c : Thread Cert.KernelIdeal.nD Cert.KernelIdeal.τ).loc Cert.KernelIdeal.main_arg4)) (i 1) (i 0) (i 2), ← EReal.coe_mul]
  rfl

theorem init_v : A_main_v18 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (tms (reals m c).v (reals m c).vs) : FVec Ideal S2048x96x12x64 .f32) := by
  funext i
  refine Eq.trans (b := (codes (m ((c : Thread Cert.KernelIdeal.nD Cert.KernelIdeal.τ).loc Cert.KernelIdeal.main_arg2)) (ix4 (i 1) (i 0) (i 2) (i 3)) * (m ((c : Thread Cert.KernelIdeal.nD Cert.KernelIdeal.τ).loc Cert.KernelIdeal.main_arg5)) (ix3 (i 1) (i 0) (i 2)) : EReal)) ?_ ?_
  · exact congrArg₂ (fun a b : EReal => a * b) (tr4 (φ := .f32) (wide (m ((c : Thread Cert.KernelIdeal.nD Cert.KernelIdeal.τ).loc Cert.KernelIdeal.main_arg2))) _ i) (tr3 (φ := .f32) (m ((c : Thread Cert.KernelIdeal.nD Cert.KernelIdeal.τ).loc Cert.KernelIdeal.main_arg5)) _ _ _ i)
  rw [← hf.v (ix4 (i 1) (i 0) (i 2) (i 3)), ← hf.vs (ix3 (i 1) (i 0) (i 2)), ← at4_ix (e := .fp8e4m3) (codes (m ((c : Thread Cert.KernelIdeal.nD Cert.KernelIdeal.τ).loc Cert.KernelIdeal.main_arg2))) (i 1) (i 0) (i 2) (i 3), ← at3_ix (m ((c : Thread Cert.KernelIdeal.nD Cert.KernelIdeal.τ).loc Cert.KernelIdeal.main_arg5)) (i 1) (i 0) (i 2), ← EReal.coe_mul]
  rfl

theorem init_w : A_main_v23 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (dec (reals m c)) : FVec Ideal S2048x96x12x64 .f32) := by
  funext i
  refine (congrArg (fun x : EReal => Ideal.exp (-(Ideal.exp x))) (tr4 (φ := .bf16) (m ((c : Thread Cert.KernelIdeal.nD Cert.KernelIdeal.τ).loc Cert.KernelIdeal.main_arg6)) _ i)).trans ?_
  rw [dec_eq _ (hf.w _), ← at4_ix (e := .bf16) (m ((c : Thread Cert.KernelIdeal.nD Cert.KernelIdeal.τ).loc Cert.KernelIdeal.main_arg6)) (i 1) (i 0) (i 2) (i 3)]
  rfl

theorem init_a : A_main_v26 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (rem (reals m c)) : FVec Ideal S2048x96x12x64 .f32) := by
  funext i
  refine (congrArg (fun x : EReal => -x) (tr4 (φ := .bf16) (m ((c : Thread Cert.KernelIdeal.nD Cert.KernelIdeal.τ).loc Cert.KernelIdeal.main_arg7)) _ i)).trans ?_
  rw [← hf.kk (ix4 (i 1) (i 0) (i 2) (i 3)), ← at4_ix (e := .bf16) (m ((c : Thread Cert.KernelIdeal.nD Cert.KernelIdeal.τ).loc Cert.KernelIdeal.main_arg7)) (i 1) (i 0) (i 2) (i 3), ← EReal.coe_neg]
  rfl

theorem init_b : A_main_v29 (F := Ideal) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = (r4 (wri (reals m c)) : FVec Ideal S2048x96x12x64 .f32) := by
  funext i
  refine (congrArg₂ (fun a b : EReal => a * b) (tr4 (φ := .bf16) (m ((c : Thread Cert.KernelIdeal.nD Cert.KernelIdeal.τ).loc Cert.KernelIdeal.main_arg7)) _ i) (tr4 (φ := .bf16) (m ((c : Thread Cert.KernelIdeal.nD Cert.KernelIdeal.τ).loc Cert.KernelIdeal.main_arg8)) _ i)).trans ?_
  rw [← hf.kk (ix4 (i 1) (i 0) (i 2) (i 3)), ← hf.ic (ix4 (i 1) (i 0) (i 2) (i 3)), ← at4_ix (e := .bf16) (m ((c : Thread Cert.KernelIdeal.nD Cert.KernelIdeal.τ).loc Cert.KernelIdeal.main_arg7)) (i 1) (i 0) (i 2) (i 3),
    ← at4_ix (e := .bf16) (m ((c : Thread Cert.KernelIdeal.nD Cert.KernelIdeal.τ).loc Cert.KernelIdeal.main_arg8)) (i 1) (i 0) (i 2) (i 3), ← EReal.coe_mul]
  rfl

theorem init_s : (m ((c : Thread Cert.KernelIdeal.nD Cert.KernelIdeal.τ).loc Cert.KernelIdeal.main_arg9)) = (r4 (fun b h v ch => (reals m c).σ b h 0 v ch) : FVec Ideal S96x12x64x64 .f32) := by
  funext i
  have e : (m ((c : Thread Cert.KernelIdeal.nD Cert.KernelIdeal.τ).loc Cert.KernelIdeal.main_arg9)) i = (m ((c : Thread Cert.KernelIdeal.nD Cert.KernelIdeal.τ).loc Cert.KernelIdeal.main_arg9)) (ix4 (i 0) (i 1) (i 2) (i 3)) := congrArg _ (by
    funext a
    match a with
    | ⟨0, _⟩ => rfl
    | ⟨1, _⟩ => rfl
    | ⟨2, _⟩ => rfl
    | ⟨3, _⟩ => rfl)
  rw [e, ← hf.s0 (ix4 (i 0) (i 1) (i 2) (i 3)), ← atS_ix (m ((c : Thread Cert.KernelIdeal.nD Cert.KernelIdeal.τ).loc Cert.KernelIdeal.main_arg9)) (i 0) (i 1) (i 2) (i 3)]
  rfl

omit hf in
theorem init_y : K_main_v30 (F := Ideal) = (r4 (fun t b h v => if t < 0 then out (reals m c) t b h v else 0) : FVec Ideal S2048x96x12x64 .f32) := by
  funext i
  show Ideal.ofBits .f32 0x00000000#32 = ((0 : ℝ) : EReal)
  simp [Ideal.ofBits, Ideal.ieee]

/-- The loop starts from state number zero. -/
theorem init_stn : Step.init (F := Ideal) (m ((c : Thread Cert.KernelIdeal.nD Cert.KernelIdeal.τ).loc Cert.KernelIdeal.main_arg9)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (wide (m ((c : Thread Cert.KernelIdeal.nD Cert.KernelIdeal.τ).loc Cert.KernelIdeal.main_arg0))) (wide (m ((c : Thread Cert.KernelIdeal.nD Cert.KernelIdeal.τ).loc Cert.KernelIdeal.main_arg1))) (wide (m ((c : Thread Cert.KernelIdeal.nD Cert.KernelIdeal.τ).loc Cert.KernelIdeal.main_arg2))) = stn (reals m c) 0 := by
  unfold Step.init stn st
  rw [init_r m c hf, init_k m c hf, init_v m c hf, init_w m c hf, init_a m c hf, init_b m c hf, init_y m c]
  rw [← init_s m c hf]

end Cert.ReferenceIdeal.V
-- ==== Proof.Alg.lean ====
/- The algebraic claim: kernel and reference give the same results at the exact instance. -/
module

public import proofs.«01_k».proof.Proof.V.RefI
public import proofs.«01_k».proof.Proof.V.Grid
public import proofs.«01_k».proof.Proof.Gen.ReferenceIdeal

@[expose] public section

set_option maxRecDepth 16384
set_option maxHeartbeats 4000000

noncomputable section

namespace Cert.Proof

open Idealize.ShloMosaic Idealize.ShloMosaic.TcCoe
open Cert.KernelIdeal.M (reals blocks finite_of_pre O11_eq O12_eq)
open Cert.ReferenceIdeal.V (init_eq init_stn it it_stn stn out33 out31)

theorem algebraic : Cert.algebraic_KernelIdeal_ReferenceIdeal_pre_finite := by
  intro m g m' g' hp ha
  refine ⟨fun c => Cert.KernelIdeal.Value.O11 m c, fun c => Cert.KernelIdeal.Value.O12 m c, Cert.KernelIdeal.Value.run m g, ?_⟩
  have hf : ∀ c, Cert.KernelIdeal.M.Finite m c := fun c => finite_of_pre m c hp
  have h0 : ∀ c, Cert.ReferenceIdeal.StepRun.initState m' g' c = stn (reals m c) 0 := by
    intro c
    obtain ⟨a0, a1, a2, a3, a4, a5, a6, a7, a8, a9⟩ := ha c
    rw [init_eq]
    refine Eq.trans ?_ (init_stn m c (hf c))
    rw [a0, a1, a2, a3, a4, a5, a6, a7, a8, a9]
  have hl : ∀ c, it (Cert.ReferenceIdeal.StepRun.initState m' g' c) 2048 = stn (reals m c) 2048 :=
    fun c => it_stn (reals m c) _ (h0 c) 2048 le_rfl
  refine (θ_run _ _ _).mono (fun r h c => ?_) (Cert.ReferenceIdeal.StepRun.run_iter m' g'
    (fun c => it (Cert.ReferenceIdeal.StepRun.initState m' g' c)) (fun c => rfl) (fun c n => rfl))
  obtain ⟨r0, r1, hargs⟩ := h c
  refine ⟨r0.trans ?_, r1.trans ?_, hargs⟩
  · show Cert.ReferenceIdeal.Step.R_main_v33 (it _ 2048) = _
    rw [hl c]
    funext i
    exact (out33 (reals m c) i).trans (O11_eq (m := m) (c := c) (g := reals m c) (blocks m c (hf c)) i).symm
  · show (it _ 2048).main_v31_7 = _
    rw [hl c]
    funext i
    exact (out31 (reals m c) i).trans (O12_eq (m := m) (c := c) (g := reals m c) (blocks m c (hf c)) i).symm

end Cert.Proof
-- ==== Proof.K.Indep.lean ====
/- One trip of the loop stores into the window of `y` without reading it: the pieces a trip stores, and with them all the
   pieces of the trips before any trip, do not depend on what that window held at loop entry. -/
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (v3 : IVec S128x128 32) (v6 : IVec S128x128 1) (v22 : IVec S128x128 32) (v64 : IVec S128x128 1) (v66 : IVec S128x128 32) (v68 : IVec S128x128 32) (v82 : IVec S128x128 1) (v86 : IVec S128x128 1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty)

/-- A trip's pieces do not depend on what the window of `y` holds. -/
theorem tripL_indep (k : Fin k0_t1_loop.trips) (f f' : BufTy.Contents (Elt F) arg14.view.ty) (g : BufTy.Contents (Elt F) arg16.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f g
      = tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 k f' g := by
  unfold tripL_k0_t1 trip_k0_t1
  rfl

/-- The pieces of the trips before `k` do not depend on what the window of `y` held at loop entry. -/
theorem pb_indep (G G' : BufTy.Contents (Elt F) arg14.view.ty) (H : BufTy.Contents (Elt F) arg16.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 G H k
      = pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v3 v6 v22 v64 v66 v68 v82 v86 X_arg3 X_arg4 X_arg5 X_arg6 X_arg7 X_arg8 X_arg9 X_arg10 X_arg11 X_arg13 G' H k := by
  induction k with
  | zero => rfl
  | succ k ih =>
    rw [pb_k0_t1.eq_2, pb_k0_t1.eq_2, ih]
    unfold pb_k0_t1Step
    split
    · rw [tripL_indep (f := arg14.view.writes (Elt F) G _) (f' := arg14.view.writes (Elt F) G' _)]
    · rfl

end Cert.Kernel.Gen

end
-- ==== Proof.K.RunA.lean ====
/- The whole body's run in case A of its conditionals, the pieces it leaves found by execution. Taken from the generated
   frame text; what differs is the step that states the pieces independently of what the output window held before. -/
module

public import proofs.«01_k».proof.Proof.K.Indep
public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 560: 36 of 576), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) :
    Σ' (L11 : List (View.Piece (Elt F) S8x256x128 .bf16)), Σ' (L12 : List (View.Piece (Elt F) S8x64x256 .f32)), { LS0 : List (View.Piece (Elt F) S8x64x256 .f32) //
      ∀ (xi12 : Vec F S8x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12
    sl_exec (disch := first | sl_exact hc0 | sl_exact hc1)
    sl_step
    iapply Hk
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.Kernel.Gen

end
-- ==== Proof.K.RunB.lean ====
/- The whole body's run in case B of its conditionals, the pieces it leaves found by execution. Taken from the generated
   frame text; what differs is the step that states the pieces independently of what the output window held before. -/
module

public import proofs.«01_k».proof.Proof.K.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 574: 504 of 576), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) :
    Σ' (L11 : List (View.Piece (Elt F) S8x256x128 .bf16)), Σ' (L12 : List (View.Piece (Elt F) S8x64x256 .f32)), { LS0 : List (View.Piece (Elt F) S8x64x256 .f32) //
      ∀ (xi12 : Vec F S8x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12; obtain rfl := harg16.eq_unread hfs0
    sl_exec (disch := first | sl_exact hc0 | sl_exact hc1)
    sl_step
    iapply Hk
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.Kernel.Gen

end
-- ==== Proof.K.RunC.lean ====
/- The whole body's run in case C of its conditionals, the pieces it leaves found by execution. Taken from the generated
   frame text; what differs is the step that states the pieces independently of what the output window held before. -/
module

public import proofs.«01_k».proof.Proof.K.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 575: 36 of 576), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) :
    Σ' (L11 : List (View.Piece (Elt F) S8x256x128 .bf16)), Σ' (L12 : List (View.Piece (Elt F) S8x64x256 .f32)), { LS0 : List (View.Piece (Elt F) S8x64x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f LS0)) -∗ K ⟨⟩))
          ⊢ wp frame (wpE (defs₀ (F := F)) Variants.none c none) E (cc0_rwkv7_chunked i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_rwkv7_chunked_eq_skeleton]; unfold cc0_rwkv7_chunked_skel
    simp only [k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg16.eq_unread hfs0
    sl_exec (disch := first | sl_exact hc0 | sl_exact hc1)
    sl_step
    iapply Hk
    delta kernelRun0_C.sl.v97
    rw [pb_indep (G := f11) (G' := arg14.view.junk)]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]; · iexists _; iexact H12
    iexists _; iexact HS0

end Cert.Kernel.Gen

end
-- ==== Proof.K.Frame.lean ====
/- What each grid point leaves in the outputs and in the carried scratch, the run of the whole program, and the
   frame claim, over the hand copies of the case runs (RunA, RunB, RunC). -/
module

public import proofs.«01_k».proof.Proof.K.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (32 stores of `S1x64x128`, checked by the kernel's evaluation: Lib/Ring.lean `Piece.tiledL`, linear in the pieces, through a loop's `@[irreducible]` trip theorem too), so they cover it. -/
theorem cover0_A_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (y : S8x256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1 S1x64x128.size (by sl_kernel_rfl) y

/-- What case A leaves in output 11's staging buffer: its pieces read back over junk. -/
def out0_A_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x256x128 .bf16 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1)

/-- Case A stores nothing into output 12 (the window is idle at its points and not written back there):
    no pieces — a placeholder (junk read back) that nothing consults, since at these points the window is neither
    written back nor read at the next point (Lib/Pipeline.lean "Idle points"). -/
def out0_A_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x64x256 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1)

/-- Case A's pieces for scratch `arg16`, which the kernel carries between points, cover it: one of them a store of the WHOLE buffer (Lib/Ring.lean `sl_whole_mem`). -/
theorem scover0_A_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (y : S8x64x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 (by sl_whole_mem) y

/-- What case A leaves in scratch `arg16`: its pieces read back over junk. -/
def sout0_A_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) : Vec F S8x64x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1)

/-- Case B's pieces for output 11 tile its block (32 stores of `S1x64x128`, checked by the kernel's evaluation: Lib/Ring.lean `Piece.tiledL`, linear in the pieces, through a loop's `@[irreducible]` trip theorem too), so they cover it. -/
theorem cover0_B_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S1x64x128.size (by sl_kernel_rfl) y

/-- What case B leaves in output 11's staging buffer: its pieces read back over junk. -/
def out0_B_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x256x128 .bf16 :=
  VO0_11.read (Elt F) (VO0_11.writes (Elt F) VO0_11.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case B stores nothing into output 12 (the window is idle at its points and not written back there):
    no pieces — a placeholder (junk read back) that nothing consults, since at these points the window is neither
    written back nor read at the next point (Lib/Pipeline.lean "Idle points"). -/
def out0_B_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case B's pieces for scratch `arg16`, which the kernel carries between points, cover it: 16 pieces of `S1x64x128` tiling it (Lib/Ring.lean `Piece.tiledL`). -/
theorem scover0_B_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x64x128.size (by sl_kernel_rfl) y

/-- What case B leaves in scratch `arg16`: its pieces read back over junk. -/
def sout0_B_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : ¬cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-- Case C's pieces for output 11 tile its block (32 stores of `S1x64x128`, checked by the kernel's evaluation: Lib/Ring.lean `Piece.tiledL`, linear in the pieces, through a loop's `@[irreducible]` trip theorem too), so they cover it. -/
theorem cover0_C_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S1x64x128.size (by sl_kernel_rfl) y

/-- What case C leaves in output 11's staging buffer: its pieces read back over junk. -/
def out0_C_11 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x256x128 .bf16 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case C's pieces for output 12 tile its block (1 store of `S8x64x256`, checked by the kernel's evaluation: Lib/Ring.lean `Piece.tiledL`, linear in the pieces, through a loop's `@[irreducible]` trip theorem too), so they cover it. -/
theorem cover0_C_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1 S8x64x256.size (by sl_kernel_rfl) y

/-- What case C leaves in output 12's staging buffer: its pieces read back over junk. -/
def out0_C_12 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case C's pieces for scratch `arg16`, which the kernel carries between points, cover it: 16 pieces of `S1x64x128` tiling it (Lib/Ring.lean `Piece.tiledL`). -/
theorem scover0_C_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) (y : S8x64x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x64x128.size (by sl_kernel_rfl) y

/-- What case C leaves in scratch `arg16`: its pieces read back over junk. -/
def sout0_C_0 (c : Dev nD) (i : grid0.Coords) (arg3 : Memref sig .tc .vmem S8x256x128 .fp8e4m3) (harg3 : arg3.IsWhole) (arg4 : Memref sig .tc .vmem S8x256x128 .fp8e4m3) (harg4 : arg4.IsWhole) (arg5 : Memref sig .tc .vmem S8x256x128 .fp8e4m3) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S8x256x128 .bf16) (harg9 : arg9.IsWhole) (arg10 : Memref sig .tc .vmem S8x256x128 .bf16) (harg10 : arg10.IsWhole) (arg11 : Memref sig .tc .vmem S8x256x128 .bf16) (harg11 : arg11.IsWhole) (arg12 : Memref sig .tc .vmem S8x64x256 .f32) (harg12 : arg12.IsWhole) (arg13 : Memref sig .tc .vmem S384x128 .bf16) (harg13 : arg13.IsWhole) (arg14 : Memref sig .tc .vmem S8x256x128 .bf16) (harg14 : arg14.IsWhole) (arg15 : Memref sig .tc .vmem S8x64x256 .f32) (harg15 : arg15.IsWhole) (arg16 : Memref sig .tc .vmem S8x64x256 .f32) (harg16 : arg16.IsWhole) (hc0 : ¬cond0_0 i) (hc1 : cond0_1 i)
    (x0 : Vec F S8x256x128 .fp8e4m3) (x1 : Vec F S8x256x128 .fp8e4m3) (x2 : Vec F S8x256x128 .fp8e4m3) (x3 : Vec F S4x8x128 .f32) (x4 : Vec F S4x8x128 .f32) (x5 : Vec F S4x8x128 .f32) (x6 : Vec F S8x256x128 .bf16) (x7 : Vec F S8x256x128 .bf16) (x8 : Vec F S8x256x128 .bf16) (x9 : Vec F S8x64x256 .f32) (x10 : Vec F S384x128 .bf16) (xs0 : Vec F S8x64x256 .f32) : Vec F S8x64x256 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x256x128 .bf16 × Vec F S8x64x256 .f32 × Vec F S8x64x256 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 16 = 0 then
      if h1 : (n + 1) % 16 = 15 then
        False.elim (by have hN : n + 1 < 576 := lt_of_lt_of_eq hn (show cfg0.N = 576 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 16 = 15 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)
      else
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 576 := lt_of_lt_of_eq t.isLt (show cfg0.N = 576 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
      · rw [PhiS_castSucc m c t, PhiS_pos m c _ _ hz]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexists _; iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 576 := lt_of_lt_of_eq t.isLt (show cfg0.N = 576 from N_0); omega
      · rw [PhiS_castSucc m c t, PhiS_pos m c _ _ hz]
        rw [outsAt0_C m c t h0 h1]
        unfold out0_C_11 out0_C_12 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        iintro ⟨H0, H1, H2, H3, H4, H5, H6, H7, H8, H9, H10, ⟨%e11, H11⟩, ⟨%e12, H12⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 576 := lt_of_lt_of_eq t.isLt (show cfg0.N = 576 from N_0); omega
      · rw [PhiS_castSucc m c t, PhiS_pos m c _ _ hz]
        rw [outsAt0_B m c t h0 h1]
        unfold out0_B_11 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 576 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := sfx_sub) (hfresh := sfx_fresh) (hkeep := sfx_keeps) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (`FramePost`, `afterTail₀`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.Gen.ReferenceIdeal.Run
public import proofs.«01_k».proof.Proof.Gen.ReferenceIdeal.Step
public import proofs.«01_k».proof.Proof.Alg
public import proofs.«01_k».proof.Proof.K.Frame
public import proofs.«01_k».proof.Proof.KI.Frame
public import Idealize.ShloMosaic.Adequacy
public import Idealize.ShloMosaic.Init

@[expose] public section

noncomputable section

namespace Cert.Proof

open Idealize.ShloMosaic Idealize.SL.Sem

/-- The constant `log2 e` read as an exact real is the one the ideal program names. -/
theorem preserves : Cert.preserves_Kernel_KernelIdeal :=
  IdealRules.named_const.statement Cert.KernelIdeal.κ "log2e" .f32 0x3FB8AA3B#32
    (((Real.log 2)⁻¹ : ℝ) : EReal) rfl

theorem claim : Cert.Claim :=
  ⟨Cert.Kernel.Gen.facts,
   Cert.KernelIdeal.Gen.facts,
   Cert.ReferenceIdeal.Gen.facts,
   Cert.Pre_finite.Gen.facts,
   fun m ρ _ => Cert.Kernel.Gen.frame m ρ,
   fun m ρ _ => Cert.KernelIdeal.Gen.frame m ρ,
   fun m ρ _ => Cert.KernelIdeal.Gen.frame m ρ,
   fun m ρ _ => Cert.ReferenceIdeal.Gen.frame m ρ,
   fun m ρ _ => Cert.ReferenceIdeal.Gen.frame m ρ,
   preserves,
   Cert.Proof.algebraic⟩

end Cert.Proof

end
